-- ==== Defs.lean ====
def Pre_Band0 (m : (ℓ : Loc Cert.Band0.nD Cert.Band0.τ Cert.Band0.sig) → Buf (Elt Bits) ℓ) : Prop :=
  True

def Pre_Band0Ideal (m : (ℓ : Loc Cert.Band0Ideal.nD Cert.Band0Ideal.τ Cert.Band0Ideal.sig) → Buf (Elt Ideal) ℓ) : Prop :=
  True

def Pre_Band0Ideal_finite_gains [hPre_finite_gains : Cert.Pre_finite_gains.Facts] (m : (ℓ : Loc Cert.Band0Ideal.nD Cert.Band0Ideal.τ Cert.Band0Ideal.sig) → Buf (Elt Ideal) ℓ) : Prop :=
  ∀ c : Dev Cert.Band0Ideal.nD,
    (Cert.Pre_finite_gains.fn (F := Ideal) (m ((c.tc : Thread Cert.Band0Ideal.nD Cert.Band0Ideal.τ).loc Cert.Band0Ideal.main_arg0)) (m ((c.tc : Thread Cert.Band0Ideal.nD Cert.Band0Ideal.τ).loc Cert.Band0Ideal.main_arg1)) (m ((c.tc : Thread Cert.Band0Ideal.nD Cert.Band0Ideal.τ).loc Cert.Band0Ideal.main_arg2))) = (fun _ => 1#1)

def Pre_Band0RefIdeal (m : (ℓ : Loc Cert.Band0RefIdeal.nD Cert.Band0RefIdeal.τ Cert.Band0RefIdeal.sig) → Buf (Elt Ideal) ℓ) : Prop :=
  True

def Pre_Band0RefIdeal_finite_gains [hPre_finite_gains : Cert.Pre_finite_gains.Facts] (m : (ℓ : Loc Cert.Band0RefIdeal.nD Cert.Band0RefIdeal.τ Cert.Band0RefIdeal.sig) → Buf (Elt Ideal) ℓ) : Prop :=
  ∀ c : Dev Cert.Band0RefIdeal.nD,
    (Cert.Pre_finite_gains.fn (F := Ideal) (m ((c.tc : Thread Cert.Band0RefIdeal.nD Cert.Band0RefIdeal.τ).loc Cert.Band0RefIdeal.main_arg0)) (m ((c.tc : Thread Cert.Band0RefIdeal.nD Cert.Band0RefIdeal.τ).loc Cert.Band0RefIdeal.main_arg1)) (m ((c.tc : Thread Cert.Band0RefIdeal.nD Cert.Band0RefIdeal.τ).loc Cert.Band0RefIdeal.main_arg2))) = (fun _ => 1#1)

def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1Ideal_finite_gains [hPre_finite_gains : Cert.Pre_finite_gains.Facts] (m : (ℓ : Loc Cert.Band1Ideal.nD Cert.Band1Ideal.τ Cert.Band1Ideal.sig) → Buf (Elt Ideal) ℓ) : Prop :=
  ∀ c : Dev Cert.Band1Ideal.nD,
    (Cert.Pre_finite_gains.fn (F := Ideal) (m ((c.tc : Thread Cert.Band1Ideal.nD Cert.Band1Ideal.τ).loc Cert.Band1Ideal.main_arg0)) (m ((c.tc : Thread Cert.Band1Ideal.nD Cert.Band1Ideal.τ).loc Cert.Band1Ideal.main_arg1)) (m ((c.tc : Thread Cert.Band1Ideal.nD Cert.Band1Ideal.τ).loc Cert.Band1Ideal.main_arg2))) = (fun _ => 1#1)

def Pre_Band1RefIdeal (m : (ℓ : Loc Cert.Band1RefIdeal.nD Cert.Band1RefIdeal.τ Cert.Band1RefIdeal.sig) → Buf (Elt Ideal) ℓ) : Prop :=
  True

def Pre_Band1RefIdeal_finite_gains [hPre_finite_gains : Cert.Pre_finite_gains.Facts] (m : (ℓ : Loc Cert.Band1RefIdeal.nD Cert.Band1RefIdeal.τ Cert.Band1RefIdeal.sig) → Buf (Elt Ideal) ℓ) : Prop :=
  ∀ c : Dev Cert.Band1RefIdeal.nD,
    (Cert.Pre_finite_gains.fn (F := Ideal) (m ((c.tc : Thread Cert.Band1RefIdeal.nD Cert.Band1RefIdeal.τ).loc Cert.Band1RefIdeal.main_arg0)) (m ((c.tc : Thread Cert.Band1RefIdeal.nD Cert.Band1RefIdeal.τ).loc Cert.Band1RefIdeal.main_arg1)) (m ((c.tc : Thread Cert.Band1RefIdeal.nD Cert.Band1RefIdeal.τ).loc Cert.Band1RefIdeal.main_arg2))) = (fun _ => 1#1)

def Pre_Band2 (m : (ℓ : Loc Cert.Band2.nD Cert.Band2.τ Cert.Band2.sig) → Buf (Elt Bits) ℓ) : Prop :=
  True

def Pre_Band2Ideal (m : (ℓ : Loc Cert.Band2Ideal.nD Cert.Band2Ideal.τ Cert.Band2Ideal.sig) → Buf (Elt Ideal) ℓ) : Prop :=
  True

def Pre_Band2Ideal_finite_gains [hPre_finite_gains : Cert.Pre_finite_gains.Facts] (m : (ℓ : Loc Cert.Band2Ideal.nD Cert.Band2Ideal.τ Cert.Band2Ideal.sig) → Buf (Elt Ideal) ℓ) : Prop :=
  ∀ c : Dev Cert.Band2Ideal.nD,
    (Cert.Pre_finite_gains.fn (F := Ideal) (m ((c.tc : Thread Cert.Band2Ideal.nD Cert.Band2Ideal.τ).loc Cert.Band2Ideal.main_arg0)) (m ((c.tc : Thread Cert.Band2Ideal.nD Cert.Band2Ideal.τ).loc Cert.Band2Ideal.main_arg1)) (m ((c.tc : Thread Cert.Band2Ideal.nD Cert.Band2Ideal.τ).loc Cert.Band2Ideal.main_arg2))) = (fun _ => 1#1)

def Pre_Band2RefIdeal (m : (ℓ : Loc Cert.Band2RefIdeal.nD Cert.Band2RefIdeal.τ Cert.Band2RefIdeal.sig) → Buf (Elt Ideal) ℓ) : Prop :=
  True

def Pre_Band2RefIdeal_finite_gains [hPre_finite_gains : Cert.Pre_finite_gains.Facts] (m : (ℓ : Loc Cert.Band2RefIdeal.nD Cert.Band2RefIdeal.τ Cert.Band2RefIdeal.sig) → Buf (Elt Ideal) ℓ) : Prop :=
  ∀ c : Dev Cert.Band2RefIdeal.nD,
    (Cert.Pre_finite_gains.fn (F := Ideal) (m ((c.tc : Thread Cert.Band2RefIdeal.nD Cert.Band2RefIdeal.τ).loc Cert.Band2RefIdeal.main_arg0)) (m ((c.tc : Thread Cert.Band2RefIdeal.nD Cert.Band2RefIdeal.τ).loc Cert.Band2RefIdeal.main_arg1)) (m ((c.tc : Thread Cert.Band2RefIdeal.nD Cert.Band2RefIdeal.τ).loc Cert.Band2RefIdeal.main_arg2))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_finite_lse [hPre_finite_lse : Cert.Pre_finite_lse.Facts] (m : (ℓ : Loc Cert.CombineIdeal.nD Cert.CombineIdeal.τ Cert.CombineIdeal.sig) → Buf (Elt Ideal) ℓ) : Prop :=
  ∀ c : Dev Cert.CombineIdeal.nD,
    (Cert.Pre_finite_lse.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_finite_lse [hPre_finite_lse : Cert.Pre_finite_lse.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_finite_lse.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_Band0 [hBand0 : Cert.Band0.Facts] : Prop :=
  ∀ (m : (ℓ : Loc Cert.Band0.nD Cert.Band0.τ Cert.Band0.sig) → Buf (Elt Bits) ℓ) (g : Dev Cert.Band0.nD → PrngReg), Pre_Band0 m →
    θ_run (Cert.Band0.defs (F := Bits)) (onTc (τ := Cert.Band0.τ) (Cert.Band0.main (F := Bits))) ⟨m, fun _ => 0, g⟩ (fun r => (∀ c : Dev Cert.Band0.nD,
      r.2.mem ((c.tc : Thread Cert.Band0.nD Cert.Band0.τ).loc Cert.Band0.main_arg0) = m ((c.tc : Thread Cert.Band0.nD Cert.Band0.τ).loc Cert.Band0.main_arg0)
      ∧ r.2.mem ((c.tc : Thread Cert.Band0.nD Cert.Band0.τ).loc Cert.Band0.main_arg1) = m ((c.tc : Thread Cert.Band0.nD Cert.Band0.τ).loc Cert.Band0.main_arg1)
      ∧ r.2.mem ((c.tc : Thread Cert.Band0.nD Cert.Band0.τ).loc Cert.Band0.main_arg2) = m ((c.tc : Thread Cert.Band0.nD Cert.Band0.τ).loc Cert.Band0.main_arg2))
      ∧ r.2.sem = fun _ => 0)

def quiescent_Band0Ideal [hBand0Ideal : Cert.Band0Ideal.Facts] : Prop :=
  ∀ (m : (ℓ : Loc Cert.Band0Ideal.nD Cert.Band0Ideal.τ Cert.Band0Ideal.sig) → Buf (Elt Ideal) ℓ) (g : Dev Cert.Band0Ideal.nD → PrngReg), Pre_Band0Ideal m →
    θ_run (Cert.Band0Ideal.defs (F := Ideal)) (onTc (τ := Cert.Band0Ideal.τ) (Cert.Band0Ideal.main (F := Ideal))) ⟨m, fun _ => 0, g⟩ (fun r => (∀ c : Dev Cert.Band0Ideal.nD,
      r.2.mem ((c.tc : Thread Cert.Band0Ideal.nD Cert.Band0Ideal.τ).loc Cert.Band0Ideal.main_arg0) = m ((c.tc : Thread Cert.Band0Ideal.nD Cert.Band0Ideal.τ).loc Cert.Band0Ideal.main_arg0)
      ∧ r.2.mem ((c.tc : Thread Cert.Band0Ideal.nD Cert.Band0Ideal.τ).loc Cert.Band0Ideal.main_arg1) = m ((c.tc : Thread Cert.Band0Ideal.nD Cert.Band0Ideal.τ).loc Cert.Band0Ideal.main_arg1)
      ∧ r.2.mem ((c.tc : Thread Cert.Band0Ideal.nD Cert.Band0Ideal.τ).loc Cert.Band0Ideal.main_arg2) = m ((c.tc : Thread Cert.Band0Ideal.nD Cert.Band0Ideal.τ).loc Cert.Band0Ideal.main_arg2))
      ∧ r.2.sem = fun _ => 0)

def quiescent_Band0Ideal_pre_finite_gains [hBand0Ideal : Cert.Band0Ideal.Facts] [hPre_finite_gains : Cert.Pre_finite_gains.Facts] : Prop :=
  ∀ (m : (ℓ : Loc Cert.Band0Ideal.nD Cert.Band0Ideal.τ Cert.Band0Ideal.sig) → Buf (Elt Ideal) ℓ) (g : Dev Cert.Band0Ideal.nD → PrngReg), Pre_Band0Ideal_finite_gains m →
    θ_run (Cert.Band0Ideal.defs (F := Ideal)) (onTc (τ := Cert.Band0Ideal.τ) (Cert.Band0Ideal.main (F := Ideal))) ⟨m, fun _ => 0, g⟩ (fun r => (∀ c : Dev Cert.Band0Ideal.nD,
      r.2.mem ((c.tc : Thread Cert.Band0Ideal.nD Cert.Band0Ideal.τ).loc Cert.Band0Ideal.main_arg0) = m ((c.tc : Thread Cert.Band0Ideal.nD Cert.Band0Ideal.τ).loc Cert.Band0Ideal.main_arg0)
      ∧ r.2.mem ((c.tc : Thread Cert.Band0Ideal.nD Cert.Band0Ideal.τ).loc Cert.Band0Ideal.main_arg1) = m ((c.tc : Thread Cert.Band0Ideal.nD Cert.Band0Ideal.τ).loc Cert.Band0Ideal.main_arg1)
      ∧ r.2.mem ((c.tc : Thread Cert.Band0Ideal.nD Cert.Band0Ideal.τ).loc Cert.Band0Ideal.main_arg2) = m ((c.tc : Thread Cert.Band0Ideal.nD Cert.Band0Ideal.τ).loc Cert.Band0Ideal.main_arg2))
      ∧ r.2.sem = fun _ => 0)

def quiescent_Band0RefIdeal [hBand0RefIdeal : Cert.Band0RefIdeal.Facts] : Prop :=
  ∀ (m : (ℓ : Loc Cert.Band0RefIdeal.nD Cert.Band0RefIdeal.τ Cert.Band0RefIdeal.sig) → Buf (Elt Ideal) ℓ) (g : Dev Cert.Band0RefIdeal.nD → PrngReg), Pre_Band0RefIdeal m →
    θ_run (Cert.Band0RefIdeal.defs (F := Ideal)) (onTc (τ := Cert.Band0RefIdeal.τ) (Cert.Band0RefIdeal.main (F := Ideal))) ⟨m, fun _ => 0, g⟩ (fun r => (∀ c : Dev Cert.Band0RefIdeal.nD,
      r.2.mem ((c.tc : Thread Cert.Band0RefIdeal.nD Cert.Band0RefIdeal.τ).loc Cert.Band0RefIdeal.main_arg0) = m ((c.tc : Thread Cert.Band0RefIdeal.nD Cert.Band0RefIdeal.τ).loc Cert.Band0RefIdeal.main_arg0)
      ∧ r.2.mem ((c.tc : Thread Cert.Band0RefIdeal.nD Cert.Band0RefIdeal.τ).loc Cert.Band0RefIdeal.main_arg1) = m ((c.tc : Thread Cert.Band0RefIdeal.nD Cert.Band0RefIdeal.τ).loc Cert.Band0RefIdeal.main_arg1)
      ∧ r.2.mem ((c.tc : Thread Cert.Band0RefIdeal.nD Cert.Band0RefIdeal.τ).loc Cert.Band0RefIdeal.main_arg2) = m ((c.tc : Thread Cert.Band0RefIdeal.nD Cert.Band0RefIdeal.τ).loc Cert.Band0RefIdeal.main_arg2))
      ∧ r.2.sem = fun _ => 0)

def quiescent_Band0RefIdeal_pre_finite_gains [hBand0RefIdeal : Cert.Band0RefIdeal.Facts] [hPre_finite_gains : Cert.Pre_finite_gains.Facts] : Prop :=
  ∀ (m : (ℓ : Loc Cert.Band0RefIdeal.nD Cert.Band0RefIdeal.τ Cert.Band0RefIdeal.sig) → Buf (Elt Ideal) ℓ) (g : Dev Cert.Band0RefIdeal.nD → PrngReg), Pre_Band0RefIdeal_finite_gains m →
    θ_run (Cert.Band0RefIdeal.defs (F := Ideal)) (onTc (τ := Cert.Band0RefIdeal.τ) (Cert.Band0RefIdeal.main (F := Ideal))) ⟨m, fun _ => 0, g⟩ (fun r => (∀ c : Dev Cert.Band0RefIdeal.nD,
      r.2.mem ((c.tc : Thread Cert.Band0RefIdeal.nD Cert.Band0RefIdeal.τ).loc Cert.Band0RefIdeal.main_arg0) = m ((c.tc : Thread Cert.Band0RefIdeal.nD Cert.Band0RefIdeal.τ).loc Cert.Band0RefIdeal.main_arg0)
      ∧ r.2.mem ((c.tc : Thread Cert.Band0RefIdeal.nD Cert.Band0RefIdeal.τ).loc Cert.Band0RefIdeal.main_arg1) = m ((c.tc : Thread Cert.Band0RefIdeal.nD Cert.Band0RefIdeal.τ).loc Cert.Band0RefIdeal.main_arg1)
      ∧ r.2.mem ((c.tc : Thread Cert.Band0RefIdeal.nD Cert.Band0RefIdeal.τ).loc Cert.Band0RefIdeal.main_arg2) = m ((c.tc : Thread Cert.Band0RefIdeal.nD Cert.Band0RefIdeal.τ).loc Cert.Band0RefIdeal.main_arg2))
      ∧ r.2.sem = fun _ => 0)

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0)
      ∧ r.2.mem ((c.tc : Thread Cert.Band1.nD Cert.Band1.τ).loc Cert.Band1.main_arg1) = m ((c.tc : Thread Cert.Band1.nD Cert.Band1.τ).loc Cert.Band1.main_arg1)
      ∧ r.2.mem ((c.tc : Thread Cert.Band1.nD Cert.Band1.τ).loc Cert.Band1.main_arg2) = m ((c.tc : Thread Cert.Band1.nD Cert.Band1.τ).loc Cert.Band1.main_arg2))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
      ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
      ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2))
      ∧ r.2.sem = fun _ => 0)

def quiescent_Band1Ideal_pre_finite_gains [hBand1Ideal : Cert.Band1Ideal.Facts] [hPre_finite_gains : Cert.Pre_finite_gains.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal_finite_gains m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
      ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
      ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2))
      ∧ r.2.sem = fun _ => 0)

def quiescent_Band1RefIdeal [hBand1RefIdeal : Cert.Band1RefIdeal.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0)
      ∧ r.2.mem ((c.tc : Thread Cert.Band1RefIdeal.nD Cert.Band1RefIdeal.τ).loc Cert.Band1RefIdeal.main_arg1) = m ((c.tc : Thread Cert.Band1RefIdeal.nD Cert.Band1RefIdeal.τ).loc Cert.Band1RefIdeal.main_arg1)
      ∧ r.2.mem ((c.tc : Thread Cert.Band1RefIdeal.nD Cert.Band1RefIdeal.τ).loc Cert.Band1RefIdeal.main_arg2) = m ((c.tc : Thread Cert.Band1RefIdeal.nD Cert.Band1RefIdeal.τ).loc Cert.Band1RefIdeal.main_arg2))
      ∧ r.2.sem = fun _ => 0)

def quiescent_Band1RefIdeal_pre_finite_gains [hBand1RefIdeal : Cert.Band1RefIdeal.Facts] [hPre_finite_gains : Cert.Pre_finite_gains.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal_finite_gains m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0)
      ∧ r.2.mem ((c.tc : Thread Cert.Band1RefIdeal.nD Cert.Band1RefIdeal.τ).loc Cert.Band1RefIdeal.main_arg1) = m ((c.tc : Thread Cert.Band1RefIdeal.nD Cert.Band1RefIdeal.τ).loc Cert.Band1RefIdeal.main_arg1)
      ∧ r.2.mem ((c.tc : Thread Cert.Band1RefIdeal.nD Cert.Band1RefIdeal.τ).loc Cert.Band1RefIdeal.main_arg2) = m ((c.tc : Thread Cert.Band1RefIdeal.nD Cert.Band1RefIdeal.τ).loc Cert.Band1RefIdeal.main_arg2))
      ∧ r.2.sem = fun _ => 0)

def quiescent_Band2 [hBand2 : Cert.Band2.Facts] : Prop :=
  ∀ (m : (ℓ : Loc Cert.Band2.nD Cert.Band2.τ Cert.Band2.sig) → Buf (Elt Bits) ℓ) (g : Dev Cert.Band2.nD → PrngReg), Pre_Band2 m →
    θ_run (Cert.Band2.defs (F := Bits)) (onTc (τ := Cert.Band2.τ) (Cert.Band2.main (F := Bits))) ⟨m, fun _ => 0, g⟩ (fun r => (∀ c : Dev Cert.Band2.nD,
      r.2.mem ((c.tc : Thread Cert.Band2.nD Cert.Band2.τ).loc Cert.Band2.main_arg0) = m ((c.tc : Thread Cert.Band2.nD Cert.Band2.τ).loc Cert.Band2.main_arg0)
      ∧ r.2.mem ((c.tc : Thread Cert.Band2.nD Cert.Band2.τ).loc Cert.Band2.main_arg1) = m ((c.tc : Thread Cert.Band2.nD Cert.Band2.τ).loc Cert.Band2.main_arg1)
      ∧ r.2.mem ((c.tc : Thread Cert.Band2.nD Cert.Band2.τ).loc Cert.Band2.main_arg2) = m ((c.tc : Thread Cert.Band2.nD Cert.Band2.τ).loc Cert.Band2.main_arg2))
      ∧ r.2.sem = fun _ => 0)

def quiescent_Band2Ideal [hBand2Ideal : Cert.Band2Ideal.Facts] : Prop :=
  ∀ (m : (ℓ : Loc Cert.Band2Ideal.nD Cert.Band2Ideal.τ Cert.Band2Ideal.sig) → Buf (Elt Ideal) ℓ) (g : Dev Cert.Band2Ideal.nD → PrngReg), Pre_Band2Ideal m →
    θ_run (Cert.Band2Ideal.defs (F := Ideal)) (onTc (τ := Cert.Band2Ideal.τ) (Cert.Band2Ideal.main (F := Ideal))) ⟨m, fun _ => 0, g⟩ (fun r => (∀ c : Dev Cert.Band2Ideal.nD,
      r.2.mem ((c.tc : Thread Cert.Band2Ideal.nD Cert.Band2Ideal.τ).loc Cert.Band2Ideal.main_arg0) = m ((c.tc : Thread Cert.Band2Ideal.nD Cert.Band2Ideal.τ).loc Cert.Band2Ideal.main_arg0)
      ∧ r.2.mem ((c.tc : Thread Cert.Band2Ideal.nD Cert.Band2Ideal.τ).loc Cert.Band2Ideal.main_arg1) = m ((c.tc : Thread Cert.Band2Ideal.nD Cert.Band2Ideal.τ).loc Cert.Band2Ideal.main_arg1)
      ∧ r.2.mem ((c.tc : Thread Cert.Band2Ideal.nD Cert.Band2Ideal.τ).loc Cert.Band2Ideal.main_arg2) = m ((c.tc : Thread Cert.Band2Ideal.nD Cert.Band2Ideal.τ).loc Cert.Band2Ideal.main_arg2))
      ∧ r.2.sem = fun _ => 0)

def quiescent_Band2Ideal_pre_finite_gains [hBand2Ideal : Cert.Band2Ideal.Facts] [hPre_finite_gains : Cert.Pre_finite_gains.Facts] : Prop :=
  ∀ (m : (ℓ : Loc Cert.Band2Ideal.nD Cert.Band2Ideal.τ Cert.Band2Ideal.sig) → Buf (Elt Ideal) ℓ) (g : Dev Cert.Band2Ideal.nD → PrngReg), Pre_Band2Ideal_finite_gains m →
    θ_run (Cert.Band2Ideal.defs (F := Ideal)) (onTc (τ := Cert.Band2Ideal.τ) (Cert.Band2Ideal.main (F := Ideal))) ⟨m, fun _ => 0, g⟩ (fun r => (∀ c : Dev Cert.Band2Ideal.nD,
      r.2.mem ((c.tc : Thread Cert.Band2Ideal.nD Cert.Band2Ideal.τ).loc Cert.Band2Ideal.main_arg0) = m ((c.tc : Thread Cert.Band2Ideal.nD Cert.Band2Ideal.τ).loc Cert.Band2Ideal.main_arg0)
      ∧ r.2.mem ((c.tc : Thread Cert.Band2Ideal.nD Cert.Band2Ideal.τ).loc Cert.Band2Ideal.main_arg1) = m ((c.tc : Thread Cert.Band2Ideal.nD Cert.Band2Ideal.τ).loc Cert.Band2Ideal.main_arg1)
      ∧ r.2.mem ((c.tc : Thread Cert.Band2Ideal.nD Cert.Band2Ideal.τ).loc Cert.Band2Ideal.main_arg2) = m ((c.tc : Thread Cert.Band2Ideal.nD Cert.Band2Ideal.τ).loc Cert.Band2Ideal.main_arg2))
      ∧ r.2.sem = fun _ => 0)

def quiescent_Band2RefIdeal [hBand2RefIdeal : Cert.Band2RefIdeal.Facts] : Prop :=
  ∀ (m : (ℓ : Loc Cert.Band2RefIdeal.nD Cert.Band2RefIdeal.τ Cert.Band2RefIdeal.sig) → Buf (Elt Ideal) ℓ) (g : Dev Cert.Band2RefIdeal.nD → PrngReg), Pre_Band2RefIdeal m →
    θ_run (Cert.Band2RefIdeal.defs (F := Ideal)) (onTc (τ := Cert.Band2RefIdeal.τ) (Cert.Band2RefIdeal.main (F := Ideal))) ⟨m, fun _ => 0, g⟩ (fun r => (∀ c : Dev Cert.Band2RefIdeal.nD,
      r.2.mem ((c.tc : Thread Cert.Band2RefIdeal.nD Cert.Band2RefIdeal.τ).loc Cert.Band2RefIdeal.main_arg0) = m ((c.tc : Thread Cert.Band2RefIdeal.nD Cert.Band2RefIdeal.τ).loc Cert.Band2RefIdeal.main_arg0)
      ∧ r.2.mem ((c.tc : Thread Cert.Band2RefIdeal.nD Cert.Band2RefIdeal.τ).loc Cert.Band2RefIdeal.main_arg1) = m ((c.tc : Thread Cert.Band2RefIdeal.nD Cert.Band2RefIdeal.τ).loc Cert.Band2RefIdeal.main_arg1)
      ∧ r.2.mem ((c.tc : Thread Cert.Band2RefIdeal.nD Cert.Band2RefIdeal.τ).loc Cert.Band2RefIdeal.main_arg2) = m ((c.tc : Thread Cert.Band2RefIdeal.nD Cert.Band2RefIdeal.τ).loc Cert.Band2RefIdeal.main_arg2))
      ∧ r.2.sem = fun _ => 0)

def quiescent_Band2RefIdeal_pre_finite_gains [hBand2RefIdeal : Cert.Band2RefIdeal.Facts] [hPre_finite_gains : Cert.Pre_finite_gains.Facts] : Prop :=
  ∀ (m : (ℓ : Loc Cert.Band2RefIdeal.nD Cert.Band2RefIdeal.τ Cert.Band2RefIdeal.sig) → Buf (Elt Ideal) ℓ) (g : Dev Cert.Band2RefIdeal.nD → PrngReg), Pre_Band2RefIdeal_finite_gains m →
    θ_run (Cert.Band2RefIdeal.defs (F := Ideal)) (onTc (τ := Cert.Band2RefIdeal.τ) (Cert.Band2RefIdeal.main (F := Ideal))) ⟨m, fun _ => 0, g⟩ (fun r => (∀ c : Dev Cert.Band2RefIdeal.nD,
      r.2.mem ((c.tc : Thread Cert.Band2RefIdeal.nD Cert.Band2RefIdeal.τ).loc Cert.Band2RefIdeal.main_arg0) = m ((c.tc : Thread Cert.Band2RefIdeal.nD Cert.Band2RefIdeal.τ).loc Cert.Band2RefIdeal.main_arg0)
      ∧ r.2.mem ((c.tc : Thread Cert.Band2RefIdeal.nD Cert.Band2RefIdeal.τ).loc Cert.Band2RefIdeal.main_arg1) = m ((c.tc : Thread Cert.Band2RefIdeal.nD Cert.Band2RefIdeal.τ).loc Cert.Band2RefIdeal.main_arg1)
      ∧ r.2.mem ((c.tc : Thread Cert.Band2RefIdeal.nD Cert.Band2RefIdeal.τ).loc Cert.Band2RefIdeal.main_arg2) = m ((c.tc : Thread Cert.Band2RefIdeal.nD Cert.Band2RefIdeal.τ).loc Cert.Band2RefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineIdeal_pre_finite_lse [hCombineIdeal : Cert.CombineIdeal.Facts] [hPre_finite_lse : Cert.Pre_finite_lse.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_finite_lse m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_CombineRefIdeal_pre_finite_lse [hCombineRefIdeal : Cert.CombineRefIdeal.Facts] [hPre_finite_lse : Cert.Pre_finite_lse.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_finite_lse m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def preserves_Band0_Band0Ideal : Prop :=
  IdealRules.named_const.Statement Cert.Band0Ideal.κ "mask" .f32 0xF149F2CA#32 ⊥

def algebraic_Band0Ideal_Band0RefIdeal_pre_finite_gains [hBand0Ideal : Cert.Band0Ideal.Facts] [hBand0RefIdeal : Cert.Band0RefIdeal.Facts] [hPre_finite_gains : Cert.Pre_finite_gains.Facts] : Prop :=
  ∀ (m : (ℓ : Loc Cert.Band0Ideal.nD Cert.Band0Ideal.τ Cert.Band0Ideal.sig) → Buf (Elt Ideal) ℓ) (g : Dev Cert.Band0Ideal.nD → PrngReg)
    (m' : (ℓ : Loc Cert.Band0RefIdeal.nD Cert.Band0RefIdeal.τ Cert.Band0RefIdeal.sig) → Buf (Elt Ideal) ℓ) (g' : Dev Cert.Band0RefIdeal.nD → PrngReg), Pre_Band0Ideal_finite_gains m →
    (∀ c : Dev Cert.Band0Ideal.nD,
      m' ((c.tc : Thread Cert.Band0RefIdeal.nD Cert.Band0RefIdeal.τ).loc Cert.Band0RefIdeal.main_arg0) = m ((c.tc : Thread Cert.Band0Ideal.nD Cert.Band0Ideal.τ).loc Cert.Band0Ideal.main_arg0)
      ∧ m' ((c.tc : Thread Cert.Band0RefIdeal.nD Cert.Band0RefIdeal.τ).loc Cert.Band0RefIdeal.main_arg1) = m ((c.tc : Thread Cert.Band0Ideal.nD Cert.Band0Ideal.τ).loc Cert.Band0Ideal.main_arg1)
      ∧ m' ((c.tc : Thread Cert.Band0RefIdeal.nD Cert.Band0RefIdeal.τ).loc Cert.Band0RefIdeal.main_arg2) = m ((c.tc : Thread Cert.Band0Ideal.nD Cert.Band0Ideal.τ).loc Cert.Band0Ideal.main_arg2)) →
    ∃ (v0 : (c : Dev Cert.Band0Ideal.nD) → Buf (Elt Ideal) ((c.tc : Thread Cert.Band0Ideal.nD Cert.Band0Ideal.τ).loc Cert.Band0Ideal.main_v21_0)) (v1 : (c : Dev Cert.Band0Ideal.nD) → Buf (Elt Ideal) ((c.tc : Thread Cert.Band0Ideal.nD Cert.Band0Ideal.τ).loc Cert.Band0Ideal.main_v21_1)) (v2 : (c : Dev Cert.Band0Ideal.nD) → Buf (Elt Ideal) ((c.tc : Thread Cert.Band0Ideal.nD Cert.Band0Ideal.τ).loc Cert.Band0Ideal.main_v28)),
      θ_run (Cert.Band0Ideal.defs (F := Ideal)) (onTc (τ := Cert.Band0Ideal.τ) (Cert.Band0Ideal.main (F := Ideal))) ⟨m, fun _ => 0, g⟩ (fun r => ∀ c : Dev Cert.Band0Ideal.nD,
          r.2.mem ((c.tc : Thread Cert.Band0Ideal.nD Cert.Band0Ideal.τ).loc Cert.Band0Ideal.main_v21_0) = v0 c
          ∧ r.2.mem ((c.tc : Thread Cert.Band0Ideal.nD Cert.Band0Ideal.τ).loc Cert.Band0Ideal.main_v21_1) = v1 c
          ∧ r.2.mem ((c.tc : Thread Cert.Band0Ideal.nD Cert.Band0Ideal.τ).loc Cert.Band0Ideal.main_v28) = v2 c
          ∧ r.2.mem ((c.tc : Thread Cert.Band0Ideal.nD Cert.Band0Ideal.τ).loc Cert.Band0Ideal.main_arg0) = m ((c.tc : Thread Cert.Band0Ideal.nD Cert.Band0Ideal.τ).loc Cert.Band0Ideal.main_arg0)
          ∧ r.2.mem ((c.tc : Thread Cert.Band0Ideal.nD Cert.Band0Ideal.τ).loc Cert.Band0Ideal.main_arg1) = m ((c.tc : Thread Cert.Band0Ideal.nD Cert.Band0Ideal.τ).loc Cert.Band0Ideal.main_arg1)
          ∧ r.2.mem ((c.tc : Thread Cert.Band0Ideal.nD Cert.Band0Ideal.τ).loc Cert.Band0Ideal.main_arg2) = m ((c.tc : Thread Cert.Band0Ideal.nD Cert.Band0Ideal.τ).loc Cert.Band0Ideal.main_arg2))
      ∧ θ_run (Cert.Band0RefIdeal.defs (F := Ideal)) (onTc (τ := Cert.Band0RefIdeal.τ) (Cert.Band0RefIdeal.main (F := Ideal))) ⟨m', fun _ => 0, g'⟩ (fun r => ∀ c : Dev Cert.Band0RefIdeal.nD,
          r.2.mem ((c.tc : Thread Cert.Band0RefIdeal.nD Cert.Band0RefIdeal.τ).loc Cert.Band0RefIdeal.main_v133) = v0 c
          ∧ r.2.mem ((c.tc : Thread Cert.Band0RefIdeal.nD Cert.Band0RefIdeal.τ).loc Cert.Band0RefIdeal.main_v134) = v1 c
          ∧ r.2.mem ((c.tc : Thread Cert.Band0RefIdeal.nD Cert.Band0RefIdeal.τ).loc Cert.Band0RefIdeal.main_v139) = v2 c
          ∧ r.2.mem ((c.tc : Thread Cert.Band0RefIdeal.nD Cert.Band0RefIdeal.τ).loc Cert.Band0RefIdeal.main_arg0) = m' ((c.tc : Thread Cert.Band0RefIdeal.nD Cert.Band0RefIdeal.τ).loc Cert.Band0RefIdeal.main_arg0)
          ∧ r.2.mem ((c.tc : Thread Cert.Band0RefIdeal.nD Cert.Band0RefIdeal.τ).loc Cert.Band0RefIdeal.main_arg1) = m' ((c.tc : Thread Cert.Band0RefIdeal.nD Cert.Band0RefIdeal.τ).loc Cert.Band0RefIdeal.main_arg1)
          ∧ r.2.mem ((c.tc : Thread Cert.Band0RefIdeal.nD Cert.Band0RefIdeal.τ).loc Cert.Band0RefIdeal.main_arg2) = m' ((c.tc : Thread Cert.Band0RefIdeal.nD Cert.Band0RefIdeal.τ).loc Cert.Band0RefIdeal.main_arg2))

def preserves_Band1_Band1Ideal : Prop :=
  IdealRules.named_const.Statement Cert.Band1Ideal.κ "mask" .f32 0xF149F2CA#32 ⊥

def algebraic_Band1Ideal_Band1RefIdeal_pre_finite_gains [hBand1Ideal : Cert.Band1Ideal.Facts] [hBand1RefIdeal : Cert.Band1RefIdeal.Facts] [hPre_finite_gains : Cert.Pre_finite_gains.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.Band1RefIdeal.nD Cert.Band1RefIdeal.τ Cert.Band1RefIdeal.sig) → Buf (Elt Ideal) ℓ) (g' : Dev Cert.Band1RefIdeal.nD → PrngReg), Pre_Band1Ideal_finite_gains m →
    (∀ c : Dev Cert.Band1Ideal.nD,
      m' ((c.tc : Thread Cert.Band1RefIdeal.nD Cert.Band1RefIdeal.τ).loc Cert.Band1RefIdeal.main_arg0) = m ((c.tc : Thread Cert.Band1Ideal.nD Cert.Band1Ideal.τ).loc Cert.Band1Ideal.main_arg0)
      ∧ m' ((c.tc : Thread Cert.Band1RefIdeal.nD Cert.Band1RefIdeal.τ).loc Cert.Band1RefIdeal.main_arg1) = m ((c.tc : Thread Cert.Band1Ideal.nD Cert.Band1Ideal.τ).loc Cert.Band1Ideal.main_arg1)
      ∧ m' ((c.tc : Thread Cert.Band1RefIdeal.nD Cert.Band1RefIdeal.τ).loc Cert.Band1RefIdeal.main_arg2) = m ((c.tc : Thread Cert.Band1Ideal.nD Cert.Band1Ideal.τ).loc Cert.Band1Ideal.main_arg2)) →
    ∃ (v0 : (c : Dev Cert.Band1Ideal.nD) → Buf (Elt Ideal) ((c.tc : Thread Cert.Band1Ideal.nD Cert.Band1Ideal.τ).loc Cert.Band1Ideal.main_v23_0)) (v1 : (c : Dev Cert.Band1Ideal.nD) → Buf (Elt Ideal) ((c.tc : Thread Cert.Band1Ideal.nD Cert.Band1Ideal.τ).loc Cert.Band1Ideal.main_v23_1)) (v2 : (c : Dev Cert.Band1Ideal.nD) → Buf (Elt Ideal) ((c.tc : Thread Cert.Band1Ideal.nD Cert.Band1Ideal.τ).loc Cert.Band1Ideal.main_v30)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v23_0) = v0 c
          ∧ r.2.mem ((c.tc : Thread Cert.Band1Ideal.nD Cert.Band1Ideal.τ).loc Cert.Band1Ideal.main_v23_1) = v1 c
          ∧ r.2.mem ((c.tc : Thread Cert.Band1Ideal.nD Cert.Band1Ideal.τ).loc Cert.Band1Ideal.main_v30) = v2 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
          ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1)
          ∧ r.2.mem ((c.tc : Thread Cert.Band1Ideal.nD Cert.Band1Ideal.τ).loc Cert.Band1Ideal.main_arg2) = m ((c.tc : Thread Cert.Band1Ideal.nD Cert.Band1Ideal.τ).loc Cert.Band1Ideal.main_arg2))
      ∧ θ_run (Cert.Band1RefIdeal.defs (F := Ideal)) (onTc (τ := Cert.Band1RefIdeal.τ) (Cert.Band1RefIdeal.main (F := Ideal))) ⟨m', fun _ => 0, g'⟩ (fun r => ∀ c : Dev Cert.Band1RefIdeal.nD,
          r.2.mem ((c.tc : Thread Cert.Band1RefIdeal.nD Cert.Band1RefIdeal.τ).loc Cert.Band1RefIdeal.main_v133) = v0 c
          ∧ r.2.mem ((c.tc : Thread Cert.Band1RefIdeal.nD Cert.Band1RefIdeal.τ).loc Cert.Band1RefIdeal.main_v134) = v1 c
          ∧ r.2.mem ((c.tc : Thread Cert.Band1RefIdeal.nD Cert.Band1RefIdeal.τ).loc Cert.Band1RefIdeal.main_v139) = v2 c
          ∧ r.2.mem ((c.tc : Thread Cert.Band1RefIdeal.nD Cert.Band1RefIdeal.τ).loc Cert.Band1RefIdeal.main_arg0) = m' ((c.tc : Thread Cert.Band1RefIdeal.nD Cert.Band1RefIdeal.τ).loc Cert.Band1RefIdeal.main_arg0)
          ∧ r.2.mem ((c.tc : Thread Cert.Band1RefIdeal.nD Cert.Band1RefIdeal.τ).loc Cert.Band1RefIdeal.main_arg1) = m' ((c.tc : Thread Cert.Band1RefIdeal.nD Cert.Band1RefIdeal.τ).loc Cert.Band1RefIdeal.main_arg1)
          ∧ r.2.mem ((c.tc : Thread Cert.Band1RefIdeal.nD Cert.Band1RefIdeal.τ).loc Cert.Band1RefIdeal.main_arg2) = m' ((c.tc : Thread Cert.Band1RefIdeal.nD Cert.Band1RefIdeal.τ).loc Cert.Band1RefIdeal.main_arg2))

def preserves_Band2_Band2Ideal : Prop :=
  IdealRules.named_const.Statement Cert.Band2Ideal.κ "mask" .f32 0xF149F2CA#32 ⊥

def algebraic_Band2Ideal_Band2RefIdeal_pre_finite_gains [hBand2Ideal : Cert.Band2Ideal.Facts] [hBand2RefIdeal : Cert.Band2RefIdeal.Facts] [hPre_finite_gains : Cert.Pre_finite_gains.Facts] : Prop :=
  ∀ (m : (ℓ : Loc Cert.Band2Ideal.nD Cert.Band2Ideal.τ Cert.Band2Ideal.sig) → Buf (Elt Ideal) ℓ) (g : Dev Cert.Band2Ideal.nD → PrngReg)
    (m' : (ℓ : Loc Cert.Band2RefIdeal.nD Cert.Band2RefIdeal.τ Cert.Band2RefIdeal.sig) → Buf (Elt Ideal) ℓ) (g' : Dev Cert.Band2RefIdeal.nD → PrngReg), Pre_Band2Ideal_finite_gains m →
    (∀ c : Dev Cert.Band2Ideal.nD,
      m' ((c.tc : Thread Cert.Band2RefIdeal.nD Cert.Band2RefIdeal.τ).loc Cert.Band2RefIdeal.main_arg0) = m ((c.tc : Thread Cert.Band2Ideal.nD Cert.Band2Ideal.τ).loc Cert.Band2Ideal.main_arg0)
      ∧ m' ((c.tc : Thread Cert.Band2RefIdeal.nD Cert.Band2RefIdeal.τ).loc Cert.Band2RefIdeal.main_arg1) = m ((c.tc : Thread Cert.Band2Ideal.nD Cert.Band2Ideal.τ).loc Cert.Band2Ideal.main_arg1)
      ∧ m' ((c.tc : Thread Cert.Band2RefIdeal.nD Cert.Band2RefIdeal.τ).loc Cert.Band2RefIdeal.main_arg2) = m ((c.tc : Thread Cert.Band2Ideal.nD Cert.Band2Ideal.τ).loc Cert.Band2Ideal.main_arg2)) →
    ∃ (v0 : (c : Dev Cert.Band2Ideal.nD) → Buf (Elt Ideal) ((c.tc : Thread Cert.Band2Ideal.nD Cert.Band2Ideal.τ).loc Cert.Band2Ideal.main_v23_0)) (v1 : (c : Dev Cert.Band2Ideal.nD) → Buf (Elt Ideal) ((c.tc : Thread Cert.Band2Ideal.nD Cert.Band2Ideal.τ).loc Cert.Band2Ideal.main_v23_1)) (v2 : (c : Dev Cert.Band2Ideal.nD) → Buf (Elt Ideal) ((c.tc : Thread Cert.Band2Ideal.nD Cert.Band2Ideal.τ).loc Cert.Band2Ideal.main_v30)),
      θ_run (Cert.Band2Ideal.defs (F := Ideal)) (onTc (τ := Cert.Band2Ideal.τ) (Cert.Band2Ideal.main (F := Ideal))) ⟨m, fun _ => 0, g⟩ (fun r => ∀ c : Dev Cert.Band2Ideal.nD,
          r.2.mem ((c.tc : Thread Cert.Band2Ideal.nD Cert.Band2Ideal.τ).loc Cert.Band2Ideal.main_v23_0) = v0 c
          ∧ r.2.mem ((c.tc : Thread Cert.Band2Ideal.nD Cert.Band2Ideal.τ).loc Cert.Band2Ideal.main_v23_1) = v1 c
          ∧ r.2.mem ((c.tc : Thread Cert.Band2Ideal.nD Cert.Band2Ideal.τ).loc Cert.Band2Ideal.main_v30) = v2 c
          ∧ r.2.mem ((c.tc : Thread Cert.Band2Ideal.nD Cert.Band2Ideal.τ).loc Cert.Band2Ideal.main_arg0) = m ((c.tc : Thread Cert.Band2Ideal.nD Cert.Band2Ideal.τ).loc Cert.Band2Ideal.main_arg0)
          ∧ r.2.mem ((c.tc : Thread Cert.Band2Ideal.nD Cert.Band2Ideal.τ).loc Cert.Band2Ideal.main_arg1) = m ((c.tc : Thread Cert.Band2Ideal.nD Cert.Band2Ideal.τ).loc Cert.Band2Ideal.main_arg1)
          ∧ r.2.mem ((c.tc : Thread Cert.Band2Ideal.nD Cert.Band2Ideal.τ).loc Cert.Band2Ideal.main_arg2) = m ((c.tc : Thread Cert.Band2Ideal.nD Cert.Band2Ideal.τ).loc Cert.Band2Ideal.main_arg2))
      ∧ θ_run (Cert.Band2RefIdeal.defs (F := Ideal)) (onTc (τ := Cert.Band2RefIdeal.τ) (Cert.Band2RefIdeal.main (F := Ideal))) ⟨m', fun _ => 0, g'⟩ (fun r => ∀ c : Dev Cert.Band2RefIdeal.nD,
          r.2.mem ((c.tc : Thread Cert.Band2RefIdeal.nD Cert.Band2RefIdeal.τ).loc Cert.Band2RefIdeal.main_v133) = v0 c
          ∧ r.2.mem ((c.tc : Thread Cert.Band2RefIdeal.nD Cert.Band2RefIdeal.τ).loc Cert.Band2RefIdeal.main_v134) = v1 c
          ∧ r.2.mem ((c.tc : Thread Cert.Band2RefIdeal.nD Cert.Band2RefIdeal.τ).loc Cert.Band2RefIdeal.main_v137) = v2 c
          ∧ r.2.mem ((c.tc : Thread Cert.Band2RefIdeal.nD Cert.Band2RefIdeal.τ).loc Cert.Band2RefIdeal.main_arg0) = m' ((c.tc : Thread Cert.Band2RefIdeal.nD Cert.Band2RefIdeal.τ).loc Cert.Band2RefIdeal.main_arg0)
          ∧ r.2.mem ((c.tc : Thread Cert.Band2RefIdeal.nD Cert.Band2RefIdeal.τ).loc Cert.Band2RefIdeal.main_arg1) = m' ((c.tc : Thread Cert.Band2RefIdeal.nD Cert.Band2RefIdeal.τ).loc Cert.Band2RefIdeal.main_arg1)
          ∧ r.2.mem ((c.tc : Thread Cert.Band2RefIdeal.nD Cert.Band2RefIdeal.τ).loc Cert.Band2RefIdeal.main_arg2) = m' ((c.tc : Thread Cert.Band2RefIdeal.nD Cert.Band2RefIdeal.τ).loc Cert.Band2RefIdeal.main_arg2))

def preserves_Combine_CombineIdeal : Prop :=
  True

def algebraic_CombineIdeal_CombineRefIdeal_pre_finite_lse [hCombineIdeal : Cert.CombineIdeal.Facts] [hCombineRefIdeal : Cert.CombineRefIdeal.Facts] [hPre_finite_lse : Cert.Pre_finite_lse.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal_finite_lse m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v21) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v10)) (v1 : (c : Dev Cert.InProjIdeal.nD) → Buf (Elt Ideal) ((c.tc : Thread Cert.InProjIdeal.nD Cert.InProjIdeal.τ).loc Cert.InProjIdeal.main_v13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10) = v0 c
          ∧ r.2.mem ((c.tc : Thread Cert.InProjIdeal.nD Cert.InProjIdeal.τ).loc Cert.InProjIdeal.main_v13) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v11) = v0 c
          ∧ r.2.mem ((c.tc : Thread Cert.InProjRefIdeal.nD Cert.InProjRefIdeal.τ).loc Cert.InProjRefIdeal.main_v9) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)) →
    ∃ (v0 : (c : Dev Cert.AttOutIdeal.nD) → Buf (Elt Ideal) ((c.tc : Thread Cert.AttOutIdeal.nD Cert.AttOutIdeal.τ).loc Cert.AttOutIdeal.main_v3)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v3) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v11) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v13) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def Claim : Prop :=
  ∃ (hBand0 : Cert.Band0.Facts) (hBand0Ideal : Cert.Band0Ideal.Facts) (hBand0RefIdeal : Cert.Band0RefIdeal.Facts) (hBand1 : Cert.Band1.Facts) (hBand1Ideal : Cert.Band1Ideal.Facts) (hBand1RefIdeal : Cert.Band1RefIdeal.Facts) (hBand2 : Cert.Band2.Facts) (hBand2Ideal : Cert.Band2Ideal.Facts) (hBand2RefIdeal : Cert.Band2RefIdeal.Facts) (hCombine : Cert.Combine.Facts) (hCombineIdeal : Cert.CombineIdeal.Facts) (hCombineRefIdeal : Cert.CombineRefIdeal.Facts) (hNorm : Cert.Norm.Facts) (hNormIdeal : Cert.NormIdeal.Facts) (hNormRefIdeal : Cert.NormRefIdeal.Facts) (hInProj : Cert.InProj.Facts) (hInProjIdeal : Cert.InProjIdeal.Facts) (hInProjRefIdeal : Cert.InProjRefIdeal.Facts) (hAttOut : Cert.AttOut.Facts) (hAttOutIdeal : Cert.AttOutIdeal.Facts) (hAttOutRefIdeal : Cert.AttOutRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPre_finite_gains : Cert.Pre_finite_gains.Facts) (hPre_finite_lse : Cert.Pre_finite_lse.Facts),
    quiescent_Band0 (hBand0 := hBand0)
    ∧ quiescent_Band0Ideal (hBand0Ideal := hBand0Ideal)
    ∧ quiescent_Band0Ideal_pre_finite_gains (hBand0Ideal := hBand0Ideal) (hPre_finite_gains := hPre_finite_gains)
    ∧ quiescent_Band0RefIdeal (hBand0RefIdeal := hBand0RefIdeal)
    ∧ quiescent_Band0RefIdeal_pre_finite_gains (hBand0RefIdeal := hBand0RefIdeal) (hPre_finite_gains := hPre_finite_gains)
    ∧ quiescent_Band1 (hBand1 := hBand1)
    ∧ quiescent_Band1Ideal (hBand1Ideal := hBand1Ideal)
    ∧ quiescent_Band1Ideal_pre_finite_gains (hBand1Ideal := hBand1Ideal) (hPre_finite_gains := hPre_finite_gains)
    ∧ quiescent_Band1RefIdeal (hBand1RefIdeal := hBand1RefIdeal)
    ∧ quiescent_Band1RefIdeal_pre_finite_gains (hBand1RefIdeal := hBand1RefIdeal) (hPre_finite_gains := hPre_finite_gains)
    ∧ quiescent_Band2 (hBand2 := hBand2)
    ∧ quiescent_Band2Ideal (hBand2Ideal := hBand2Ideal)
    ∧ quiescent_Band2Ideal_pre_finite_gains (hBand2Ideal := hBand2Ideal) (hPre_finite_gains := hPre_finite_gains)
    ∧ quiescent_Band2RefIdeal (hBand2RefIdeal := hBand2RefIdeal)
    ∧ quiescent_Band2RefIdeal_pre_finite_gains (hBand2RefIdeal := hBand2RefIdeal) (hPre_finite_gains := hPre_finite_gains)
    ∧ quiescent_Combine (hCombine := hCombine)
    ∧ quiescent_CombineIdeal (hCombineIdeal := hCombineIdeal)
    ∧ quiescent_CombineIdeal_pre_finite_lse (hCombineIdeal := hCombineIdeal) (hPre_finite_lse := hPre_finite_lse)
    ∧ quiescent_CombineRefIdeal (hCombineRefIdeal := hCombineRefIdeal)
    ∧ quiescent_CombineRefIdeal_pre_finite_lse (hCombineRefIdeal := hCombineRefIdeal) (hPre_finite_lse := hPre_finite_lse)
    ∧ quiescent_Norm (hNorm := hNorm)
    ∧ quiescent_NormIdeal (hNormIdeal := hNormIdeal)
    ∧ quiescent_NormRefIdeal (hNormRefIdeal := hNormRefIdeal)
    ∧ quiescent_InProj (hInProj := hInProj)
    ∧ quiescent_InProjIdeal (hInProjIdeal := hInProjIdeal)
    ∧ quiescent_InProjRefIdeal (hInProjRefIdeal := hInProjRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_Band0_Band0Ideal
    ∧ algebraic_Band0Ideal_Band0RefIdeal_pre_finite_gains (hBand0Ideal := hBand0Ideal) (hBand0RefIdeal := hBand0RefIdeal) (hPre_finite_gains := hPre_finite_gains)
    ∧ preserves_Band1_Band1Ideal
    ∧ algebraic_Band1Ideal_Band1RefIdeal_pre_finite_gains (hBand1Ideal := hBand1Ideal) (hBand1RefIdeal := hBand1RefIdeal) (hPre_finite_gains := hPre_finite_gains)
    ∧ preserves_Band2_Band2Ideal
    ∧ algebraic_Band2Ideal_Band2RefIdeal_pre_finite_gains (hBand2Ideal := hBand2Ideal) (hBand2RefIdeal := hBand2RefIdeal) (hPre_finite_gains := hPre_finite_gains)
    ∧ preserves_Combine_CombineIdeal
    ∧ algebraic_CombineIdeal_CombineRefIdeal_pre_finite_lse (hCombineIdeal := hCombineIdeal) (hCombineRefIdeal := hCombineRefIdeal) (hPre_finite_lse := hPre_finite_lse)
    ∧ preserves_Norm_NormIdeal
    ∧ algebraic_NormIdeal_NormRefIdeal (hNormIdeal := hNormIdeal) (hNormRefIdeal := hNormRefIdeal)
    ∧ preserves_InProj_InProjIdeal
    ∧ algebraic_InProjIdeal_InProjRefIdeal (hInProjIdeal := hInProjIdeal) (hInProjRefIdeal := hInProjRefIdeal)
    ∧ preserves_AttOut_AttOutIdeal
    ∧ algebraic_AttOutIdeal_AttOutRefIdeal (hAttOutIdeal := hAttOutIdeal) (hAttOutRefIdeal := hAttOutRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
-- ==== Pre_finite_gains.lean ====
abbrev S8192x24576 : Shape := ⟨2, ![8192, 24576]⟩
abbrev S4x128 : Shape := ⟨2, ![4, 128]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel

variable [Facts]

def fn {F : FTy → Type} [FloatOps F] (main_arg0 : FVec F S8192x24576 .f32) (main_arg1 : FVec F S4x128 .f32) (main_arg2 : FVec F S4x128 .f32) : IVec S_ 1 :=
  let main_v0 : FVec F S4x128 .f32 := Host.absf main_arg1
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  main_v8
-- ==== Pre_finite_lse.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) : IVec S_ 1 :=
  let main_v0 : FVec F S8192x1024 .f32 := Host.absf main_arg3
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg4
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg5
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Band0.lean ====
abbrev S8192x24576 : Shape := ⟨2, ![8192, 24576]⟩
abbrev S4x128 : Shape := ⟨2, ![4, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x2048x24576 : Shape := ⟨3, ![4, 2048, 24576]⟩
abbrev S4x1x128 : Shape := ⟨3, ![4, 1, 128]⟩
abbrev S4x2048x1024 : Shape := ⟨3, ![4, 2048, 1024]⟩
abbrev S4x128x1024 : Shape := ⟨3, ![4, 128, 1024]⟩
abbrev S1x2048x128 : Shape := ⟨3, ![1, 2048, 128]⟩
abbrev S1x1x128 : Shape := ⟨3, ![1, 1, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S128x256 : Shape := ⟨2, ![128, 256]⟩
abbrev S4x128x8x128 : Shape := ⟨4, ![4, 128, 8, 128]⟩
abbrev S4x128x1x8x128 : Shape := ⟨5, ![4, 128, 1, 8, 128]⟩
abbrev S4x128x2x8x128 : Shape := ⟨5, ![4, 128, 2, 8, 128]⟩

abbrev nBuf : Space → Nat
  | .hbm => 36
  | .vmem => 16
  | .smem => 0
  | _ => 0

abbrev bufTy : (tb : Table) → Fin (tcTables nBuf tb) → BufTy
  | .hbm, ⟨0, _⟩ => ⟨S8192x24576, .f32⟩
  | .hbm, ⟨1, _⟩ => ⟨S4x128, .f32⟩
  | .hbm, ⟨2, _⟩ => ⟨S4x128, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S4x2048x24576, .f32⟩
  | .hbm, ⟨24, _⟩ => ⟨S4x1x128, .f32⟩
  | .hbm, ⟨25, _⟩ => ⟨S4x1x128, .f32⟩
  | .hbm, ⟨26, _⟩ => ⟨S4x2048x1024, .f32⟩
  | .hbm, ⟨27, _⟩ => ⟨S4x2048x1024, .f32⟩
  | .hbm, ⟨28, _⟩ => ⟨S4x128x1024, .f32⟩
  | .hbm, ⟨29, _⟩ => ⟨S4x128x8x128, .f32⟩
  | .hbm, ⟨30, _⟩ => ⟨S4x2048x24576, .f32⟩
  | .hbm, ⟨31, _⟩ => ⟨S4x128x1024, .f32⟩
  | .hbm, ⟨32, _⟩ => ⟨S4x128x8x128, .f32⟩
  | .hbm, ⟨33, _⟩ => ⟨S4x128x1x8x128, .f32⟩
  | .hbm, ⟨34, _⟩ => ⟨S4x128x1x8x128, .f32⟩
  | .hbm, ⟨35, _⟩ => ⟨S4x128x2x8x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | .local _ .vmem, ⟨7, _⟩ => ⟨S2048x128, .f32⟩
  | .local _ .vmem, ⟨8, _⟩ => ⟨S1x1x128, .f32⟩
  | .local _ .vmem, ⟨9, _⟩ => ⟨S1x1x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x128x128, .f32⟩
  | .local _ .vmem, ⟨15, _⟩ => ⟨S1x128x128, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c0_i32 : BitVec 32 := 0#32
  let v2 : BitVec 32 := Scalar.addi v1 c0_i32
  let v3 : BitVec 32 := Scalar.addi v2 arg2
  let c0_i32_0 : BitVec 32 := 0#32
  let c0_i32_1 : BitVec 32 := 0#32
  ![arg0.toNat, c0_i32_0.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c24_i32 : BitVec 32 := 24#32
  let v2 : BitVec 32 := Scalar.addi v1 c24_i32
  let v3 : BitVec 32 := Scalar.addi v2 arg2
  let c0_i32 : BitVec 32 := 0#32
  let c0_i32_0 : BitVec 32 := 0#32
  ![arg0.toNat, c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c48_i32 : BitVec 32 := 48#32
  let v2 : BitVec 32 := Scalar.addi v1 c48_i32
  let v3 : BitVec 32 := Scalar.addi v2 arg2
  let c0_i32 : BitVec 32 := 0#32
  let c0_i32_0 : BitVec 32 := 0#32
  ![arg0.toNat, c0_i32.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Band0Ideal.lean ====
abbrev S8192x24576 : Shape := ⟨2, ![8192, 24576]⟩
abbrev S4x128 : Shape := ⟨2, ![4, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x2048x24576 : Shape := ⟨3, ![4, 2048, 24576]⟩
abbrev S4x1x128 : Shape := ⟨3, ![4, 1, 128]⟩
abbrev S4x2048x1024 : Shape := ⟨3, ![4, 2048, 1024]⟩
abbrev S4x128x1024 : Shape := ⟨3, ![4, 128, 1024]⟩
abbrev S1x2048x128 : Shape := ⟨3, ![1, 2048, 128]⟩
abbrev S1x1x128 : Shape := ⟨3, ![1, 1, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S128x256 : Shape := ⟨2, ![128, 256]⟩
abbrev S4x128x8x128 : Shape := ⟨4, ![4, 128, 8, 128]⟩
abbrev S4x128x1x8x128 : Shape := ⟨5, ![4, 128, 1, 8, 128]⟩
abbrev S4x128x2x8x128 : Shape := ⟨5, ![4, 128, 2, 8, 128]⟩

abbrev nBuf : Space → Nat
  | .hbm => 36
  | .vmem => 16
  | .smem => 0
  | _ => 0

abbrev bufTy : (tb : Table) → Fin (tcTables nBuf tb) → BufTy
  | .hbm, ⟨0, _⟩ => ⟨S8192x24576, .f32⟩
  | .hbm, ⟨1, _⟩ => ⟨S4x128, .f32⟩
  | .hbm, ⟨2, _⟩ => ⟨S4x128, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S4x2048x24576, .f32⟩
  | .hbm, ⟨24, _⟩ => ⟨S4x1x128, .f32⟩
  | .hbm, ⟨25, _⟩ => ⟨S4x1x128, .f32⟩
  | .hbm, ⟨26, _⟩ => ⟨S4x2048x1024, .f32⟩
  | .hbm, ⟨27, _⟩ => ⟨S4x2048x1024, .f32⟩
  | .hbm, ⟨28, _⟩ => ⟨S4x128x1024, .f32⟩
  | .hbm, ⟨29, _⟩ => ⟨S4x128x8x128, .f32⟩
  | .hbm, ⟨30, _⟩ => ⟨S4x2048x24576, .f32⟩
  | .hbm, ⟨31, _⟩ => ⟨S4x128x1024, .f32⟩
  | .hbm, ⟨32, _⟩ => ⟨S4x128x8x128, .f32⟩
  | .hbm, ⟨33, _⟩ => ⟨S4x128x1x8x128, .f32⟩
  | .hbm, ⟨34, _⟩ => ⟨S4x128x1x8x128, .f32⟩
  | .hbm, ⟨35, _⟩ => ⟨S4x128x2x8x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | .local _ .vmem, ⟨7, _⟩ => ⟨S2048x128, .f32⟩
  | .local _ .vmem, ⟨8, _⟩ => ⟨S1x1x128, .f32⟩
  | .local _ .vmem, ⟨9, _⟩ => ⟨S1x1x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x128x128, .f32⟩
  | .local _ .vmem, ⟨15, _⟩ => ⟨S1x128x128, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F] [Named F]

def κ : String → Option EReal := fun
  | "mask" => some ⊥
  | _ => none

abbrev grid0 : Pipeline.Grid := ⟨3, ![4, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c0_i32 : BitVec 32 := 0#32
  let v2 : BitVec 32 := Scalar.addi v1 c0_i32
  let v3 : BitVec 32 := Scalar.addi v2 arg2
  let c0_i32_0 : BitVec 32 := 0#32
  let c0_i32_1 : BitVec 32 := 0#32
  ![arg0.toNat, c0_i32_0.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c24_i32 : BitVec 32 := 24#32
  let v2 : BitVec 32 := Scalar.addi v1 c24_i32
  let v3 : BitVec 32 := Scalar.addi v2 arg2
  let c0_i32 : BitVec 32 := 0#32
  let c0_i32_0 : BitVec 32 := 0#32
  ![arg0.toNat, c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c48_i32 : BitVec 32 := 48#32
  let v2 : BitVec 32 := Scalar.addi v1 c48_i32
  let v3 : BitVec 32 := Scalar.addi v2 arg2
  let c0_i32 : BitVec 32 := 0#32
  let c0_i32_0 : BitVec 32 := 0#32
  ![arg0.toNat, c0_i32.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Band0RefIdeal.lean ====
abbrev S8192x24576 : Shape := ⟨2, ![8192, 24576]⟩
abbrev S4x128 : Shape := ⟨2, ![4, 128]⟩
abbrev S2048 : Shape := ⟨1, ![2048]⟩
abbrev S8192x9216 : Shape := ⟨2, ![8192, 9216]⟩
abbrev S4x2048x3x3x8x128 : Shape := ⟨6, ![4, 2048, 3, 3, 8, 128]⟩
abbrev S4x2048x1x1x8x128 : Shape := ⟨6, ![4, 2048, 1, 1, 8, 128]⟩
abbrev S4x2048x8x128 : Shape := ⟨4, ![4, 2048, 8, 128]⟩
abbrev S1x128 : Shape := ⟨2, ![1, 128]⟩
abbrev S128 : Shape := ⟨1, ![128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x8x2048x2048 : Shape := ⟨4, ![4, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x1024 : Shape := ⟨3, ![4, 2048, 1024]⟩
abbrev S4x128x8x128 : Shape := ⟨4, ![4, 128, 8, 128]⟩
abbrev S4x128x1x8x128 : Shape := ⟨5, ![4, 128, 1, 8, 128]⟩
abbrev S4x128x2x8x128 : Shape := ⟨5, ![4, 128, 2, 8, 128]⟩

abbrev nBuf : Space → Nat
  | .hbm => 184
  | .vmem => 0
  | .smem => 0
  | _ => 0

abbrev hbmTy0_0 (i : Nat) : BufTy := match i % 128 with
  | 0 => ⟨S8192x24576, .f32⟩
  | 1 => ⟨S4x128, .f32⟩
  | 2 => ⟨S4x128, .f32⟩
  | 3 => ⟨S2048, .i32⟩
  | 4 => ⟨S8192x9216, .f32⟩
  | 5 => ⟨S4x2048x3x3x8x128, .f32⟩
  | 6 => ⟨S4x2048x1x1x8x128, .f32⟩
  | 7 => ⟨S4x2048x8x128, .f32⟩
  | 8 => ⟨S1x128, .f32⟩
  | 9 => ⟨S128, .f32⟩
  | 10 => ⟨S4x2048x8x128, .f32⟩
  | 11 => ⟨S_, .f32⟩
  | 12 => ⟨S4x2048x8, .f32⟩
  | 13 => ⟨S4x2048x8x1, .f32⟩
  | 14 => ⟨S_, .f32⟩
  | 15 => ⟨S4x2048x8x1, .f32⟩
  | 16 => ⟨S4x2048x8x1, .f32⟩
  | 17 => ⟨S_, .f32⟩
  | 18 => ⟨S4x2048x8x1, .f32⟩
  | 19 => ⟨S4x2048x8x1, .f32⟩
  | 20 => ⟨S4x2048x8x1, .f32⟩
  | 21 => ⟨S4x2048x8x128, .f32⟩
  | 22 => ⟨S4x2048x8x128, .f32⟩
  | 23 => ⟨S1x1x1x128, .f32⟩
  | 24 => ⟨S4x2048x8x128, .f32⟩
  | 25 => ⟨S4x2048x8x128, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S2048, .f32⟩
  | 35 => ⟨S2048x1, .f32⟩
  | 36 => ⟨S1x64, .f32⟩
  | 37 => ⟨S2048x64, .f32⟩
  | 38 => ⟨S2048x64, .f32⟩
  | 39 => ⟨S2048x64, .f32⟩
  | 40 => ⟨S2048x64, .f32⟩
  | 41 => ⟨S1x2048x1x64, .f32⟩
  | 42 => ⟨S2048x64, .f32⟩
  | 43 => ⟨S1x2048x1x64, .f32⟩
  | 44 => ⟨S4x2048x8x64, .f32⟩
  | 45 => ⟨S4x2048x8x64, .f32⟩
  | 46 => ⟨S4x2048x8x64, .f32⟩
  | 47 => ⟨S4x2048x8x64, .f32⟩
  | 48 => ⟨S4x2048x8x64, .f32⟩
  | 49 => ⟨S4x2048x8x64, .f32⟩
  | 50 => ⟨S4x2048x8x64, .f32⟩
  | 51 => ⟨S4x2048x8x64, .f32⟩
  | 52 => ⟨S4x2048x8x64, .f32⟩
  | 53 => ⟨S4x2048x8x64, .f32⟩
  | 54 => ⟨S4x2048x8x64, .f32⟩
  | 55 => ⟨S4x2048x8x64, .f32⟩
  | 56 => ⟨S4x2048x8x128, .f32⟩
  | 57 => ⟨S4x2048x1x1x8x128, .f32⟩
  | 58 => ⟨S4x2048x8x128, .f32⟩
  | 59 => ⟨S1x128, .f32⟩
  | 60 => ⟨S128, .f32⟩
  | 61 => ⟨S4x2048x8x128, .f32⟩
  | 62 => ⟨S_, .f32⟩
  | 63 => ⟨S4x2048x8, .f32⟩
  | 64 => ⟨S4x2048x8x1, .f32⟩
  | 65 => ⟨S_, .f32⟩
  | 66 => ⟨S4x2048x8x1, .f32⟩
  | 67 => ⟨S4x2048x8x1, .f32⟩
  | 68 => ⟨S_, .f32⟩
  | 69 => ⟨S4x2048x8x1, .f32⟩
  | 70 => ⟨S4x2048x8x1, .f32⟩
  | 71 => ⟨S4x2048x8x1, .f32⟩
  | 72 => ⟨S4x2048x8x128, .f32⟩
  | 73 => ⟨S4x2048x8x128, .f32⟩
  | 74 => ⟨S1x1x1x128, .f32⟩
  | 75 => ⟨S4x2048x8x128, .f32⟩
  | 76 => ⟨S4x2048x8x128, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S2048, .f32⟩
  | 86 => ⟨S2048x1, .f32⟩
  | 87 => ⟨S1x64, .f32⟩
  | 88 => ⟨S2048x64, .f32⟩
  | 89 => ⟨S2048x64, .f32⟩
  | 90 => ⟨S2048x64, .f32⟩
  | 91 => ⟨S2048x64, .f32⟩
  | 92 => ⟨S1x2048x1x64, .f32⟩
  | 93 => ⟨S2048x64, .f32⟩
  | 94 => ⟨S1x2048x1x64, .f32⟩
  | 95 => ⟨S4x2048x8x64, .f32⟩
  | 96 => ⟨S4x2048x8x64, .f32⟩
  | 97 => ⟨S4x2048x8x64, .f32⟩
  | 98 => ⟨S4x2048x8x64, .f32⟩
  | 99 => ⟨S4x2048x8x64, .f32⟩
  | 100 => ⟨S4x2048x8x64, .f32⟩
  | 101 => ⟨S4x2048x8x64, .f32⟩
  | 102 => ⟨S4x2048x8x64, .f32⟩
  | 103 => ⟨S4x2048x8x64, .f32⟩
  | 104 => ⟨S4x2048x8x64, .f32⟩
  | 105 => ⟨S4x2048x8x64, .f32⟩
  | 106 => ⟨S4x2048x8x64, .f32⟩
  | 107 => ⟨S4x2048x8x128, .f32⟩
  | 108 => ⟨S4x2048x1x1x8x128, .f32⟩
  | 109 => ⟨S4x2048x8x128, .f32⟩
  | 110 => ⟨S4x8x2048x2048, .f32⟩
  | 111 => ⟨S_, .f32⟩
  | 112 => ⟨S4x8x2048x2048, .f32⟩
  | 113 => ⟨S4x8x2048x2048, .f32⟩
  | 114 => ⟨S2048x1, .i32⟩
  | 115 => ⟨S1x2048, .i32⟩
  | 116 => ⟨S2048x2048, .i32⟩
  | 117 => ⟨S2048x2048, .i32⟩
  | 118 => ⟨S2048x2048, .i32⟩
  | 119 => ⟨S_, .i32⟩
  | 120 => ⟨S2048x2048, .i32⟩
  | 121 => ⟨S2048x2048, .i1⟩
  | 122 => ⟨S_, .i32⟩
  | 123 => ⟨S2048x2048, .i32⟩
  | 124 => ⟨S2048x2048, .i1⟩
  | 125 => ⟨S2048x2048, .i1⟩
  | 126 => ⟨S_, .i32⟩
  | 127 => ⟨S_, .i32⟩
  | _ => ⟨S8192x24576, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S2048x2048, .i32⟩
  | 5 => ⟨S2048x2048, .i32⟩
  | 6 => ⟨S_, .i32⟩
  | 7 => ⟨S2048x2048, .i32⟩
  | 8 => ⟨S2048x2048, .i1⟩
  | 9 => ⟨S_, .i32⟩
  | 10 => ⟨S2048x2048, .i32⟩
  | 11 => ⟨S2048x2048, .i1⟩
  | 12 => ⟨S_, .i32⟩
  | 13 => ⟨S_, .i1⟩
  | 14 => ⟨S2048x2048, .i1⟩
  | 15 => ⟨S2048x2048, .i1⟩
  | 16 => ⟨S2048x2048, .i1⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S2048x2048, .i1⟩
  | 24 => ⟨S1x1x2048x2048, .i1⟩
  | 25 => ⟨S_, .f32⟩
  | 26 => ⟨S_, .f32⟩
  | 27 => ⟨S4x8x2048x2048, .i1⟩
  | 28 => ⟨S4x8x2048x2048, .f32⟩
  | 29 => ⟨S4x8x2048x2048, .f32⟩
  | 30 => ⟨S_, .f32⟩
  | 31 => ⟨S4x8x2048, .f32⟩
  | 32 => ⟨S4x8x2048x1, .f32⟩
  | 33 => ⟨S4x8x2048x2048, .f32⟩
  | 34 => ⟨S4x8x2048x2048, .f32⟩
  | 35 => ⟨S4x8x2048x2048, .f32⟩
  | 36 => ⟨S_, .f32⟩
  | 37 => ⟨S4x8x2048, .f32⟩
  | 38 => ⟨S4x8x2048, .f32⟩
  | 39 => ⟨S4x8x2048, .f32⟩
  | 40 => ⟨S4x8x2048x1, .f32⟩
  | 41 => ⟨S4x8x2048x2048, .f32⟩
  | 42 => ⟨S4x8x2048x2048, .f32⟩
  | 43 => ⟨S4x8x2048x2048, .f32⟩
  | 44 => ⟨S4x8x128x2048, .f32⟩
  | 45 => ⟨S4x2048x8x128, .f32⟩
  | 46 => ⟨S4x2048x8, .f32⟩
  | 47 => ⟨S4x2048x8x1, .f32⟩
  | 48 => ⟨S4x2048x8x128, .f32⟩
  | 49 => ⟨S4x2048x1024, .f32⟩
  | 50 => ⟨S4x2048x1024, .f32⟩
  | 51 => ⟨S4x128x8x128, .f32⟩
  | 52 => ⟨S4x128x8x128, .f32⟩
  | 53 => ⟨S4x128x1x8x128, .f32⟩
  | 54 => ⟨S4x128x1x8x128, .f32⟩
  | 55 => ⟨S4x128x2x8x128, .f32⟩
  | _ => ⟨S8192x24576, .f32⟩

abbrev hbmTy (i : Nat) : BufTy := match i / 128 with
  | 0 => hbmTy0_0 i
  | 1 => hbmTy0_1 i
  | _ => ⟨S8192x24576, .f32⟩

abbrev bufTy : (tb : Table) → Fin (tcTables nBuf tb) → BufTy
  | .hbm, ⟨i, _⟩ => hbmTy i
  | _, _ => ⟨S8192x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_7 : Ref sig .tc := ⟨.hbm, 79, rfl⟩
abbrev main_v68 : Ref sig .tc := ⟨.hbm, 80, rfl⟩
abbrev main_v69 : Ref sig .tc := ⟨.hbm, 81, rfl⟩
abbrev main_cst_8 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_c : Ref sig .tc := ⟨.hbm, 119, rfl⟩
abbrev main_v105 : Ref sig .tc := ⟨.hbm, 120, rfl⟩
abbrev main_v106 : Ref sig .tc := ⟨.hbm, 121, rfl⟩
abbrev main_c_10 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_c_11 : Ref sig .tc := ⟨.hbm, 126, rfl⟩
abbrev main_call0_v0 : Ref sig .tc := ⟨.hbm, 127, rfl⟩
abbrev main_call0_c : Ref sig .tc := ⟨.hbm, 128, rfl⟩
abbrev main_call0_v1 : Ref sig .tc := ⟨.hbm, 129, rfl⟩
abbrev main_call0_c_0 : Ref sig .tc := ⟨.hbm, 130, rfl⟩
abbrev main_call0_v2 : Ref sig .tc := ⟨.hbm, 131, rfl⟩
abbrev main_call0_v3 : Ref sig .tc := ⟨.hbm, 132, rfl⟩
abbrev main_call0_v4 : Ref sig .tc := ⟨.hbm, 133, rfl⟩
abbrev main_call0_c_1 : Ref sig .tc := ⟨.hbm, 134, rfl⟩
abbrev main_call0_v5 : Ref sig .tc := ⟨.hbm, 135, rfl⟩
abbrev main_call0_v6 : Ref sig .tc := ⟨.hbm, 136, rfl⟩
abbrev main_call0_c_2 : Ref sig .tc := ⟨.hbm, 137, rfl⟩
abbrev main_call0_v7 : Ref sig .tc := ⟨.hbm, 138, rfl⟩
abbrev main_call0_v8 : Ref sig .tc := ⟨.hbm, 139, rfl⟩
abbrev main_call0_c_3 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_call0_v12 : Ref sig .tc := ⟨.hbm, 144, rfl⟩
abbrev main_call0_v13 : Ref sig .tc := ⟨.hbm, 145, rfl⟩
abbrev main_call0_v14 : Ref sig .tc := ⟨.hbm, 146, rfl⟩
abbrev main_v110 : Ref sig .tc := ⟨.hbm, 147, rfl⟩
abbrev main_c_12 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_13 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v115 : Ref sig .tc := ⟨.hbm, 157, rfl⟩
abbrev main_cst_14 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_15 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩

abbrev nD : Nat := 1
abbrev τ : Topo := Topo.v7x

variable {F : FTy → Type} [FloatOps F]
-- ==== Band1.lean ====
abbrev S8192x24576 : Shape := ⟨2, ![8192, 24576]⟩
abbrev S4x128 : Shape := ⟨2, ![4, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x512x98304 : Shape := ⟨3, ![4, 512, 98304]⟩
abbrev S512x512 : Shape := ⟨2, ![512, 512]⟩
abbrev S4x1x128 : Shape := ⟨3, ![4, 1, 128]⟩
abbrev S4x512x4096 : Shape := ⟨3, ![4, 512, 4096]⟩
abbrev S4x128x4096 : Shape := ⟨3, ![4, 128, 4096]⟩
abbrev S1x512x128 : Shape := ⟨3, ![1, 512, 128]⟩
abbrev S512x128 : Shape := ⟨2, ![512, 128]⟩
abbrev S1x1x128 : Shape := ⟨3, ![1, 1, 128]⟩
abbrev S1x128x128 : Shape := ⟨3, ![1, 128, 128]⟩
abbrev S1x128 : Shape := ⟨2, ![1, 128]⟩
abbrev S512 : Shape := ⟨1, ![512]⟩
abbrev S512x1 : Shape := ⟨2, ![512, 1]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S128x256 : Shape := ⟨2, ![128, 256]⟩
abbrev S4x512x8x128 : Shape := ⟨4, ![4, 512, 8, 128]⟩
abbrev S4x2048x24576 : Shape := ⟨3, ![4, 2048, 24576]⟩
abbrev S4x512x1024 : Shape := ⟨3, ![4, 512, 1024]⟩
abbrev S4x512x1x8x128 : Shape := ⟨5, ![4, 512, 1, 8, 128]⟩
abbrev S4x512x2x8x128 : Shape := ⟨5, ![4, 512, 2, 8, 128]⟩

abbrev nBuf : Space → Nat
  | .hbm => 38
  | .vmem => 18
  | .smem => 0
  | _ => 0

abbrev bufTy : (tb : Table) → Fin (tcTables nBuf tb) → BufTy
  | .hbm, ⟨0, _⟩ => ⟨S8192x24576, .f32⟩
  | .hbm, ⟨1, _⟩ => ⟨S4x128, .f32⟩
  | .hbm, ⟨2, _⟩ => ⟨S4x128, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S4x512x98304, .f32⟩
  | .hbm, ⟨24, _⟩ => ⟨S512x512, .f32⟩
  | .hbm, ⟨25, _⟩ => ⟨S512x512, .f32⟩
  | .hbm, ⟨26, _⟩ => ⟨S4x1x128, .f32⟩
  | .hbm, ⟨27, _⟩ => ⟨S4x1x128, .f32⟩
  | .hbm, ⟨28, _⟩ => ⟨S4x512x4096, .f32⟩
  | .hbm, ⟨29, _⟩ => ⟨S4x512x4096, .f32⟩
  | .hbm, ⟨30, _⟩ => ⟨S4x128x4096, .f32⟩
  | .hbm, ⟨31, _⟩ => ⟨S4x512x8x128, .f32⟩
  | .hbm, ⟨32, _⟩ => ⟨S4x2048x24576, .f32⟩
  | .hbm, ⟨33, _⟩ => ⟨S4x512x1024, .f32⟩
  | .hbm, ⟨34, _⟩ => ⟨S4x512x8x128, .f32⟩
  | .hbm, ⟨35, _⟩ => ⟨S4x512x1x8x128, .f32⟩
  | .hbm, ⟨36, _⟩ => ⟨S4x512x1x8x128, .f32⟩
  | .hbm, ⟨37, _⟩ => ⟨S4x512x2x8x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1x128, .f32⟩
  | .local _ .vmem, ⟨11, _⟩ => ⟨S1x1x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x128x128, .f32⟩
  | .local _ .vmem, ⟨17, _⟩ => ⟨S1x128x128, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c8_i32 : BitVec 32 := 8#32
  let v2 : BitVec 32 := Scalar.addi v1 c8_i32
  let v3 : BitVec 32 := Scalar.addi v2 arg2
  let c0_i32 : BitVec 32 := 0#32
  let c0_i32_0 : BitVec 32 := 0#32
  ![arg0.toNat, c0_i32.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c32_i32 : BitVec 32 := 32#32
  let v2 : BitVec 32 := Scalar.addi v1 c32_i32
  let v3 : BitVec 32 := Scalar.addi v2 arg2
  let c0_i32 : BitVec 32 := 0#32
  let c0_i32_0 : BitVec 32 := 0#32
  ![arg0.toNat, c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c56_i32_0 : BitVec 32 := 56#32
  let v2 : BitVec 32 := Scalar.addi v1 c56_i32_0
  let v3 : BitVec 32 := Scalar.addi v2 arg2
  let c0_i32 : BitVec 32 := 0#32
  let c0_i32_1 : BitVec 32 := 0#32
  ![arg0.toNat, c0_i32.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Band1Ideal.lean ====
abbrev S8192x24576 : Shape := ⟨2, ![8192, 24576]⟩
abbrev S4x128 : Shape := ⟨2, ![4, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x512x98304 : Shape := ⟨3, ![4, 512, 98304]⟩
abbrev S512x512 : Shape := ⟨2, ![512, 512]⟩
abbrev S4x1x128 : Shape := ⟨3, ![4, 1, 128]⟩
abbrev S4x512x4096 : Shape := ⟨3, ![4, 512, 4096]⟩
abbrev S4x128x4096 : Shape := ⟨3, ![4, 128, 4096]⟩
abbrev S1x512x128 : Shape := ⟨3, ![1, 512, 128]⟩
abbrev S512x128 : Shape := ⟨2, ![512, 128]⟩
abbrev S1x1x128 : Shape := ⟨3, ![1, 1, 128]⟩
abbrev S1x128x128 : Shape := ⟨3, ![1, 128, 128]⟩
abbrev S1x128 : Shape := ⟨2, ![1, 128]⟩
abbrev S512 : Shape := ⟨1, ![512]⟩
abbrev S512x1 : Shape := ⟨2, ![512, 1]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S128x256 : Shape := ⟨2, ![128, 256]⟩
abbrev S4x512x8x128 : Shape := ⟨4, ![4, 512, 8, 128]⟩
abbrev S4x2048x24576 : Shape := ⟨3, ![4, 2048, 24576]⟩
abbrev S4x512x1024 : Shape := ⟨3, ![4, 512, 1024]⟩
abbrev S4x512x1x8x128 : Shape := ⟨5, ![4, 512, 1, 8, 128]⟩
abbrev S4x512x2x8x128 : Shape := ⟨5, ![4, 512, 2, 8, 128]⟩

abbrev nBuf : Space → Nat
  | .hbm => 38
  | .vmem => 18
  | .smem => 0
  | _ => 0

abbrev bufTy : (tb : Table) → Fin (tcTables nBuf tb) → BufTy
  | .hbm, ⟨0, _⟩ => ⟨S8192x24576, .f32⟩
  | .hbm, ⟨1, _⟩ => ⟨S4x128, .f32⟩
  | .hbm, ⟨2, _⟩ => ⟨S4x128, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S4x512x98304, .f32⟩
  | .hbm, ⟨24, _⟩ => ⟨S512x512, .f32⟩
  | .hbm, ⟨25, _⟩ => ⟨S512x512, .f32⟩
  | .hbm, ⟨26, _⟩ => ⟨S4x1x128, .f32⟩
  | .hbm, ⟨27, _⟩ => ⟨S4x1x128, .f32⟩
  | .hbm, ⟨28, _⟩ => ⟨S4x512x4096, .f32⟩
  | .hbm, ⟨29, _⟩ => ⟨S4x512x4096, .f32⟩
  | .hbm, ⟨30, _⟩ => ⟨S4x128x4096, .f32⟩
  | .hbm, ⟨31, _⟩ => ⟨S4x512x8x128, .f32⟩
  | .hbm, ⟨32, _⟩ => ⟨S4x2048x24576, .f32⟩
  | .hbm, ⟨33, _⟩ => ⟨S4x512x1024, .f32⟩
  | .hbm, ⟨34, _⟩ => ⟨S4x512x8x128, .f32⟩
  | .hbm, ⟨35, _⟩ => ⟨S4x512x1x8x128, .f32⟩
  | .hbm, ⟨36, _⟩ => ⟨S4x512x1x8x128, .f32⟩
  | .hbm, ⟨37, _⟩ => ⟨S4x512x2x8x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1x128, .f32⟩
  | .local _ .vmem, ⟨11, _⟩ => ⟨S1x1x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x128x128, .f32⟩
  | .local _ .vmem, ⟨17, _⟩ => ⟨S1x128x128, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F] [Named F]

def κ : String → Option EReal := fun
  | "mask" => some ⊥
  | _ => none

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c8_i32 : BitVec 32 := 8#32
  let v2 : BitVec 32 := Scalar.addi v1 c8_i32
  let v3 : BitVec 32 := Scalar.addi v2 arg2
  let c0_i32 : BitVec 32 := 0#32
  let c0_i32_0 : BitVec 32 := 0#32
  ![arg0.toNat, c0_i32.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c32_i32 : BitVec 32 := 32#32
  let v2 : BitVec 32 := Scalar.addi v1 c32_i32
  let v3 : BitVec 32 := Scalar.addi v2 arg2
  let c0_i32 : BitVec 32 := 0#32
  let c0_i32_0 : BitVec 32 := 0#32
  ![arg0.toNat, c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c56_i32_0 : BitVec 32 := 56#32
  let v2 : BitVec 32 := Scalar.addi v1 c56_i32_0
  let v3 : BitVec 32 := Scalar.addi v2 arg2
  let c0_i32 : BitVec 32 := 0#32
  let c0_i32_1 : BitVec 32 := 0#32
  ![arg0.toNat, c0_i32.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Band1RefIdeal.lean ====
abbrev S8192x24576 : Shape := ⟨2, ![8192, 24576]⟩
abbrev S4x128 : Shape := ⟨2, ![4, 128]⟩
abbrev S2048 : Shape := ⟨1, ![2048]⟩
abbrev S8192x9216 : Shape := ⟨2, ![8192, 9216]⟩
abbrev S4x2048x3x3x8x128 : Shape := ⟨6, ![4, 2048, 3, 3, 8, 128]⟩
abbrev S4x2048x1x1x8x128 : Shape := ⟨6, ![4, 2048, 1, 1, 8, 128]⟩
abbrev S4x2048x8x128 : Shape := ⟨4, ![4, 2048, 8, 128]⟩
abbrev S1x128 : Shape := ⟨2, ![1, 128]⟩
abbrev S128 : Shape := ⟨1, ![128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x8x2048x2048 : Shape := ⟨4, ![4, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x512x4096 : Shape := ⟨3, ![4, 512, 4096]⟩
abbrev S4x512x8x128 : Shape := ⟨4, ![4, 512, 8, 128]⟩
abbrev S4x512x1x8x128 : Shape := ⟨5, ![4, 512, 1, 8, 128]⟩
abbrev S4x512x2x8x128 : Shape := ⟨5, ![4, 512, 2, 8, 128]⟩

abbrev nBuf : Space → Nat
  | .hbm => 184
  | .vmem => 0
  | .smem => 0
  | _ => 0

abbrev hbmTy0_0 (i : Nat) : BufTy := match i % 128 with
  | 0 => ⟨S8192x24576, .f32⟩
  | 1 => ⟨S4x128, .f32⟩
  | 2 => ⟨S4x128, .f32⟩
  | 3 => ⟨S2048, .i32⟩
  | 4 => ⟨S8192x9216, .f32⟩
  | 5 => ⟨S4x2048x3x3x8x128, .f32⟩
  | 6 => ⟨S4x2048x1x1x8x128, .f32⟩
  | 7 => ⟨S4x2048x8x128, .f32⟩
  | 8 => ⟨S1x128, .f32⟩
  | 9 => ⟨S128, .f32⟩
  | 10 => ⟨S4x2048x8x128, .f32⟩
  | 11 => ⟨S_, .f32⟩
  | 12 => ⟨S4x2048x8, .f32⟩
  | 13 => ⟨S4x2048x8x1, .f32⟩
  | 14 => ⟨S_, .f32⟩
  | 15 => ⟨S4x2048x8x1, .f32⟩
  | 16 => ⟨S4x2048x8x1, .f32⟩
  | 17 => ⟨S_, .f32⟩
  | 18 => ⟨S4x2048x8x1, .f32⟩
  | 19 => ⟨S4x2048x8x1, .f32⟩
  | 20 => ⟨S4x2048x8x1, .f32⟩
  | 21 => ⟨S4x2048x8x128, .f32⟩
  | 22 => ⟨S4x2048x8x128, .f32⟩
  | 23 => ⟨S1x1x1x128, .f32⟩
  | 24 => ⟨S4x2048x8x128, .f32⟩
  | 25 => ⟨S4x2048x8x128, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S2048, .f32⟩
  | 35 => ⟨S2048x1, .f32⟩
  | 36 => ⟨S1x64, .f32⟩
  | 37 => ⟨S2048x64, .f32⟩
  | 38 => ⟨S2048x64, .f32⟩
  | 39 => ⟨S2048x64, .f32⟩
  | 40 => ⟨S2048x64, .f32⟩
  | 41 => ⟨S1x2048x1x64, .f32⟩
  | 42 => ⟨S2048x64, .f32⟩
  | 43 => ⟨S1x2048x1x64, .f32⟩
  | 44 => ⟨S4x2048x8x64, .f32⟩
  | 45 => ⟨S4x2048x8x64, .f32⟩
  | 46 => ⟨S4x2048x8x64, .f32⟩
  | 47 => ⟨S4x2048x8x64, .f32⟩
  | 48 => ⟨S4x2048x8x64, .f32⟩
  | 49 => ⟨S4x2048x8x64, .f32⟩
  | 50 => ⟨S4x2048x8x64, .f32⟩
  | 51 => ⟨S4x2048x8x64, .f32⟩
  | 52 => ⟨S4x2048x8x64, .f32⟩
  | 53 => ⟨S4x2048x8x64, .f32⟩
  | 54 => ⟨S4x2048x8x64, .f32⟩
  | 55 => ⟨S4x2048x8x64, .f32⟩
  | 56 => ⟨S4x2048x8x128, .f32⟩
  | 57 => ⟨S4x2048x1x1x8x128, .f32⟩
  | 58 => ⟨S4x2048x8x128, .f32⟩
  | 59 => ⟨S1x128, .f32⟩
  | 60 => ⟨S128, .f32⟩
  | 61 => ⟨S4x2048x8x128, .f32⟩
  | 62 => ⟨S_, .f32⟩
  | 63 => ⟨S4x2048x8, .f32⟩
  | 64 => ⟨S4x2048x8x1, .f32⟩
  | 65 => ⟨S_, .f32⟩
  | 66 => ⟨S4x2048x8x1, .f32⟩
  | 67 => ⟨S4x2048x8x1, .f32⟩
  | 68 => ⟨S_, .f32⟩
  | 69 => ⟨S4x2048x8x1, .f32⟩
  | 70 => ⟨S4x2048x8x1, .f32⟩
  | 71 => ⟨S4x2048x8x1, .f32⟩
  | 72 => ⟨S4x2048x8x128, .f32⟩
  | 73 => ⟨S4x2048x8x128, .f32⟩
  | 74 => ⟨S1x1x1x128, .f32⟩
  | 75 => ⟨S4x2048x8x128, .f32⟩
  | 76 => ⟨S4x2048x8x128, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S2048, .f32⟩
  | 86 => ⟨S2048x1, .f32⟩
  | 87 => ⟨S1x64, .f32⟩
  | 88 => ⟨S2048x64, .f32⟩
  | 89 => ⟨S2048x64, .f32⟩
  | 90 => ⟨S2048x64, .f32⟩
  | 91 => ⟨S2048x64, .f32⟩
  | 92 => ⟨S1x2048x1x64, .f32⟩
  | 93 => ⟨S2048x64, .f32⟩
  | 94 => ⟨S1x2048x1x64, .f32⟩
  | 95 => ⟨S4x2048x8x64, .f32⟩
  | 96 => ⟨S4x2048x8x64, .f32⟩
  | 97 => ⟨S4x2048x8x64, .f32⟩
  | 98 => ⟨S4x2048x8x64, .f32⟩
  | 99 => ⟨S4x2048x8x64, .f32⟩
  | 100 => ⟨S4x2048x8x64, .f32⟩
  | 101 => ⟨S4x2048x8x64, .f32⟩
  | 102 => ⟨S4x2048x8x64, .f32⟩
  | 103 => ⟨S4x2048x8x64, .f32⟩
  | 104 => ⟨S4x2048x8x64, .f32⟩
  | 105 => ⟨S4x2048x8x64, .f32⟩
  | 106 => ⟨S4x2048x8x64, .f32⟩
  | 107 => ⟨S4x2048x8x128, .f32⟩
  | 108 => ⟨S4x2048x1x1x8x128, .f32⟩
  | 109 => ⟨S4x2048x8x128, .f32⟩
  | 110 => ⟨S4x8x2048x2048, .f32⟩
  | 111 => ⟨S_, .f32⟩
  | 112 => ⟨S4x8x2048x2048, .f32⟩
  | 113 => ⟨S4x8x2048x2048, .f32⟩
  | 114 => ⟨S2048x1, .i32⟩
  | 115 => ⟨S1x2048, .i32⟩
  | 116 => ⟨S2048x2048, .i32⟩
  | 117 => ⟨S2048x2048, .i32⟩
  | 118 => ⟨S2048x2048, .i32⟩
  | 119 => ⟨S_, .i32⟩
  | 120 => ⟨S2048x2048, .i32⟩
  | 121 => ⟨S2048x2048, .i1⟩
  | 122 => ⟨S_, .i32⟩
  | 123 => ⟨S2048x2048, .i32⟩
  | 124 => ⟨S2048x2048, .i1⟩
  | 125 => ⟨S2048x2048, .i1⟩
  | 126 => ⟨S_, .i32⟩
  | 127 => ⟨S_, .i32⟩
  | _ => ⟨S8192x24576, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S2048x2048, .i32⟩
  | 5 => ⟨S2048x2048, .i32⟩
  | 6 => ⟨S_, .i32⟩
  | 7 => ⟨S2048x2048, .i32⟩
  | 8 => ⟨S2048x2048, .i1⟩
  | 9 => ⟨S_, .i32⟩
  | 10 => ⟨S2048x2048, .i32⟩
  | 11 => ⟨S2048x2048, .i1⟩
  | 12 => ⟨S_, .i32⟩
  | 13 => ⟨S_, .i1⟩
  | 14 => ⟨S2048x2048, .i1⟩
  | 15 => ⟨S2048x2048, .i1⟩
  | 16 => ⟨S2048x2048, .i1⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S2048x2048, .i1⟩
  | 24 => ⟨S1x1x2048x2048, .i1⟩
  | 25 => ⟨S_, .f32⟩
  | 26 => ⟨S_, .f32⟩
  | 27 => ⟨S4x8x2048x2048, .i1⟩
  | 28 => ⟨S4x8x2048x2048, .f32⟩
  | 29 => ⟨S4x8x2048x2048, .f32⟩
  | 30 => ⟨S_, .f32⟩
  | 31 => ⟨S4x8x2048, .f32⟩
  | 32 => ⟨S4x8x2048x1, .f32⟩
  | 33 => ⟨S4x8x2048x2048, .f32⟩
  | 34 => ⟨S4x8x2048x2048, .f32⟩
  | 35 => ⟨S4x8x2048x2048, .f32⟩
  | 36 => ⟨S_, .f32⟩
  | 37 => ⟨S4x8x2048, .f32⟩
  | 38 => ⟨S4x8x2048, .f32⟩
  | 39 => ⟨S4x8x2048, .f32⟩
  | 40 => ⟨S4x8x2048x1, .f32⟩
  | 41 => ⟨S4x8x2048x2048, .f32⟩
  | 42 => ⟨S4x8x2048x2048, .f32⟩
  | 43 => ⟨S4x8x2048x2048, .f32⟩
  | 44 => ⟨S4x8x128x2048, .f32⟩
  | 45 => ⟨S4x2048x8x128, .f32⟩
  | 46 => ⟨S4x2048x8, .f32⟩
  | 47 => ⟨S4x2048x8x1, .f32⟩
  | 48 => ⟨S4x2048x8x128, .f32⟩
  | 49 => ⟨S4x512x4096, .f32⟩
  | 50 => ⟨S4x512x4096, .f32⟩
  | 51 => ⟨S4x512x8x128, .f32⟩
  | 52 => ⟨S4x512x8x128, .f32⟩
  | 53 => ⟨S4x512x1x8x128, .f32⟩
  | 54 => ⟨S4x512x1x8x128, .f32⟩
  | 55 => ⟨S4x512x2x8x128, .f32⟩
  | _ => ⟨S8192x24576, .f32⟩

abbrev hbmTy (i : Nat) : BufTy := match i / 128 with
  | 0 => hbmTy0_0 i
  | 1 => hbmTy0_1 i
  | _ => ⟨S8192x24576, .f32⟩

abbrev bufTy : (tb : Table) → Fin (tcTables nBuf tb) → BufTy
  | .hbm, ⟨i, _⟩ => hbmTy i
  | _, _ => ⟨S8192x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_7 : Ref sig .tc := ⟨.hbm, 79, rfl⟩
abbrev main_v68 : Ref sig .tc := ⟨.hbm, 80, rfl⟩
abbrev main_v69 : Ref sig .tc := ⟨.hbm, 81, rfl⟩
abbrev main_cst_8 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_c : Ref sig .tc := ⟨.hbm, 119, rfl⟩
abbrev main_v105 : Ref sig .tc := ⟨.hbm, 120, rfl⟩
abbrev main_v106 : Ref sig .tc := ⟨.hbm, 121, rfl⟩
abbrev main_c_10 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_c_11 : Ref sig .tc := ⟨.hbm, 126, rfl⟩
abbrev main_call0_v0 : Ref sig .tc := ⟨.hbm, 127, rfl⟩
abbrev main_call0_c : Ref sig .tc := ⟨.hbm, 128, rfl⟩
abbrev main_call0_v1 : Ref sig .tc := ⟨.hbm, 129, rfl⟩
abbrev main_call0_c_0 : Ref sig .tc := ⟨.hbm, 130, rfl⟩
abbrev main_call0_v2 : Ref sig .tc := ⟨.hbm, 131, rfl⟩
abbrev main_call0_v3 : Ref sig .tc := ⟨.hbm, 132, rfl⟩
abbrev main_call0_v4 : Ref sig .tc := ⟨.hbm, 133, rfl⟩
abbrev main_call0_c_1 : Ref sig .tc := ⟨.hbm, 134, rfl⟩
abbrev main_call0_v5 : Ref sig .tc := ⟨.hbm, 135, rfl⟩
abbrev main_call0_v6 : Ref sig .tc := ⟨.hbm, 136, rfl⟩
abbrev main_call0_c_2 : Ref sig .tc := ⟨.hbm, 137, rfl⟩
abbrev main_call0_v7 : Ref sig .tc := ⟨.hbm, 138, rfl⟩
abbrev main_call0_v8 : Ref sig .tc := ⟨.hbm, 139, rfl⟩
abbrev main_call0_c_3 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_call0_v12 : Ref sig .tc := ⟨.hbm, 144, rfl⟩
abbrev main_call0_v13 : Ref sig .tc := ⟨.hbm, 145, rfl⟩
abbrev main_call0_v14 : Ref sig .tc := ⟨.hbm, 146, rfl⟩
abbrev main_v110 : Ref sig .tc := ⟨.hbm, 147, rfl⟩
abbrev main_c_12 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_13 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v115 : Ref sig .tc := ⟨.hbm, 157, rfl⟩
abbrev main_cst_14 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_15 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩

abbrev nD : Nat := 1
abbrev τ : Topo := Topo.v7x

variable {F : FTy → Type} [FloatOps F]
-- ==== Band2.lean ====
abbrev S8192x24576 : Shape := ⟨2, ![8192, 24576]⟩
abbrev S4x128 : Shape := ⟨2, ![4, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x128x393216 : Shape := ⟨3, ![4, 128, 393216]⟩
abbrev S128x2048 : Shape := ⟨2, ![128, 2048]⟩
abbrev S4x1x128 : Shape := ⟨3, ![4, 1, 128]⟩
abbrev S4x128x16384 : Shape := ⟨3, ![4, 128, 16384]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S4x2048x8x128 : Shape := ⟨4, ![4, 2048, 8, 128]⟩
abbrev S4x2048x24576 : Shape := ⟨3, ![4, 2048, 24576]⟩
abbrev S4x2048x1024 : Shape := ⟨3, ![4, 2048, 1024]⟩
abbrev S4x2048x1x8x128 : Shape := ⟨5, ![4, 2048, 1, 8, 128]⟩
abbrev S4x2048x2x8x128 : Shape := ⟨5, ![4, 2048, 2, 8, 128]⟩

abbrev nBuf : Space → Nat
  | .hbm => 38
  | .vmem => 18
  | .smem => 0
  | _ => 0

abbrev bufTy : (tb : Table) → Fin (tcTables nBuf tb) → BufTy
  | .hbm, ⟨0, _⟩ => ⟨S8192x24576, .f32⟩
  | .hbm, ⟨1, _⟩ => ⟨S4x128, .f32⟩
  | .hbm, ⟨2, _⟩ => ⟨S4x128, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S4x128x393216, .f32⟩
  | .hbm, ⟨24, _⟩ => ⟨S128x2048, .f32⟩
  | .hbm, ⟨25, _⟩ => ⟨S128x2048, .f32⟩
  | .hbm, ⟨26, _⟩ => ⟨S4x1x128, .f32⟩
  | .hbm, ⟨27, _⟩ => ⟨S4x1x128, .f32⟩
  | .hbm, ⟨28, _⟩ => ⟨S4x128x16384, .f32⟩
  | .hbm, ⟨29, _⟩ => ⟨S4x128x16384, .f32⟩
  | .hbm, ⟨30, _⟩ => ⟨S4x128x16384, .f32⟩
  | .hbm, ⟨31, _⟩ => ⟨S4x2048x8x128, .f32⟩
  | .hbm, ⟨32, _⟩ => ⟨S4x2048x24576, .f32⟩
  | .hbm, ⟨33, _⟩ => ⟨S4x2048x1024, .f32⟩
  | .hbm, ⟨34, _⟩ => ⟨S4x2048x8x128, .f32⟩
  | .hbm, ⟨35, _⟩ => ⟨S4x2048x1x8x128, .f32⟩
  | .hbm, ⟨36, _⟩ => ⟨S4x2048x1x8x128, .f32⟩
  | .hbm, ⟨37, _⟩ => ⟨S4x2048x2x8x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x1x128, .f32⟩
  | .local _ .vmem, ⟨11, _⟩ => ⟨S1x1x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c16_i32 : BitVec 32 := 16#32
  let v2 : BitVec 32 := Scalar.addi v1 c16_i32
  let v3 : BitVec 32 := Scalar.addi v2 arg2
  let c0_i32 : BitVec 32 := 0#32
  let c0_i32_0 : BitVec 32 := 0#32
  ![arg0.toNat, c0_i32.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c40_i32 : BitVec 32 := 40#32
  let v2 : BitVec 32 := Scalar.addi v1 c40_i32
  let v3 : BitVec 32 := Scalar.addi v2 arg2
  let c0_i32 : BitVec 32 := 0#32
  let c0_i32_0 : BitVec 32 := 0#32
  ![arg0.toNat, c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.muli arg1 c192_i32
  let c56_i32 : BitVec 32 := 56#32
  let v1 : BitVec 32 := Scalar.addi v0 c56_i32
  let c64_i32 : BitVec 32 := 64#32
  let v2 : BitVec 32 := Scalar.addi v1 c64_i32
  let v3 : BitVec 32 := Scalar.addi v2 arg2
  let c0_i32 : BitVec 32 := 0#32
  let c0_i32_0 : BitVec 32 := 0#32
  ![arg0.toNat, c0_i32.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Band2Ideal.lean ====
variable {F : FTy → Type} [FloatOps F] [Named F]
def κ : String → Option EReal := fun
  | "mask" => some ⊥
  | _ => none
-- ==== Band2RefIdeal.lean ====
abbrev S8192x24576 : Shape := ⟨2, ![8192, 24576]⟩
abbrev S4x128 : Shape := ⟨2, ![4, 128]⟩
abbrev S2048 : Shape := ⟨1, ![2048]⟩
abbrev S8192x9216 : Shape := ⟨2, ![8192, 9216]⟩
abbrev S4x2048x3x3x8x128 : Shape := ⟨6, ![4, 2048, 3, 3, 8, 128]⟩
abbrev S4x2048x1x1x8x128 : Shape := ⟨6, ![4, 2048, 1, 1, 8, 128]⟩
abbrev S4x2048x8x128 : Shape := ⟨4, ![4, 2048, 8, 128]⟩
abbrev S1x128 : Shape := ⟨2, ![1, 128]⟩
abbrev S128 : Shape := ⟨1, ![128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x8x2048x2048 : Shape := ⟨4, ![4, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x128x16384 : Shape := ⟨3, ![4, 128, 16384]⟩
abbrev S4x2048x1x8x128 : Shape := ⟨5, ![4, 2048, 1, 8, 128]⟩
abbrev S4x2048x2x8x128 : Shape := ⟨5, ![4, 2048, 2, 8, 128]⟩

abbrev nBuf : Space → Nat
  | .hbm => 182
  | .vmem => 0
  | .smem => 0
  | _ => 0

abbrev hbmTy0_0 (i : Nat) : BufTy := match i % 128 with
  | 0 => ⟨S8192x24576, .f32⟩
  | 1 => ⟨S4x128, .f32⟩
  | 2 => ⟨S4x128, .f32⟩
  | 3 => ⟨S2048, .i32⟩
  | 4 => ⟨S8192x9216, .f32⟩
  | 5 => ⟨S4x2048x3x3x8x128, .f32⟩
  | 6 => ⟨S4x2048x1x1x8x128, .f32⟩
  | 7 => ⟨S4x2048x8x128, .f32⟩
  | 8 => ⟨S1x128, .f32⟩
  | 9 => ⟨S128, .f32⟩
  | 10 => ⟨S4x2048x8x128, .f32⟩
  | 11 => ⟨S_, .f32⟩
  | 12 => ⟨S4x2048x8, .f32⟩
  | 13 => ⟨S4x2048x8x1, .f32⟩
  | 14 => ⟨S_, .f32⟩
  | 15 => ⟨S4x2048x8x1, .f32⟩
  | 16 => ⟨S4x2048x8x1, .f32⟩
  | 17 => ⟨S_, .f32⟩
  | 18 => ⟨S4x2048x8x1, .f32⟩
  | 19 => ⟨S4x2048x8x1, .f32⟩
  | 20 => ⟨S4x2048x8x1, .f32⟩
  | 21 => ⟨S4x2048x8x128, .f32⟩
  | 22 => ⟨S4x2048x8x128, .f32⟩
  | 23 => ⟨S1x1x1x128, .f32⟩
  | 24 => ⟨S4x2048x8x128, .f32⟩
  | 25 => ⟨S4x2048x8x128, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S2048, .f32⟩
  | 35 => ⟨S2048x1, .f32⟩
  | 36 => ⟨S1x64, .f32⟩
  | 37 => ⟨S2048x64, .f32⟩
  | 38 => ⟨S2048x64, .f32⟩
  | 39 => ⟨S2048x64, .f32⟩
  | 40 => ⟨S2048x64, .f32⟩
  | 41 => ⟨S1x2048x1x64, .f32⟩
  | 42 => ⟨S2048x64, .f32⟩
  | 43 => ⟨S1x2048x1x64, .f32⟩
  | 44 => ⟨S4x2048x8x64, .f32⟩
  | 45 => ⟨S4x2048x8x64, .f32⟩
  | 46 => ⟨S4x2048x8x64, .f32⟩
  | 47 => ⟨S4x2048x8x64, .f32⟩
  | 48 => ⟨S4x2048x8x64, .f32⟩
  | 49 => ⟨S4x2048x8x64, .f32⟩
  | 50 => ⟨S4x2048x8x64, .f32⟩
  | 51 => ⟨S4x2048x8x64, .f32⟩
  | 52 => ⟨S4x2048x8x64, .f32⟩
  | 53 => ⟨S4x2048x8x64, .f32⟩
  | 54 => ⟨S4x2048x8x64, .f32⟩
  | 55 => ⟨S4x2048x8x64, .f32⟩
  | 56 => ⟨S4x2048x8x128, .f32⟩
  | 57 => ⟨S4x2048x1x1x8x128, .f32⟩
  | 58 => ⟨S4x2048x8x128, .f32⟩
  | 59 => ⟨S1x128, .f32⟩
  | 60 => ⟨S128, .f32⟩
  | 61 => ⟨S4x2048x8x128, .f32⟩
  | 62 => ⟨S_, .f32⟩
  | 63 => ⟨S4x2048x8, .f32⟩
  | 64 => ⟨S4x2048x8x1, .f32⟩
  | 65 => ⟨S_, .f32⟩
  | 66 => ⟨S4x2048x8x1, .f32⟩
  | 67 => ⟨S4x2048x8x1, .f32⟩
  | 68 => ⟨S_, .f32⟩
  | 69 => ⟨S4x2048x8x1, .f32⟩
  | 70 => ⟨S4x2048x8x1, .f32⟩
  | 71 => ⟨S4x2048x8x1, .f32⟩
  | 72 => ⟨S4x2048x8x128, .f32⟩
  | 73 => ⟨S4x2048x8x128, .f32⟩
  | 74 => ⟨S1x1x1x128, .f32⟩
  | 75 => ⟨S4x2048x8x128, .f32⟩
  | 76 => ⟨S4x2048x8x128, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S2048, .f32⟩
  | 86 => ⟨S2048x1, .f32⟩
  | 87 => ⟨S1x64, .f32⟩
  | 88 => ⟨S2048x64, .f32⟩
  | 89 => ⟨S2048x64, .f32⟩
  | 90 => ⟨S2048x64, .f32⟩
  | 91 => ⟨S2048x64, .f32⟩
  | 92 => ⟨S1x2048x1x64, .f32⟩
  | 93 => ⟨S2048x64, .f32⟩
  | 94 => ⟨S1x2048x1x64, .f32⟩
  | 95 => ⟨S4x2048x8x64, .f32⟩
  | 96 => ⟨S4x2048x8x64, .f32⟩
  | 97 => ⟨S4x2048x8x64, .f32⟩
  | 98 => ⟨S4x2048x8x64, .f32⟩
  | 99 => ⟨S4x2048x8x64, .f32⟩
  | 100 => ⟨S4x2048x8x64, .f32⟩
  | 101 => ⟨S4x2048x8x64, .f32⟩
  | 102 => ⟨S4x2048x8x64, .f32⟩
  | 103 => ⟨S4x2048x8x64, .f32⟩
  | 104 => ⟨S4x2048x8x64, .f32⟩
  | 105 => ⟨S4x2048x8x64, .f32⟩
  | 106 => ⟨S4x2048x8x64, .f32⟩
  | 107 => ⟨S4x2048x8x128, .f32⟩
  | 108 => ⟨S4x2048x1x1x8x128, .f32⟩
  | 109 => ⟨S4x2048x8x128, .f32⟩
  | 110 => ⟨S4x8x2048x2048, .f32⟩
  | 111 => ⟨S_, .f32⟩
  | 112 => ⟨S4x8x2048x2048, .f32⟩
  | 113 => ⟨S4x8x2048x2048, .f32⟩
  | 114 => ⟨S2048x1, .i32⟩
  | 115 => ⟨S1x2048, .i32⟩
  | 116 => ⟨S2048x2048, .i32⟩
  | 117 => ⟨S2048x2048, .i32⟩
  | 118 => ⟨S2048x2048, .i32⟩
  | 119 => ⟨S_, .i32⟩
  | 120 => ⟨S2048x2048, .i32⟩
  | 121 => ⟨S2048x2048, .i1⟩
  | 122 => ⟨S_, .i32⟩
  | 123 => ⟨S2048x2048, .i32⟩
  | 124 => ⟨S2048x2048, .i1⟩
  | 125 => ⟨S2048x2048, .i1⟩
  | 126 => ⟨S_, .i32⟩
  | 127 => ⟨S_, .i32⟩
  | _ => ⟨S8192x24576, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S2048x2048, .i32⟩
  | 5 => ⟨S2048x2048, .i32⟩
  | 6 => ⟨S_, .i32⟩
  | 7 => ⟨S2048x2048, .i32⟩
  | 8 => ⟨S2048x2048, .i1⟩
  | 9 => ⟨S_, .i32⟩
  | 10 => ⟨S2048x2048, .i32⟩
  | 11 => ⟨S2048x2048, .i1⟩
  | 12 => ⟨S_, .i32⟩
  | 13 => ⟨S_, .i1⟩
  | 14 => ⟨S2048x2048, .i1⟩
  | 15 => ⟨S2048x2048, .i1⟩
  | 16 => ⟨S2048x2048, .i1⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S2048x2048, .i1⟩
  | 24 => ⟨S1x1x2048x2048, .i1⟩
  | 25 => ⟨S_, .f32⟩
  | 26 => ⟨S_, .f32⟩
  | 27 => ⟨S4x8x2048x2048, .i1⟩
  | 28 => ⟨S4x8x2048x2048, .f32⟩
  | 29 => ⟨S4x8x2048x2048, .f32⟩
  | 30 => ⟨S_, .f32⟩
  | 31 => ⟨S4x8x2048, .f32⟩
  | 32 => ⟨S4x8x2048x1, .f32⟩
  | 33 => ⟨S4x8x2048x2048, .f32⟩
  | 34 => ⟨S4x8x2048x2048, .f32⟩
  | 35 => ⟨S4x8x2048x2048, .f32⟩
  | 36 => ⟨S_, .f32⟩
  | 37 => ⟨S4x8x2048, .f32⟩
  | 38 => ⟨S4x8x2048, .f32⟩
  | 39 => ⟨S4x8x2048, .f32⟩
  | 40 => ⟨S4x8x2048x1, .f32⟩
  | 41 => ⟨S4x8x2048x2048, .f32⟩
  | 42 => ⟨S4x8x2048x2048, .f32⟩
  | 43 => ⟨S4x8x2048x2048, .f32⟩
  | 44 => ⟨S4x8x128x2048, .f32⟩
  | 45 => ⟨S4x2048x8x128, .f32⟩
  | 46 => ⟨S4x2048x8, .f32⟩
  | 47 => ⟨S4x2048x8x1, .f32⟩
  | 48 => ⟨S4x2048x8x128, .f32⟩
  | 49 => ⟨S4x128x16384, .f32⟩
  | 50 => ⟨S4x128x16384, .f32⟩
  | 51 => ⟨S4x2048x1x8x128, .f32⟩
  | 52 => ⟨S4x2048x1x8x128, .f32⟩
  | 53 => ⟨S4x2048x2x8x128, .f32⟩
  | _ => ⟨S8192x24576, .f32⟩

abbrev hbmTy (i : Nat) : BufTy := match i / 128 with
  | 0 => hbmTy0_0 i
  | 1 => hbmTy0_1 i
  | _ => ⟨S8192x24576, .f32⟩

abbrev bufTy : (tb : Table) → Fin (tcTables nBuf tb) → BufTy
  | .hbm, ⟨i, _⟩ => hbmTy i
  | _, _ => ⟨S8192x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_7 : Ref sig .tc := ⟨.hbm, 79, rfl⟩
abbrev main_v68 : Ref sig .tc := ⟨.hbm, 80, rfl⟩
abbrev main_v69 : Ref sig .tc := ⟨.hbm, 81, rfl⟩
abbrev main_cst_8 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_c : Ref sig .tc := ⟨.hbm, 119, rfl⟩
abbrev main_v105 : Ref sig .tc := ⟨.hbm, 120, rfl⟩
abbrev main_v106 : Ref sig .tc := ⟨.hbm, 121, rfl⟩
abbrev main_c_10 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_c_11 : Ref sig .tc := ⟨.hbm, 126, rfl⟩
abbrev main_call0_v0 : Ref sig .tc := ⟨.hbm, 127, rfl⟩
abbrev main_call0_c : Ref sig .tc := ⟨.hbm, 128, rfl⟩
abbrev main_call0_v1 : Ref sig .tc := ⟨.hbm, 129, rfl⟩
abbrev main_call0_c_0 : Ref sig .tc := ⟨.hbm, 130, rfl⟩
abbrev main_call0_v2 : Ref sig .tc := ⟨.hbm, 131, rfl⟩
abbrev main_call0_v3 : Ref sig .tc := ⟨.hbm, 132, rfl⟩
abbrev main_call0_v4 : Ref sig .tc := ⟨.hbm, 133, rfl⟩
abbrev main_call0_c_1 : Ref sig .tc := ⟨.hbm, 134, rfl⟩
abbrev main_call0_v5 : Ref sig .tc := ⟨.hbm, 135, rfl⟩
abbrev main_call0_v6 : Ref sig .tc := ⟨.hbm, 136, rfl⟩
abbrev main_call0_c_2 : Ref sig .tc := ⟨.hbm, 137, rfl⟩
abbrev main_call0_v7 : Ref sig .tc := ⟨.hbm, 138, rfl⟩
abbrev main_call0_v8 : Ref sig .tc := ⟨.hbm, 139, rfl⟩
abbrev main_call0_c_3 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_call0_v12 : Ref sig .tc := ⟨.hbm, 144, rfl⟩
abbrev main_call0_v13 : Ref sig .tc := ⟨.hbm, 145, rfl⟩
abbrev main_call0_v14 : Ref sig .tc := ⟨.hbm, 146, rfl⟩
abbrev main_v110 : Ref sig .tc := ⟨.hbm, 147, rfl⟩
abbrev main_c_12 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_13 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v115 : Ref sig .tc := ⟨.hbm, 157, rfl⟩
abbrev main_cst_14 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_15 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩

abbrev nD : Nat := 1
abbrev τ : Topo := Topo.v7x

variable {F : FTy → Type} [FloatOps F]
-- ==== Combine.lean ====
abbrev S8192x1024 : Shape := ⟨2, ![8192, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S8192x1024 : Shape := ⟨2, ![8192, 1024]⟩
abbrev S8192x1x1024 : Shape := ⟨3, ![8192, 1, 1024]⟩
abbrev S8192x3x1024 : Shape := ⟨3, ![8192, 3, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1x1024, .f32⟩
  | .hbm, ⟨7, _⟩ => ⟨S8192x1x1024, .f32⟩
  | .hbm, ⟨8, _⟩ => ⟨S8192x1x1024, .f32⟩
  | .hbm, ⟨9, _⟩ => ⟨S8192x3x1024, .f32⟩
  | .hbm, ⟨10, _⟩ => ⟨S_, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1x1024, .f32⟩
  | .hbm, ⟨16, _⟩ => ⟨S8192x3x1024, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x1024, .f32⟩
  | .hbm, ⟨21, _⟩ => ⟨S8192x1x1024, .f32⟩
  | .hbm, ⟨22, _⟩ => ⟨S8192x3x1024, .f32⟩
  | .hbm, ⟨23, _⟩ => ⟨S8192x3x1024, .f32⟩
  | .hbm, ⟨24, _⟩ => ⟨S8192x1x1024, .f32⟩
  | .hbm, ⟨25, _⟩ => ⟨S8192x1x1024, .f32⟩
  | .hbm, ⟨26, _⟩ => ⟨S8192x1x1024, .f32⟩
  | .hbm, ⟨27, _⟩ => ⟨S8192x3x1024, .f32⟩
  | .hbm, ⟨28, _⟩ => ⟨S8192x3x1024, .f32⟩
  | .hbm, ⟨29, _⟩ => ⟨S_, .f32⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Norm.lean ====
abbrev S8192x4096 : Shape := ⟨2, ![8192, 4096]⟩
abbrev S4x4096 : Shape := ⟨2, ![4, 4096]⟩
abbrev S4x1x4096 : Shape := ⟨3, ![4, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S4x1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== InProj.lean ====
abbrev S8192x4096 : Shape := ⟨2, ![8192, 4096]⟩
abbrev S4x4096x24288 : Shape := ⟨3, ![4, 4096, 24288]⟩
abbrev S1x4096x24288 : Shape := ⟨3, ![1, 4096, 24288]⟩
abbrev S4096x24288 : Shape := ⟨2, ![4096, 24288]⟩
abbrev S4096x6880 : Shape := ⟨2, ![4096, 6880]⟩
abbrev S_ : Shape := ⟨0, ![]⟩
abbrev S4096x288 : Shape := ⟨2, ![4096, 288]⟩
abbrev S4096x9216 : Shape := ⟨2, ![4096, 9216]⟩
abbrev S4096x8192 : Shape := ⟨2, ![4096, 8192]⟩
abbrev S4096x24576 : Shape := ⟨2, ![4096, 24576]⟩
abbrev S8192x24576 : Shape := ⟨2, ![8192, 24576]⟩
abbrev S1024x4096 : Shape := ⟨2, ![1024, 4096]⟩
abbrev S4096x1024 : Shape := ⟨2, ![4096, 1024]⟩
abbrev S1024x1024 : Shape := ⟨2, ![1024, 1024]⟩
abbrev S4x2048x24576 : Shape := ⟨3, ![4, 2048, 24576]⟩
abbrev S4x1x6880 : Shape := ⟨3, ![4, 1, 6880]⟩
abbrev S4x6880 : Shape := ⟨2, ![4, 6880]⟩

abbrev nBuf : Space → Nat
  | .hbm => 17
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x24288, .f32⟩
  | .hbm, ⟨2, _⟩ => ⟨S1x4096x24288, .f32⟩
  | .hbm, ⟨3, _⟩ => ⟨S4096x24288, .f32⟩
  | .hbm, ⟨4, _⟩ => ⟨S4096x6880, .f32⟩
  | .hbm, ⟨5, _⟩ => ⟨S4096x6880, .bf16⟩
  | .hbm, ⟨6, _⟩ => ⟨S_, .bf16⟩
  | .hbm, ⟨7, _⟩ => ⟨S4096x288, .bf16⟩
  | .hbm, ⟨8, _⟩ => ⟨S4096x9216, .f32⟩
  | .hbm, ⟨9, _⟩ => ⟨S4096x9216, .bf16⟩
  | .hbm, ⟨10, _⟩ => ⟨S4096x8192, .f32⟩
  | .hbm, ⟨11, _⟩ => ⟨S4096x8192, .bf16⟩
  | .hbm, ⟨12, _⟩ => ⟨S4096x24576, .bf16⟩
  | .hbm, ⟨13, _⟩ => ⟨S8192x24576, .f32⟩
  | .hbm, ⟨14, _⟩ => ⟨S4x2048x24576, .f32⟩
  | .hbm, ⟨15, _⟩ => ⟨S4x1x6880, .f32⟩
  | .hbm, ⟨16, _⟩ => ⟨S4x6880, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x4096 : Shape := ⟨2, ![8192, 4096]⟩
abbrev S4x4096x24288 : Shape := ⟨3, ![4, 4096, 24288]⟩
abbrev S1x4096x24288 : Shape := ⟨3, ![1, 4096, 24288]⟩
abbrev S4096x24288 : Shape := ⟨2, ![4096, 24288]⟩
abbrev S8192x24288 : Shape := ⟨2, ![8192, 24288]⟩
abbrev S8192x9216 : Shape := ⟨2, ![8192, 9216]⟩
abbrev S8192x6880 : Shape := ⟨2, ![8192, 6880]⟩
abbrev S8192x8192 : Shape := ⟨2, ![8192, 8192]⟩
abbrev S4x2048x6880 : Shape := ⟨3, ![4, 2048, 6880]⟩
abbrev S4x1x6880 : Shape := ⟨3, ![4, 1, 6880]⟩
abbrev S4x6880 : Shape := ⟨2, ![4, 6880]⟩
abbrev S_ : Shape := ⟨0, ![]⟩
abbrev S8192x288 : Shape := ⟨2, ![8192, 288]⟩
abbrev S8192x24576 : Shape := ⟨2, ![8192, 24576]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x24288, .f32⟩
  | .hbm, ⟨2, _⟩ => ⟨S8192x4096, .f32⟩
  | .hbm, ⟨3, _⟩ => ⟨S1x4096x24288, .f32⟩
  | .hbm, ⟨4, _⟩ => ⟨S4096x24288, .f32⟩
  | .hbm, ⟨5, _⟩ => ⟨S8192x24288, .f32⟩
  | .hbm, ⟨6, _⟩ => ⟨S8192x9216, .f32⟩
  | .hbm, ⟨7, _⟩ => ⟨S8192x6880, .f32⟩
  | .hbm, ⟨8, _⟩ => ⟨S8192x8192, .f32⟩
  | .hbm, ⟨9, _⟩ => ⟨S4x2048x6880, .f32⟩
  | .hbm, ⟨10, _⟩ => ⟨S4x1x6880, .f32⟩
  | .hbm, ⟨11, _⟩ => ⟨S4x6880, .f32⟩
  | .hbm, ⟨12, _⟩ => ⟨S_, .f32⟩
  | .hbm, ⟨13, _⟩ => ⟨S8192x288, .f32⟩
  | .hbm, ⟨14, _⟩ => ⟨S8192x24576, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== AttOut.lean ====
abbrev S8192x1024 : Shape := ⟨2, ![8192, 1024]⟩
abbrev S4x1024x4096 : Shape := ⟨3, ![4, 1024, 4096]⟩
abbrev S8192x24576 : Shape := ⟨2, ![8192, 24576]⟩
abbrev S1x1024x4096 : Shape := ⟨3, ![1, 1024, 4096]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x1024x4096, .f32⟩
  | .hbm, ⟨2, _⟩ => ⟨S8192x24576, .f32⟩
  | .hbm, ⟨3, _⟩ => ⟨S1x1024x4096, .f32⟩
  | .hbm, ⟨4, _⟩ => ⟨S1024x4096, .f32⟩
  | .hbm, ⟨5, _⟩ => ⟨S1024x4096, .bf16⟩
  | .hbm, ⟨6, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttOutRefIdeal.lean ====
abbrev S8192x1024 : Shape := ⟨2, ![8192, 1024]⟩
abbrev S4x1024x4096 : Shape := ⟨3, ![4, 1024, 4096]⟩
abbrev S8192x24576 : Shape := ⟨2, ![8192, 24576]⟩
abbrev S8192x4096 : Shape := ⟨2, ![8192, 4096]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x4096, .f32⟩
  | .hbm, ⟨2, _⟩ => ⟨S8192x24576, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S1x1024x4096, .f32⟩
  | .hbm, ⟨14, _⟩ => ⟨S1024x4096, .f32⟩
  | .hbm, ⟨15, _⟩ => ⟨S8192x4096, .f32⟩
  | .hbm, ⟨16, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Merge.lean ====
abbrev S8192x2048 : Shape := ⟨2, ![8192, 2048]⟩
abbrev S4x2048x4096 : Shape := ⟨3, ![4, 2048, 4096]⟩
abbrev S8192x24576 : Shape := ⟨2, ![8192, 24576]⟩
abbrev S8192x4096 : Shape := ⟨2, ![8192, 4096]⟩
abbrev S1x2048x4096 : Shape := ⟨3, ![1, 2048, 4096]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x4096, .f32⟩
  | .hbm, ⟨2, _⟩ => ⟨S8192x24576, .f32⟩
  | .hbm, ⟨3, _⟩ => ⟨S8192x4096, .f32⟩
  | .hbm, ⟨4, _⟩ => ⟨S1x2048x4096, .f32⟩
  | .hbm, ⟨5, _⟩ => ⟨S2048x4096, .f32⟩
  | .hbm, ⟨6, _⟩ => ⟨S2048x4096, .bf16⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi arg1 c20_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MergeRefIdeal.lean ====
abbrev S8192x2048 : Shape := ⟨2, ![8192, 2048]⟩
abbrev S4x2048x4096 : Shape := ⟨3, ![4, 2048, 4096]⟩
abbrev S8192x24576 : Shape := ⟨2, ![8192, 24576]⟩
abbrev S8192x4096 : Shape := ⟨2, ![8192, 4096]⟩
abbrev S_ : Shape := ⟨0, ![]⟩
abbrev S1x2048x4096 : Shape := ⟨3, ![1, 2048, 4096]⟩
abbrev S2048x4096 : Shape := ⟨2, ![2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x4096, .f32⟩
  | .hbm, ⟨2, _⟩ => ⟨S8192x24576, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x2048, .f32⟩
  | .hbm, ⟨14, _⟩ => ⟨S1x2048x4096, .f32⟩
  | .hbm, ⟨15, _⟩ => ⟨S2048x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Out.lean ====
abbrev S8192x4096 : Shape := ⟨2, ![8192, 4096]⟩
abbrev S4x4096x4096 : Shape := ⟨3, ![4, 4096, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x4096 : Shape := ⟨2, ![8192, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUp.lean ====
abbrev S8192x4096 : Shape := ⟨2, ![8192, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x16384, .f32⟩
  | .hbm, ⟨2, _⟩ => ⟨S1x4096x16384, .f32⟩
  | .hbm, ⟨3, _⟩ => ⟨S4096x16384, .f32⟩
  | .hbm, ⟨4, _⟩ => ⟨S4096x16384, .bf16⟩
  | .hbm, ⟨5, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x4096 : Shape := ⟨2, ![8192, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnDown.lean ====
abbrev S8192x16384 : Shape := ⟨2, ![8192, 16384]⟩
abbrev S4x16384x4096 : Shape := ⟨3, ![4, 16384, 4096]⟩
abbrev S8192x4096 : Shape := ⟨2, ![8192, 4096]⟩
abbrev S1x16384x4096 : Shape := ⟨3, ![1, 16384, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x16384, .bf16⟩
  | .hbm, ⟨1, _⟩ => ⟨S4x16384x4096, .f32⟩
  | .hbm, ⟨2, _⟩ => ⟨S8192x4096, .f32⟩
  | .hbm, ⟨3, _⟩ => ⟨S1x16384x4096, .f32⟩
  | .hbm, ⟨4, _⟩ => ⟨S16384x4096, .f32⟩
  | .hbm, ⟨5, _⟩ => ⟨S16384x4096, .bf16⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x16384 : Shape := ⟨2, ![8192, 16384]⟩
abbrev S4x16384x4096 : Shape := ⟨3, ![4, 16384, 4096]⟩
abbrev S8192x4096 : Shape := ⟨2, ![8192, 4096]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S4x16384x4096, .f32⟩
  | .hbm, ⟨2, _⟩ => ⟨S8192x4096, .f32⟩
  | .hbm, ⟨3, _⟩ => ⟨S8192x16384, .f32⟩
  | .hbm, ⟨4, _⟩ => ⟨S1x16384x4096, .f32⟩
  | .hbm, ⟨5, _⟩ => ⟨S16384x4096, .f32⟩
  | .hbm, ⟨6, _⟩ => ⟨S8192x4096, .f32⟩
  | .hbm, ⟨7, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Consts.lean ====
/- The float constants of the attention's programs as the extended reals they denote. -/
module

public import Idealize.ShloMosaic.PureOps.Ideal

@[expose] public section

noncomputable section

namespace Cert.Consts

open Idealize.ShloMosaic

/-- The width of a head, `128`. -/
theorem bits_128 : Ideal.ofBits .f32 0x43000000#32 = ((128 : ℝ) : EReal) := by
  simp [Ideal.ofBits, Ideal.ieee, -EReal.coe_mul]; norm_num

/-- Half the width, `64`. -/
theorem bits_64 : Ideal.ofBits .f32 0x42800000#32 = ((64 : ℝ) : EReal) := by
  simp [Ideal.ofBits, Ideal.ieee, -EReal.coe_mul]; norm_num

/-- The rotary base, `10000`. -/
theorem bits_10000 : Ideal.ofBits .f32 0x461C4000#32 = ((10000 : ℝ) : EReal) := by
  simp [Ideal.ofBits, Ideal.ieee, -EReal.coe_mul]; norm_num

/-- The norm's small constant is a positive real. -/
theorem bits_eps : ∃ e : ℝ, 0 < e ∧ Ideal.ofBits .f32 0x358637BD#32 = (e : EReal) := by
  refine ⟨(1 * (8388608 + 407485 : Nat) * (2 : ℝ) ^ ((107 : Int) - 150) : ℝ), by positivity, ?_⟩
  simp [Ideal.ofBits, Ideal.ieee, -EReal.coe_mul]

/-- The pattern of `-∞`. -/
theorem bits_bot : Ideal.ofBits .f32 0xFF800000#32 = ⊥ := by
  simp [Ideal.ofBits, Ideal.ieee, -EReal.coe_mul]

/-- The pattern of `+∞`. -/
theorem bits_top : Ideal.ofBits .f32 0x7F800000#32 = ⊤ := by
  simp [Ideal.ofBits, Ideal.ieee, -EReal.coe_mul]

end Cert.Consts

end
-- ==== Proof.AttnMath.lean ====
/- The mathematics of windowed attention on the extended reals, apart from any program: a head's normalized and rotated
   vector is real when its gain is, a softmax over all keys with the keys outside the window at `-∞` is the softmax over
   the window, and dividing the weighted sum is weighting by the divided weights. -/
module

public import Idealize.ShloMosaic.PureOps.Ideal
public import proofs.«01_k».proof.Proof.Consts

@[expose] public section

noncomputable section

namespace Cert.AttnMath

open Idealize.ShloMosaic

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {n : Nat} {f : Fin n → EReal} (h : ∀ i, IsReal (f i)) : IsReal (∑ i, f i) := by
  choose r hr using h
  exact ⟨∑ i, r i, by rw [← coe_sum]; exact Finset.sum_congr rfl fun i _ => hr i⟩

/-- Below `+∞` and above `-∞` is real. -/
theorem isReal_of_abs_lt {x : EReal} (h : max x (-x) < ⊤) : IsReal x := by
  induction x with
  | bot => simp at h
  | top => simp at h
  | coe r => exact ⟨r, rfl⟩

/-! ## The normalized vector is real -/

theorem mul_self_nonneg' (x : EReal) : 0 ≤ x * x := by
  induction x with
  | bot => simp
  | top => simp
  | coe r => rw [← EReal.coe_mul]; exact_mod_cast mul_self_nonneg r

theorem mul_self_top {x : EReal} (h : ¬ IsReal x) : x * x = ⊤ := by
  induction x with
  | bot => simp
  | top => simp
  | coe r => exact (h ⟨r, rfl⟩).elim

/-- `x` times the reciprocal root of the mean square of its vector: real, whatever the vector holds. -/
theorem isReal_nrm {n : Nat} (x : Fin n → EReal) (d : Fin n) {c e : ℝ} (hc : 0 < c) (he : 0 < e) :
    IsReal (x d * Ideal.rsqrt (Ideal.div (∑ k, x k * x k) (c : EReal) + (e : EReal))) := by
  have hc0 : (c : EReal) ≠ 0 := by exact_mod_cast hc.ne'
  by_cases hall : ∀ k, IsReal (x k)
  · choose r hr using hall
    have hs : ∑ k, x k * x k = ((∑ k, r k * r k : ℝ) : EReal) := by
      rw [← coe_sum]; exact Finset.sum_congr rfl fun k _ => by rw [hr k, EReal.coe_mul]
    have hpos : 0 < (∑ k, r k * r k) * c⁻¹ + e :=
      add_pos_of_nonneg_of_pos (mul_nonneg (Finset.sum_nonneg fun k _ => mul_self_nonneg _) (inv_nonneg.mpr hc.le)) he
    have hd : Ideal.div (∑ k, x k * x k) (c : EReal) + (e : EReal) = (((∑ k, r k * r k) * c⁻¹ + e : ℝ) : EReal) := by
      rw [Ideal.div, if_neg hc0, hs, ← EReal.coe_inv, ← EReal.coe_mul, ← EReal.coe_add]
    rw [hd, Ideal.rsqrt_coe, if_neg (not_lt.mpr hpos.le), if_neg hpos.ne', hr d, ← EReal.coe_mul]
    exact ⟨_, rfl⟩
  · obtain ⟨k, hk⟩ := not_forall.mp hall
    have hs : ∑ k, x k * x k = ⊤ := by
      refine top_le_iff.mp ?_
      rw [← mul_self_top hk]
      exact Finset.single_le_sum (f := fun k => x k * x k) (fun i _ => mul_self_nonneg' (x i)) (Finset.mem_univ k)
    rw [hs, Ideal.div, if_neg hc0, ← EReal.coe_inv, EReal.top_mul_coe_of_pos (inv_pos.mpr hc), EReal.top_add_coe,
      Ideal.rsqrt_top, mul_zero]
    exact ⟨0, rfl⟩

/-! ## Softmax over a window -/

/-- The largest score. -/
def mx {n : Nat} (s : Fin n → EReal) : EReal := Finset.univ.fold max ⊥ s

/-- The softmax's denominator, under the largest score. -/
def den {n : Nat} (s : Fin n → EReal) : EReal := ∑ k, Ideal.exp (s k - mx s)

theorem le_mx {n : Nat} (s : Fin n → EReal) (k : Fin n) : s k ≤ mx s := by
  rw [mx, Finset.le_fold_max]; exact .inr ⟨k, Finset.mem_univ k, le_rfl⟩

theorem mx_le {n : Nat} (s : Fin n → EReal) {b : EReal} (h : ∀ k, s k ≤ b) : mx s ≤ b := by
  rw [mx, Finset.fold_max_le]; exact ⟨bot_le, fun k _ => h k⟩

/-- Every score is real or masked out, and some score is real. -/
structure Scores {n : Nat} (s : Fin n → EReal) : Prop where
  real : ∀ k, s k = ⊥ ∨ IsReal (s k)
  some : ∃ k, IsReal (s k)

theorem Scores.mx_real {n : Nat} {s : Fin n → EReal} (h : Scores s) : IsReal (mx s) := by
  obtain ⟨k, r, hr⟩ := h.some
  have hb : mx s ≠ ⊥ := fun e => by
    have := le_mx s k; rw [e, hr] at this; exact absurd this (by simp)
  have ht : mx s ≠ ⊤ := fun e => by
    have hlt : mx s < ⊤ := by
      rw [mx, Finset.fold_max_lt]
      refine ⟨bot_lt_top, fun k _ => ?_⟩
      rcases h.real k with h | ⟨r, h⟩ <;> rw [h]
      · exact bot_lt_top
      · exact EReal.coe_lt_top r
    exact absurd e hlt.ne
  exact ⟨(mx s).toReal, (EReal.coe_toReal ht hb).symm⟩

/-- The weights before the division, as nonnegative reals: zero exactly on the masked keys; and their sum, positive. -/
theorem Scores.weights {n : Nat} {s : Fin n → EReal} (h : Scores s) :
    ∃ (μ : ℝ) (e : Fin n → ℝ), mx s = (μ : EReal) ∧ 0 < ∑ k, e k ∧ den s = ((∑ k, e k : ℝ) : EReal)
      ∧ ∀ k, Ideal.exp (s k - mx s) = (e k : EReal)
        ∧ Ideal.exp (s k - (mx s + Ideal.log (den s))) = ((e k * (∑ k, e k)⁻¹ : ℝ) : EReal) := by
  obtain ⟨μ, hμ⟩ := h.mx_real
  have hex : ∀ k, ∃ e : ℝ, 0 ≤ e ∧ Ideal.exp (s k - mx s) = (e : EReal) ∧ (IsReal (s k) → 0 < e)
      ∧ ∀ D : ℝ, 0 < D → Ideal.exp (s k - ((μ + Real.log D : ℝ) : EReal)) = ((e * D⁻¹ : ℝ) : EReal) := by
    intro k
    rcases h.real k with hk | ⟨r, hk⟩
    · refine ⟨0, le_rfl, by rw [hk, hμ]; simp, fun ⟨r, hr⟩ => by rw [hk] at hr; exact absurd hr (by simp), fun D _ => ?_⟩
      rw [hk]; simp
    · refine ⟨Real.exp (r - μ), (Real.exp_pos _).le, by rw [hk, hμ, ← EReal.coe_sub, Ideal.exp_coe], fun _ => Real.exp_pos _,
        fun D hD => ?_⟩
      rw [hk, ← EReal.coe_sub, Ideal.exp_coe]
      congr 1
      rw [← sub_sub, Real.exp_sub, Real.exp_log hD, div_eq_mul_inv]
  choose e he0 he hpos hlse using hex
  have hD : 0 < ∑ k, e k := by
    obtain ⟨k, hk⟩ := h.some
    exact Finset.sum_pos' (fun i _ => he0 i) ⟨k, Finset.mem_univ k, hpos k hk⟩
  have hden : den s = ((∑ k, e k : ℝ) : EReal) := by
    rw [den, ← coe_sum]; exact Finset.sum_congr rfl fun k _ => he k
  refine ⟨μ, e, hμ, hD, hden, fun k => ⟨he k, ?_⟩⟩
  rw [hden, Ideal.log_coe, if_neg (not_le.mpr hD), hμ, ← EReal.coe_add]
  exact hlse k _ hD

/-- Multiplying by a positive real distributes over a sum of extended reals. -/
theorem sum_mul_coe {ι : Type} (s : Finset ι) (f : ι → EReal) {c : ℝ} (hc : 0 < c) :
    (∑ i ∈ s, f i) * (c : EReal) = ∑ i ∈ s, f i * (c : EReal) := by
  classical
  have hadd : ∀ x y : EReal, (x + y) * (c : EReal) = x * (c : EReal) + y * (c : EReal) := by
    intro x y
    induction x with
    | bot => simp [EReal.bot_mul_coe_of_pos hc]
    | top =>
      induction y with
      | bot => simp [EReal.bot_mul_coe_of_pos hc, EReal.top_mul_coe_of_pos hc]
      | top => simp [EReal.top_mul_coe_of_pos hc]
      | coe b => rw [EReal.top_add_coe, EReal.top_mul_coe_of_pos hc, ← EReal.coe_mul, EReal.top_add_coe]
    | coe a =>
      induction y with
      | bot => simp [EReal.bot_mul_coe_of_pos hc]
      | top => rw [EReal.coe_add_top, EReal.top_mul_coe_of_pos hc, ← EReal.coe_mul, EReal.coe_add_top]
      | coe b => rw [← EReal.coe_add, ← EReal.coe_mul, ← EReal.coe_mul, ← EReal.coe_mul, ← EReal.coe_add, add_mul]
  induction s using Finset.induction_on with
  | empty => simp
  | insert a s ha ih => rw [Finset.sum_insert ha, Finset.sum_insert ha, hadd, ih]

section Window

variable {n N : Nat} {s : Fin N → EReal} {g : Fin n → Fin N}

/-- The window's largest score is the largest of all, when the keys outside are masked out. -/
theorem mx_window (hout : ∀ k, (∀ j, g j ≠ k) → s k = ⊥) : mx (fun j => s (g j)) = mx s := by
  refine le_antisymm (mx_le _ fun j => le_mx s (g j)) (mx_le _ fun k => ?_)
  by_cases hk : ∃ j, g j = k
  · obtain ⟨j, rfl⟩ := hk; exact le_mx (fun j => s (g j)) j
  · rw [hout k fun j e => hk ⟨j, e⟩]; exact bot_le

/-- A sum over the window is the sum over all keys, when the terms outside vanish. -/
theorem sum_window (hg : Function.Injective g) (f : Fin N → EReal) (hout : ∀ k, (∀ j, g j ≠ k) → f k = 0) :
    ∑ j, f (g j) = ∑ k, f k := by
  classical
  refine (Finset.sum_map Finset.univ ⟨g, hg⟩ f).symm.trans ?_
  refine Finset.sum_subset (Finset.subset_univ _) fun k _ hk => hout k fun j e => hk ?_
  rw [Finset.mem_map]; exact ⟨j, Finset.mem_univ j, e⟩

theorem exp_masked (h : Scores s) (hout : ∀ k, (∀ j, g j ≠ k) → s k = ⊥) (k : Fin N) (hk : ∀ j, g j ≠ k) :
    Ideal.exp (s k - mx s) = 0 := by
  obtain ⟨μ, hμ⟩ := h.mx_real
  rw [hout k hk, hμ]; simp

theorem den_window (h : Scores s) (hg : Function.Injective g) (hout : ∀ k, (∀ j, g j ≠ k) → s k = ⊥) :
    den (fun j => s (g j)) = den s := by
  rw [den, den, mx_window hout]
  exact sum_window hg (fun k => Ideal.exp (s k - mx s)) fun k hk => exp_masked h hout k hk

/-- The log-sum-exp over the window is the one over all keys. -/
theorem lse_window (h : Scores s) (hg : Function.Injective g) (hout : ∀ k, (∀ j, g j ≠ k) → s k = ⊥) :
    mx (fun j => s (g j)) + Ideal.log (den fun j => s (g j)) = mx s + Ideal.log (den s) := by
  rw [mx_window hout, den_window h hg hout]

/-- The divided weighted sum over the window is the sum over all keys weighted by the softmax. -/
theorem out_window (h : Scores s) (hg : Function.Injective g) (hout : ∀ k, (∀ j, g j ≠ k) → s k = ⊥) (v : Fin N → EReal) :
    Ideal.div (∑ j, Ideal.exp (s (g j) - mx fun j => s (g j)) * v (g j)) (den fun j => s (g j))
      = ∑ k, v k * Ideal.exp (s k - (mx s + Ideal.log (den s))) := by
  rw [den_window h hg hout, mx_window hout,
    sum_window hg (fun k => Ideal.exp (s k - mx s) * v k) fun k hk => by
      show Ideal.exp (s k - mx s) * v k = 0
      rw [exp_masked h hout k hk, zero_mul]]
  obtain ⟨μ, e, hμ, hD, hden, hw⟩ := h.weights
  have hD0 : ((∑ k, e k : ℝ) : EReal) ≠ 0 := by exact_mod_cast hD.ne'
  rw [hden, Ideal.div, if_neg hD0, ← EReal.coe_inv, sum_mul_coe _ _ (inv_pos.mpr hD)]
  refine Finset.sum_congr rfl fun k _ => ?_
  rw [(hw k).1, ← hden, (hw k).2, EReal.coe_mul, mul_comm (e k : EReal) (v k), mul_assoc]

end Window

end Cert.AttnMath

end
-- ==== Proof.BandSpec.lean ====
/- One head of the dilated window attention as functions of its rows: the normalized and rotated vector of a position, the
   masked scores of a query, the output and the log-sum-exp; the scores seen through a window of keys; and the same output
   computed over the window alone. -/
module

public import Idealize.ShloMosaic.PureOps.Ideal
public import proofs.«01_k».proof.Proof.Consts
public import proofs.«01_k».proof.Proof.AttnMath

@[expose] public section

noncomputable section

namespace Cert.BandSpec

open Idealize.ShloMosaic Cert.AttnMath

/-- The rotary angle of a position and a pair of coordinates. -/
def ang (t : Fin 2048) (e : Fin 64) : EReal :=
  (FloatOps.sitofp (F := Ideal) FTy.f32 (BitVec.ofNat 32 ↑t) : EReal) *
    Ideal.pow (Ideal.ofBits FTy.f32 0x461C4000#32)
      (Ideal.div (-(FloatOps.sitofp (F := Ideal) FTy.f32 (BitVec.ofNat 32 ↑e) : EReal)) (Ideal.ofBits FTy.f32 0x42800000#32))

/-- A vector over the root of its mean square, times the gain. -/
def nrm (x g : Fin 128 → EReal) (d : Fin 128) : EReal :=
  x d * Ideal.rsqrt (Ideal.div (∑ k, x k * x k) (Ideal.ofBits FTy.f32 0x43000000#32) + Ideal.ofBits FTy.f32 0x358637BD#32) * g d

/-- The two halves rotated against each other. -/
def rot (y : Fin 128 → EReal) (c s : Fin 64 → EReal) (d : Fin 128) : EReal :=
  if h : (d : ℕ) < 64 then y d * c ⟨d, h⟩ - y ⟨64 + d, by omega⟩ * s ⟨d, h⟩
  else y d * c ⟨d - 64, by omega⟩ + y ⟨d - 64, by omega⟩ * s ⟨d - 64, by omega⟩

/-- A head's vector at a position: normalized, then rotated. -/
def head (x g : Fin 128 → EReal) (t : Fin 2048) : Fin 128 → EReal :=
  rot (nrm x g) (fun e => Ideal.cos (ang t e)) (fun e => Ideal.sin (ang t e))

/-- What the scores are scaled by. -/
def scale : EReal := Ideal.ofBits FTy.f32 0x3DB504F3#32

/-- The scores of a query `t`, `-∞` at the keys it does not see: later ones, those more than `W` back, and those not at
    a multiple of `D`. -/
def sc (W D : ℕ) (Q K : Fin 2048 → Fin 128 → EReal) (t k : Fin 2048) : EReal :=
  if (k : ℕ) ≤ t ∧ (t : ℕ) - k ≤ W ∧ ((t : ℕ) - k) % D = 0 then (∑ e, Q t e * K k e) * scale else ⊥

/-- The log-sum-exp of a query's scores. -/
def lse {n : ℕ} (s : Fin n → EReal) : EReal := mx s + Ideal.log (den s)

/-- The values weighted by the softmax of the scores. -/
def out {n : ℕ} (s v : Fin n → EReal) : EReal := ∑ k, v k * Ideal.exp (s k - lse s)

/-! ## The vectors are real -/

theorem scale_real : IsReal scale := by
  refine ⟨((1 * (8388608 + 3474675 : Nat) * (2 : ℝ) ^ ((123 : Int) - 150) : ℝ)), ?_⟩
  unfold scale
  simp [Ideal.ofBits, Ideal.ieee, -EReal.coe_mul]

theorem nrm_real (x g : Fin 128 → EReal) (hg : ∀ d, IsReal (g d)) (d : Fin 128) : IsReal (nrm x g d) := by
  obtain ⟨e, he, hb⟩ := Cert.Consts.bits_eps
  refine IsReal.mul ?_ (hg d)
  rw [hb, Cert.Consts.bits_128]
  exact isReal_nrm x d (by norm_num) he

theorem ang_real (t : Fin 2048) (e : Fin 64) : IsReal (ang t e) := by
  refine IsReal.mul ⟨_, rfl⟩ ?_
  rw [Cert.Consts.bits_10000, Cert.Consts.bits_64]
  have h : Ideal.div (-(FloatOps.sitofp (F := Ideal) FTy.f32 (BitVec.ofNat 32 ↑e) : EReal)) ((64 : ℝ) : EReal)
      = ((-(((BitVec.ofNat 32 ↑e).toInt : ℤ) : ℝ) * (64 : ℝ)⁻¹ : ℝ) : EReal) := by
    rw [Ideal.div, if_neg (by exact_mod_cast (by norm_num : (64 : ℝ) ≠ 0)), EReal.coe_mul, EReal.coe_neg, EReal.coe_inv]
    rfl
  rw [h]
  exact ⟨_, rfl⟩

theorem rot_real {y : Fin 128 → EReal} {c s : Fin 64 → EReal} (hy : ∀ d, IsReal (y d)) (hc : ∀ d, IsReal (c d))
    (hs : ∀ d, IsReal (s d)) (d : Fin 128) : IsReal (rot y c s d) := by
  unfold rot
  split
  · exact ((hy _).mul (hc _)).sub ((hy _).mul (hs _))
  · exact ((hy _).mul (hc _)).add ((hy _).mul (hs _))

theorem head_real (x g : Fin 128 → EReal) (hg : ∀ d, IsReal (g d)) (t : Fin 2048) (d : Fin 128) : IsReal (head x g t d) := by
  refine rot_real (nrm_real x g hg) (fun e => ?_) (fun e => ?_) d
  · obtain ⟨r, hr⟩ := ang_real t e; exact ⟨Real.cos r, by rw [hr, Ideal.cos_coe]⟩
  · obtain ⟨r, hr⟩ := ang_real t e; exact ⟨Real.sin r, by rw [hr, Ideal.sin_coe]⟩

/-- A query's scores are real or masked out, and it sees itself. -/
theorem sc_scores (W D : ℕ) {Q K : Fin 2048 → Fin 128 → EReal} (hQ : ∀ t e, IsReal (Q t e)) (hK : ∀ t e, IsReal (K t e))
    (t : Fin 2048) : Scores (sc W D Q K t) := by
  have hr : ∀ k, IsReal ((∑ e, Q t e * K k e) * scale) := fun k =>
    (IsReal.sum fun e => (hQ t e).mul (hK k e)).mul scale_real
  refine ⟨fun k => ?_, t, ?_⟩
  · unfold sc; split
    · exact .inr (hr k)
    · exact .inl rfl
  · unfold sc; rw [if_pos (by simp)]; exact hr t

/-! ## A query's window of keys -/

section Window

variable {n D L lo : ℕ} (hD : 0 < D) (hL : L * D = 2048) (hlo : lo + n ≤ L) (r : Fin D)

/-- The position of key `j` of the window that begins at key `lo`, among the positions congruent to `r`. -/
def key (j : Fin n) : Fin 2048 :=
  ⟨(lo + j) * D + r, by
    have h1 : (lo + j + 1) * D ≤ L * D := Nat.mul_le_mul_right D (by omega)
    rw [Nat.add_mul (lo + ↑j) 1 D, hL] at h1
    have := r.isLt
    omega⟩

include hD in
theorem key_injective : Function.Injective (key hL hlo r) := by
  intro i j h
  have h' : (lo + (i : ℕ)) * D + r = (lo + (j : ℕ)) * D + r := congrArg Fin.val h
  have := Nat.eq_of_mul_eq_mul_right hD (Nat.add_right_cancel h')
  exact Fin.ext (by omega)

variable (Q K : Fin 2048 → Fin 128 → EReal) (l : Fin n)

include hD in
/-- The scores at the window's keys, by the keys' places in the window. -/
theorem sc_key (t : Fin 2048) (a : ℕ) (ht : (t : ℕ) = (lo + a) * D + r) (j : Fin n) :
    sc (128 * D) D Q K t (key hL hlo r j)
      = if (j : ℕ) ≤ a ∧ a ≤ j + 128 then (∑ e, Q t e * K (key hL hlo r j) e) * scale else ⊥ := by
  unfold sc
  have hk : (key hL hlo r j : ℕ) = (lo + j) * D + r := rfl
  refine if_congr ?_ rfl rfl
  rw [hk, ht]
  constructor
  · rintro ⟨h1, h2, -⟩
    have h3 : lo + (j : ℕ) ≤ lo + a := Nat.le_of_mul_le_mul_right (Nat.le_of_add_le_add_right h1) hD
    refine ⟨by omega, ?_⟩
    have h4 : (lo + a) * D ≤ (128 + (lo + j)) * D := by rw [Nat.add_mul 128]; omega
    have := Nat.le_of_mul_le_mul_right h4 hD
    omega
  · rintro ⟨h1, h2⟩
    have e : (lo + a) * D + r - ((lo + j) * D + r) = (a - j) * D := by
      rw [Nat.add_sub_add_right, ← Nat.sub_mul]; congr 1; omega
    refine ⟨?_, ?_, ?_⟩
    · have := Nat.mul_le_mul_right D (show lo + (j : ℕ) ≤ lo + a by omega); omega
    · rw [e]; exact Nat.mul_le_mul_right D (by omega)
    · rw [e]; exact Nat.mul_mod_left _ _

include hD in
/-- Outside the window everything is masked out. -/
theorem sc_outside (t : Fin 2048) (a : ℕ) (ht : (t : ℕ) = (lo + a) * D + r) (ha : a < n) (hlo0 : lo = 0 ∨ 128 ≤ a)
    (k : Fin 2048) (hk : ∀ j, key hL hlo r j ≠ k) : sc (128 * D) D Q K t k = ⊥ := by
  unfold sc
  refine if_neg fun ⟨h1, h2, h3⟩ => ?_
  obtain ⟨q, hq⟩ := Nat.dvd_of_mod_eq_zero h3
  have hq128 : q ≤ 128 := by
    rw [hq, Nat.mul_comm 128] at h2; exact Nat.le_of_mul_le_mul_left h2 hD
  have hk1 : (k : ℕ) + q * D = (lo + a) * D + r := by rw [Nat.mul_comm q]; omega
  have hr := r.isLt
  have hqa : q ≤ lo + a := by
    by_contra hc
    have := Nat.mul_le_mul_right D (show lo + a + 1 ≤ q by omega)
    rw [Nat.add_mul (lo + a)] at this
    omega
  have hqa' : q ≤ a := by omega
  refine hk ⟨a - q, by omega⟩ (Fin.ext ?_)
  show (lo + (a - q)) * D + r = k
  have e : (lo + (a - q)) * D + q * D = (lo + a) * D := by rw [← Nat.add_mul]; congr 1; omega
  omega

include hD in
/-- The output over the window, undivided weights then the division, is the output over all keys. -/
theorem out_key (hQ : ∀ t e, IsReal (Q t e)) (hK : ∀ t e, IsReal (K t e)) (t : Fin 2048) (a : ℕ)
    (ht : (t : ℕ) = (lo + a) * D + r) (ha : a < n) (hlo0 : lo = 0 ∨ 128 ≤ a) (v : Fin 2048 → EReal)
    (s : Fin n → EReal) (hs : ∀ j, s j = if (j : ℕ) ≤ a ∧ a ≤ j + 128 then (∑ e, Q t e * K (key hL hlo r j) e) * scale else ⊥) :
    Ideal.div (∑ j, Ideal.exp (s j - mx s) * v (key hL hlo r j)) (den s) = out (sc (128 * D) D Q K t) v := by
  obtain rfl : s = fun j => sc (128 * D) D Q K t (key hL hlo r j) :=
    funext fun j => (hs j).trans (sc_key hD hL hlo r Q K t a ht j).symm
  exact out_window (sc_scores _ _ hQ hK t) (key_injective hD hL hlo r) (sc_outside hD hL hlo r Q K t a ht ha hlo0) v

include hD in
/-- The log-sum-exp over the window is the one over all keys. -/
theorem lse_key (hQ : ∀ t e, IsReal (Q t e)) (hK : ∀ t e, IsReal (K t e)) (t : Fin 2048) (a : ℕ)
    (ht : (t : ℕ) = (lo + a) * D + r) (ha : a < n) (hlo0 : lo = 0 ∨ 128 ≤ a)
    (s : Fin n → EReal) (hs : ∀ j, s j = if (j : ℕ) ≤ a ∧ a ≤ j + 128 then (∑ e, Q t e * K (key hL hlo r j) e) * scale else ⊥) :
    lse s = lse (sc (128 * D) D Q K t) := by
  obtain rfl : s = fun j => sc (128 * D) D Q K t (key hL hlo r j) :=
    funext fun j => (hs j).trans (sc_key hD hL hlo r Q K t a ht j).symm
  exact lse_window (sc_scores _ _ hQ hK t) (key_injective hD hL hlo r) (sc_outside hD hL hlo r Q K t a ht ha hlo0)

end Window

end Cert.BandSpec

end
-- ==== Proof.BandRef.lean ====
/- The reference of the windowed attention in stages, the stages shared by the three head groups: the normalization, the
   rotary angles, the rotation, the masked scores, the log-sum-exp and the weighted sum, each with what it holds at an
   index. -/
module

public import proofs.«01_k».proof.Defs
public import proofs.«01_k».proof.Proof.Gen.Band0RefIdeal
public import Idealize.ShloMosaic.Lib.Pointwise
public import Idealize.ShloMosaic.Lib.WordCmp
public import Idealize.ShloMosaic.Lib.Affine
public import proofs.«01_k».proof.Proof.BandSpec

@[expose] public section

set_option maxRecDepth 16384

noncomputable section

namespace Cert.BandRef

open Cert.Band0RefIdeal Cert.Band0RefIdeal.Gen Idealize.ShloMosaic Idealize.ShloMosaic.TcCoe Idealize.ShloMosaic.WordCmp Cert.AttnMath Cert.BandSpec

/-- The normalized heads: each head's vector over the root of its mean square, times the gain. -/
def NRM (x : FVec Ideal S4x2048x8x128 .f32) (g : FVec Ideal S4x128 .f32) : FVec Ideal S4x2048x8x128 .f32 :=
  mulf (mulf x (broadcastInDim S4x2048x8x128 ![0, 1, 2, 3] bcast_S4x2048x8x1_S4x2048x8x128_0_1_2_3
      (Host.rsqrt (addf (Host.divf (broadcastInDim S4x2048x8x1 ![0, 1, 2] bcast_S4x2048x8_S4x2048x8x1_0_1_2
          (Host.reduceAdd (mulf x x) (constant S_ .f32 0x00000000#32) reducesTo_S4x2048x8x128_S4x2048x8_d3 h_S_))
        (broadcastInDim S4x2048x8x1 ![] bcast_S_S4x2048x8x1 (constant S_ .f32 0x43000000#32)))
        (broadcastInDim S4x2048x8x1 ![] bcast_S_S4x2048x8x1 (constant S_ .f32 0x358637BD#32))))))
    (broadcastInDim S4x2048x8x128 ![0, 1, 2, 3] bcast_S1x1x1x128_S4x2048x8x128_0_1_2_3
      (broadcastInDim S1x1x1x128 ![3] bcast_S128_S1x1x1x128_3
        (shapeCast _ (extractStridedSlice S1x128 ![0, 0] g slices_S4x128_S1x128_0_0) shapeCasts_S1x128_S128)))

/-- The rotary angles: position times frequency. -/
def ANG : FVec Ideal S2048x64 .f32 :=
  mulf (broadcastInDim S2048x64 ![0, 1] bcast_S2048x1_S2048x64_0_1
      (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0)))
          (broadcastInDim S64 ![] bcast_S_S64 (constant S_ .f32 0x42800000#32))))))

/-- The rotation of the two halves of every head by the angles. -/
def ROT (y : FVec Ideal S4x2048x8x128 .f32) (c s : FVec Ideal S1x2048x1x64 .f32) : FVec Ideal S4x2048x8x128 .f32 :=
  concatenate S4x2048x8x128 3
    [⟨S4x2048x8x64, (subf
        (mulf (extractStridedSlice S4x2048x8x64 ![0, 0, 0, 0] y slices_S4x2048x8x128_S4x2048x8x64_0_0_0_0)
          (broadcastInDim S4x2048x8x64 ![0, 1, 2, 3] bcast_S1x2048x1x64_S4x2048x8x64_0_1_2_3 c))
        (mulf (extractStridedSlice S4x2048x8x64 ![0, 0, 0, 64] y slices_S4x2048x8x128_S4x2048x8x64_0_0_0_64)
          (broadcastInDim S4x2048x8x64 ![0, 1, 2, 3] bcast_S1x2048x1x64_S4x2048x8x64_0_1_2_3 s)))⟩,
     ⟨S4x2048x8x64, (addf
        (mulf (extractStridedSlice S4x2048x8x64 ![0, 0, 0, 64] y slices_S4x2048x8x128_S4x2048x8x64_0_0_0_64)
          (broadcastInDim S4x2048x8x64 ![0, 1, 2, 3] bcast_S1x2048x1x64_S4x2048x8x64_0_1_2_3 c))
        (mulf (extractStridedSlice S4x2048x8x64 ![0, 0, 0, 0] y slices_S4x2048x8x128_S4x2048x8x64_0_0_0_0)
          (broadcastInDim S4x2048x8x64 ![0, 1, 2, 3] bcast_S1x2048x1x64_S4x2048x8x64_0_1_2_3 s)))⟩]
    concatenates_S4x2048x8x64_S4x2048x8x64_S4x2048x8x128_d3

/-- The normalized and rotated heads. -/
def HEADS (x : FVec Ideal S4x2048x8x128 .f32) (g : FVec Ideal S4x128 .f32) : FVec Ideal S4x2048x8x128 .f32 :=
  ROT (NRM x g) (broadcastInDim S1x2048x1x64 ![1, 3] bcast_S2048x64_S1x2048x1x64_1_3 (Host.cos ANG))
    (broadcastInDim S1x2048x1x64 ![1, 3] bcast_S2048x64_S1x2048x1x64_1_3 (Host.sin ANG))

/-- How far back each key lies. -/
def DIFF : IVec S2048x2048 32 :=
  subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The dilation, as the remainder takes it. -/
def DIV (d : BitVec 32) : IVec S_ 32 :=
  select (cmpi .eq (id (constantI S_ 32 d)) (constantI S_ 32 0#32)) (constantI S_ 32 1#32) (id (constantI S_ 32 d))

/-- The distance's remainder by the dilation. -/
def REM (d : BitVec 32) : IVec S2048x2048 32 :=
  Host.remsi DIFF (broadcastInDim S2048x2048 ![] bcast_S_S2048x2048 (DIV d))

/-- The same with the divisor's sign. -/
def MODV (d : BitVec 32) : IVec S2048x2048 32 :=
  select (andi (cmpi .ne (cmpi .slt (REM d) (broadcastInDim S2048x2048 ![] bcast_S_S2048x2048 (constantI S_ 32 0#32)))
      (broadcastInDim S2048x2048 ![] bcast_S_S2048x2048 (cmpi .slt (DIV d) (constantI S_ 32 0#32))))
      (cmpi .ne (REM d) (broadcastInDim S2048x2048 ![] bcast_S_S2048x2048 (constantI S_ 32 0#32))))
    (addi (REM d) (broadcastInDim S2048x2048 ![] bcast_S_S2048x2048 (DIV d))) (REM d)

/-- Which keys a query sees. -/
def VALID (w d : BitVec 32) : IVec S2048x2048 1 :=
  andi (andi (cmpi .sge DIFF (broadcastInDim S2048x2048 ![] bcast_S_S2048x2048 (constantI S_ 32 0#32)))
      (cmpi .sle DIFF (broadcastInDim S2048x2048 ![] bcast_S_S2048x2048 (constantI S_ 32 w))))
    (cmpi .eq (MODV d) (broadcastInDim S2048x2048 ![] bcast_S_S2048x2048 (constantI S_ 32 0#32)))

/-- The masked scores. -/
def SC (w d : BitVec 32) (q k : FVec Ideal S4x2048x8x128 .f32) : FVec Ideal S4x8x2048x2048 .f32 :=
  select (broadcastInDim S4x8x2048x2048 ![0, 1, 2, 3] bcast_S1x1x2048x2048_S4x8x2048x2048_0_1_2_3
      (broadcastInDim S1x1x2048x2048 ![2, 3] bcast_S2048x2048_S1x1x2048x2048_2_3 (VALID w d)))
    (mulf (Host.dotGeneral dot_S4x2048x8x128_S4x2048x8x128_S4x8x2048x2048_3_3_1_1_02_02 none q k)
      (broadcastInDim S4x8x2048x2048 ![] bcast_S_S4x8x2048x2048 (constant S_ .f32 0x3DB504F3#32)))
    (broadcastInDim S4x8x2048x2048 ![] bcast_S_S4x8x2048x2048 (id (constant S_ .f32 0xFF800000#32)))

/-- The largest score of each query. -/
def MX (s : FVec Ideal S4x8x2048x2048 .f32) : FVec Ideal S4x8x2048 .f32 :=
  Host.reduce FloatOps.maximumf s (constant S_ .f32 0xFF800000#32) reducesTo_S4x8x2048x2048_S4x8x2048_d3 h_S_

/-- The scores less a number per query, exponentiated. -/
def EXPS (s : FVec Ideal S4x8x2048x2048 .f32) (a : FVec Ideal S4x8x2048 .f32) : FVec Ideal S4x8x2048x2048 .f32 :=
  Host.exp (subf s (broadcastInDim S4x8x2048x2048 ![0, 1, 2, 3] bcast_S4x8x2048x1_S4x8x2048x2048_0_1_2_3
    (broadcastInDim S4x8x2048x1 ![0, 1, 2] bcast_S4x8x2048_S4x8x2048x1_0_1_2 a)))

/-- A sum over the keys. -/
def SUMK (p : FVec Ideal S4x8x2048x2048 .f32) : FVec Ideal S4x8x2048 .f32 :=
  Host.reduceAdd p (constant S_ .f32 0x00000000#32) reducesTo_S4x8x2048x2048_S4x8x2048_d3 h_S_

/-- The log-sum-exp of each query. -/
def LSE (s : FVec Ideal S4x8x2048x2048 .f32) : FVec Ideal S4x8x2048 .f32 :=
  addf (MX s) (Host.log (SUMK (EXPS s (MX s))))

/-- The values weighted by the softmax. -/
def OUT (v : FVec Ideal S4x2048x8x128 .f32) (p : FVec Ideal S4x8x2048x2048 .f32) : FVec Ideal S4x2048x8x128 .f32 :=
  transpose S4x2048x8x128 [0, 3, 1, 2] (Host.dotGeneral dot_S4x2048x8x128_S4x8x2048x2048_S4x8x128x2048_1_3_3_2_02_01 none v p)
    transposes_S4x8x128x2048_S4x2048x8x128_0_3_1_2

/-- The log-sum-exps, once per coordinate of the head. -/
def LSEB (l : FVec Ideal S4x8x2048 .f32) : FVec Ideal S4x2048x8x128 .f32 :=
  broadcastInDim S4x2048x8x128 ![0, 1, 2, 3] bcast_S4x2048x8x1_S4x2048x8x128_0_1_2_3
    (broadcastInDim S4x2048x8x1 ![0, 1, 2] bcast_S4x2048x8_S4x2048x8x1_0_1_2
      (transpose S4x2048x8 [0, 2, 1] l transposes_S4x8x2048_S4x2048x8_0_2_1))

/-! ## What the stages hold -/

theorem NRM_at (x : FVec Ideal S4x2048x8x128 .f32) (g : FVec Ideal S4x128 .f32) (b : Fin 4) (t : Fin 2048) (h : Fin 8) (d : Fin 128) :
    NRM x g (ix4 b t h d) = nrm (fun e => x (ix4 b t h e)) (fun e => g (ix2 0 e)) d := by
  pointwise [NRM]
  rfl

theorem ANG_at (t : Fin 2048) (e : Fin 64) : ANG (ix2 t e) = ang t e := by
  pointwise [ANG]
  rfl

theorem ROT_at (x : FVec Ideal S4x2048x8x128 .f32) (cc s : FVec Ideal S1x2048x1x64 .f32) (b : Fin 4) (t : Fin 2048) (h : Fin 8) (d : Fin 128) :
    ROT x cc s (ix4 b t h d)
      = rot (fun e => x (ix4 b t h e)) (fun e => cc (ix4 0 t 0 e)) (fun e => s (ix4 0 t 0 e)) d := by
  pointwise [ROT, rot]
  split
  · rfl
  · rename_i hd
    have e : (⟨64 + ((d : ℕ) - 64), by omega⟩ : Fin 128) = d := Fin.ext (by show 64 + ((d : ℕ) - 64) = d; omega)
    rw [e]

theorem HEADS_at (x : FVec Ideal S4x2048x8x128 .f32) (g : FVec Ideal S4x128 .f32) (b : Fin 4) (t : Fin 2048) (h : Fin 8) (d : Fin 128) :
    HEADS x g (ix4 b t h d) = head (fun e => x (ix4 b t h e)) (fun e => g (ix2 0 e)) t d := by
  rw [HEADS, ROT_at]
  unfold head
  congr 1
  exact funext fun e => NRM_at x g b t h e

theorem DIFF_at (t k : Fin 2048) : DIFF (ix2 t k) = BitVec.ofNat 32 t - BitVec.ofNat 32 k := by
  pointwise [DIFF]
  rfl

theorem DIV_at (D : ℕ) (h0 : 0 < D) (h1 : D ≤ 16) : DIV (BitVec.ofNat 32 D) ix0 = BitVec.ofNat 32 D := by
  show Scalar.select (IntOp.cmpi .eq (BitVec.ofNat 32 D) (BitVec.ofNat 32 0)) 1#32 (BitVec.ofNat 32 D) = _
  rw [cmpi_eq_ofNat (by omega) (by omega), decide_eq_false (by omega)]
  rfl

theorem MODV_at (D : ℕ) (h0 : 0 < D) (h1 : D ≤ 16) (t k : Fin 2048) (hk : (k : ℕ) ≤ t) :
    MODV (BitVec.ofNat 32 D) (ix2 t k) = BitVec.ofNat 32 (((t : ℕ) - k) % D) := by
  have hr : REM (BitVec.ofNat 32 D) (ix2 t k) = BitVec.ofNat 32 (((t : ℕ) - k) % D) := by
    pointwise [REM, DIFF_at]
    rw [DIV_at D h0 h1]
    have e : BitVec.ofNat 32 (t : ℕ) - BitVec.ofNat 32 (k : ℕ) = BitVec.ofNat 32 ((t : ℕ) - k) := by
      apply BitVec.eq_of_toNat_eq
      simp only [BitVec.toNat_sub, BitVec.toNat_ofNat]
      omega
    apply BitVec.eq_of_toNat_eq
    rw [e, IntOp.toNat_remsi _ (by simp only [BitVec.toNat_ofNat]; omega) D h0 (by omega)]
    have := Nat.mod_le ((t : ℕ) - k) D
    simp only [BitVec.toNat_ofNat]
    rw [Nat.mod_eq_of_lt (show (t : ℕ) - k < 2 ^ 32 by omega), Nat.mod_eq_of_lt (show ((t : ℕ) - k) % D < 2 ^ 32 by omega)]
  have hlt := Nat.mod_lt ((t : ℕ) - k) h0
  pointwise [ MODV]
  rw [hr, DIV_at D h0 h1, cmpi_slt_zero, cmpi_slt_zero, decide_eq_false (by simp only [BitVec.toNat_ofNat]; omega),
    decide_eq_false (by simp only [BitVec.toNat_ofNat]; omega)]
  rw [show ∀ c : BitVec 1, IntOp.andi (IntOp.cmpi .ne (BitVec.ofBool false) (BitVec.ofBool false)) c = 0#1 by decide]
  rfl

theorem VALID_at (W D : ℕ) (hW : W ≤ 2048) (h0 : 0 < D) (h1 : D ≤ 16) (t k : Fin 2048) :
    VALID (BitVec.ofNat 32 W) (BitVec.ofNat 32 D) (ix2 t k)
      = BitVec.ofBool (decide ((k : ℕ) ≤ t ∧ (t : ℕ) - k ≤ W ∧ ((t : ℕ) - k) % D = 0)) := by
  pointwise [VALID, DIFF_at]
  rw [cmpi_sge_zero]
  by_cases hk : (k : ℕ) ≤ t
  · have e : BitVec.ofNat 32 (t : ℕ) - BitVec.ofNat 32 (k : ℕ) = BitVec.ofNat 32 ((t : ℕ) - k) := by
      apply BitVec.eq_of_toNat_eq
      simp only [BitVec.toNat_sub, BitVec.toNat_ofNat]
      omega
    have hlt := Nat.mod_lt ((t : ℕ) - k) h0
    rw [e, MODV_at D h0 h1 t k hk, cmpi_sle_ofNat (by omega) (by omega), cmpi_eq_ofNat (by omega) (by omega), andi_ofBool,
      andi_ofBool, ← Bool.decide_and, ← Bool.decide_and]
    congr 1
    refine decide_eq_decide.mpr ⟨fun h => ⟨hk, h.1.2, h.2⟩, fun h => ⟨⟨?_, h.2.1⟩, h.2.2⟩⟩
    simp only [BitVec.toNat_ofNat]
    omega
  · rw [decide_eq_false (by simp only [BitVec.toNat_sub, BitVec.toNat_ofNat]; omega), decide_eq_false (fun h => hk h.1)]
    exact (by decide : ∀ a c : BitVec 1, IntOp.andi (IntOp.andi (BitVec.ofBool false) a) c = 0#1) _ _

theorem SC_at (W D : ℕ) (hW : W ≤ 2048) (h0 : 0 < D) (h1 : D ≤ 16) (q k : FVec Ideal S4x2048x8x128 .f32) (b : Fin 4) (h : Fin 8)
    (t s : Fin 2048) :
    SC (BitVec.ofNat 32 W) (BitVec.ofNat 32 D) q k (ix4 b h t s)
      = sc W D (fun t e => q (ix4 b t h e)) (fun t e => k (ix4 b t h e)) t s := by
  pointwise [SC]
  rw [VALID_at W D hW h0 h1]
  unfold sc Scalar.select
  refine if_congr ((ofBool_eq_one_iff' _).trans decide_eq_true_iff) rfl ?_
  exact Cert.Consts.bits_bot

theorem MX_at (s : FVec Ideal S4x8x2048x2048 .f32) (b : Fin 4) (h : Fin 8) (t : Fin 2048) :
    MX s (ix3 b h t) = mx fun k => s (ix4 b h t k) := by
  pointwise [MX]
  rw [Cert.Consts.bits_bot]
  rfl

theorem EXPS_at (s : FVec Ideal S4x8x2048x2048 .f32) (a : FVec Ideal S4x8x2048 .f32) (b : Fin 4) (h : Fin 8) (t k : Fin 2048) :
    EXPS s a (ix4 b h t k) = Ideal.exp (s (ix4 b h t k) - a (ix3 b h t)) := by
  pointwise [EXPS]

theorem SUMK_at (p : FVec Ideal S4x8x2048x2048 .f32) (b : Fin 4) (h : Fin 8) (t : Fin 2048) :
    SUMK p (ix3 b h t) = ∑ k, p (ix4 b h t k) := by
  pointwise [SUMK]

theorem add_log_at (x y : FVec Ideal S4x8x2048 .f32) (i : S4x8x2048.Idx) : addf x (Host.log y) i = x i + Ideal.log (y i) := rfl

theorem LSE_at (s : FVec Ideal S4x8x2048x2048 .f32) (b : Fin 4) (h : Fin 8) (t : Fin 2048) :
    LSE s (ix3 b h t) = lse fun k => s (ix4 b h t k) := by
  rw [LSE, add_log_at, SUMK_at, MX_at]
  unfold lse den
  refine congrArg (fun x => _ + Ideal.log x) (Finset.sum_congr rfl fun k _ => ?_)
  rw [EXPS_at, MX_at]

theorem OUT_at (v : FVec Ideal S4x2048x8x128 .f32) (p : FVec Ideal S4x8x2048x2048 .f32) (b : Fin 4) (t : Fin 2048) (h : Fin 8) (d : Fin 128) :
    OUT v p (ix4 b t h d) = ∑ x, v (ix4 b x h d) * p (ix4 b h t x) := by
  pointwise [OUT]

theorem LSEB_at (l : FVec Ideal S4x8x2048 .f32) (b : Fin 4) (t : Fin 2048) (h : Fin 8) (d : Fin 128) :
    LSEB l (ix4 b t h d) = l (ix3 b h t) := by
  pointwise [LSEB]

/-- The reference's log-sum-exp of a query. -/
theorem lse_at (W D : ℕ) (hW : W ≤ 2048) (h0 : 0 < D) (h1 : D ≤ 16) (q k : FVec Ideal S4x2048x8x128 .f32) (b : Fin 4) (h : Fin 8)
    (t : Fin 2048) :
    LSE (SC (BitVec.ofNat 32 W) (BitVec.ofNat 32 D) q k) (ix3 b h t)
      = lse (sc W D (fun t e => q (ix4 b t h e)) (fun t e => k (ix4 b t h e)) t) := by
  rw [LSE_at]
  exact congrArg lse (funext fun s => SC_at W D hW h0 h1 q k b h t s)

/-- The reference's output of a query. -/
theorem out_at (W D : ℕ) (hW : W ≤ 2048) (h0 : 0 < D) (h1 : D ≤ 16) (q k v : FVec Ideal S4x2048x8x128 .f32) (b : Fin 4) (h : Fin 8)
    (t : Fin 2048) (d : Fin 128) :
    OUT v (EXPS (SC (BitVec.ofNat 32 W) (BitVec.ofNat 32 D) q k) (LSE (SC (BitVec.ofNat 32 W) (BitVec.ofNat 32 D) q k))) (ix4 b t h d)
      = out (sc W D (fun t e => q (ix4 b t h e)) (fun t e => k (ix4 b t h e)) t) fun s => v (ix4 b s h d) := by
  rw [OUT_at]
  unfold out
  refine Finset.sum_congr rfl fun s _ => ?_
  rw [EXPS_at, SC_at W D hW h0 h1, lse_at W D hW h0 h1]

/-! ## The reference of a head group -/

/-- A group's queries, keys or values (`k` = 0, 1, 2) among the projected columns. -/
def XS (k g : ℕ) (A : FVec Ideal S8192x24576 .f32) (h : S4x2048x3x3x8x128.Slices ![0, 0, k, g, 0, 0] S4x2048x1x1x8x128) :
    FVec Ideal S4x2048x8x128 .f32 :=
  shapeCast _ (extractStridedSlice S4x2048x1x1x8x128 ![0, 0, k, g, 0, 0] (shapeCast _ (extractStridedSlice S8192x9216 ![0, 7168] A
    slices_S8192x24576_S8192x9216_0_7168) shapeCasts_S8192x9216_S4x2048x3x3x8x128) h) shapeCasts_S4x2048x1x1x8x128_S4x2048x8x128

/-- One row of them. -/
def xrow (k g : Fin 3) (A : FVec Ideal S8192x24576 .f32) (b : Fin 4) (h : Fin 8) (t : Fin 2048) (e : Fin 128) : EReal :=
  A (ix2 ⟨b * 2048 + t, by omega⟩ ⟨7168 + ((k * 3 + g) * 8 + h) * 128 + e, by omega⟩)

theorem XS_at (k g : Fin 3) (A : FVec Ideal S8192x24576 .f32) (hs : S4x2048x3x3x8x128.Slices ![0, 0, (k : ℕ), (g : ℕ), 0, 0] S4x2048x1x1x8x128)
    (b : Fin 4) (t : Fin 2048) (h : Fin 8) (e : Fin 128) : XS k g A hs (ix4 b t h e) = xrow k g A b h t e := by
  pointwise [XS, xrow]
  exact congrArg (fun z => A (ix2 _ z)) (Fin.ext (by show 7168 + _ = 7168 + _ + _; omega))

/-- A group's normalized and rotated queries or keys. -/
def hd (k g : Fin 3) (A : FVec Ideal S8192x24576 .f32) (w : FVec Ideal S4x128 .f32) (b : Fin 4) (h : Fin 8) (t : Fin 2048) :
    Fin 128 → EReal :=
  head (xrow k g A b h t) (fun e => w (ix2 0 e)) t

section Group

variable (W D : ℕ) (g : Fin 3) (A : FVec Ideal S8192x24576 .f32) (wq wk : FVec Ideal S4x128 .f32)
  (h0 : S4x2048x3x3x8x128.Slices ![0, 0, 0, (g : ℕ), 0, 0] S4x2048x1x1x8x128)
  (h1 : S4x2048x3x3x8x128.Slices ![0, 0, 1, (g : ℕ), 0, 0] S4x2048x1x1x8x128)
  (h2 : S4x2048x3x3x8x128.Slices ![0, 0, 2, (g : ℕ), 0, 0] S4x2048x1x1x8x128)

/-- The scores of the group. -/
def RS : FVec Ideal S4x8x2048x2048 .f32 :=
  SC (BitVec.ofNat 32 W) (BitVec.ofNat 32 D) (HEADS (XS 0 g A h0) wq) (HEADS (XS 1 g A h1) wk)

/-- The group's outputs. -/
def RO : FVec Ideal S4x2048x8x128 .f32 := OUT (XS 2 g A h2) (EXPS (RS W D g A wq wk h0 h1) (LSE (RS W D g A wq wk h0 h1)))

/-- The group's log-sum-exps. -/
def RL : FVec Ideal S4x2048x8x128 .f32 := LSEB (LSE (RS W D g A wq wk h0 h1))

theorem HXS_at (k : Fin 3) (w : FVec Ideal S4x128 .f32) (hs : S4x2048x3x3x8x128.Slices ![0, 0, (k : ℕ), (g : ℕ), 0, 0] S4x2048x1x1x8x128)
    (b : Fin 4) (t : Fin 2048) (h : Fin 8) (e : Fin 128) : HEADS (XS k g A hs) w (ix4 b t h e) = hd k g A w b h t e := by
  rw [HEADS_at]
  unfold hd
  exact congrArg (fun x => head x _ t e) (funext fun d => XS_at k g A hs b t h d)

theorem RO_at (hW : W ≤ 2048) (hD : 0 < D) (hD' : D ≤ 16) (b : Fin 4) (t : Fin 2048) (h : Fin 8) (d : Fin 128) :
    RO W D g A wq wk h0 h1 h2 (ix4 b t h d) = out (sc W D (hd 0 g A wq b h) (hd 1 g A wk b h) t) fun s => xrow 2 g A b h s d := by
  unfold RO RS
  rw [out_at W D hW hD hD']
  congr 1
  · congr 1
    · exact funext fun s => funext fun e => HXS_at g A 0 wq h0 b s h e
    · exact funext fun s => funext fun e => HXS_at g A 1 wk h1 b s h e
  · exact funext fun s => XS_at 2 g A h2 b s h d

theorem RL_at (hW : W ≤ 2048) (hD : 0 < D) (hD' : D ≤ 16) (b : Fin 4) (t : Fin 2048) (h : Fin 8) (d : Fin 128) :
    RL W D g A wq wk h0 h1 (ix4 b t h d) = lse (sc W D (hd 0 g A wq b h) (hd 1 g A wk b h) t) := by
  unfold RL RS
  rw [LSEB_at, lse_at W D hW hD hD']
  congr 1
  congr 1
  · exact funext fun s => funext fun e => HXS_at g A 0 wq h0 b s h e
  · exact funext fun s => funext fun e => HXS_at g A 1 wk h1 b s h e

end Group

end Cert.BandRef

end
-- ==== Proof.BandBlk.lean ====
/- The attention of a block of 128 queries with its window of keys, as the kernels of the three head groups compute it: 128
   keys for the first block of a sequence, 256 for the others. What each stage holds at an index, and that the block's
   outputs and log-sum-exps are the ones over all keys. -/
module

public import proofs.«01_k».proof.Defs
public import proofs.«01_k».proof.Proof.Gen.Band0Ideal
public import Idealize.ShloMosaic.Lib.Pointwise
public import Idealize.ShloMosaic.Lib.WordCmp
public import proofs.«01_k».proof.Proof.BandSpec

@[expose] public section

set_option maxRecDepth 16384

noncomputable section

namespace Cert.BandBlk

open Cert.Band0Ideal Cert.Band0Ideal.Gen Idealize.ShloMosaic Idealize.ShloMosaic.TcCoe Idealize.ShloMosaic.WordCmp
open Cert.AttnMath Cert.BandSpec

/-! ## The rotation by a roll -/

/-- A vector times the doubled cosines, plus the rolled vector times the signed sines, is the vector rotated. -/
theorem rot_eq (y : Fin 128 → EReal) (c s : Fin 64 → EReal) (d : Fin 128) (cd sd yr : EReal)
    (hc : cd = c ⟨d % 64, Nat.mod_lt _ (by norm_num)⟩)
    (hs : sd = if (d : ℕ) < 64 then -s ⟨d % 64, Nat.mod_lt _ (by norm_num)⟩ else s ⟨d % 64, Nat.mod_lt _ (by norm_num)⟩)
    (hr : yr = y ⟨(d + 64) % 128, Nat.mod_lt _ (by norm_num)⟩) : y d * cd + yr * sd = rot y c s d := by
  subst hc hs hr
  have hd := d.isLt
  unfold rot
  split
  · rename_i h
    have e1 : (⟨(d : ℕ) % 64, Nat.mod_lt _ (by norm_num)⟩ : Fin 64) = ⟨d, h⟩ := Fin.ext (Nat.mod_eq_of_lt h)
    have e2 : (⟨((d : ℕ) + 64) % 128, Nat.mod_lt _ (by norm_num)⟩ : Fin 128) = ⟨64 + d, by omega⟩ :=
      Fin.ext (by show ((d : ℕ) + 64) % 128 = 64 + d; omega)
    rw [e1, e2, mul_neg, sub_eq_add_neg]
  · rename_i h
    have e1 : (⟨(d : ℕ) % 64, Nat.mod_lt _ (by norm_num)⟩ : Fin 64) = ⟨d - 64, by omega⟩ :=
      Fin.ext (by show (d : ℕ) % 64 = d - 64; omega)
    have e2 : (⟨((d : ℕ) + 64) % 128, Nat.mod_lt _ (by norm_num)⟩ : Fin 128) = ⟨d - 64, by omega⟩ :=
      Fin.ext (by show ((d : ℕ) + 64) % 128 = d - 64; omega)
    rw [e1, e2]

/-! ## The mask -/

/-- Which keys of the window a query of the block sees. -/
theorem band_word (a j o : ℕ) (ha : a < 128) (hj : j < 256) (ho : o ≤ 128) :
    IntOp.andi (IntOp.cmpi .sle (BitVec.ofNat 32 j) (IntOp.addi (BitVec.ofNat 32 a) (BitVec.ofNat 32 o)))
        (IntOp.cmpi .sge (BitVec.ofNat 32 j) (IntOp.subi (IntOp.addi (BitVec.ofNat 32 a) (BitVec.ofNat 32 o)) 128#32))
      = BitVec.ofBool (decide (j ≤ a + o ∧ a + o ≤ j + 128)) := by
  have e : IntOp.addi (BitVec.ofNat 32 a) (BitVec.ofNat 32 o) = BitVec.ofNat 32 (a + o) := BitVec.ofNat_add_ofNat _ _
  have e' : (IntOp.subi (BitVec.ofNat 32 (a + o)) 128#32).toInt = (a + o : ℤ) - 128 := by
    show (BitVec.ofNat 32 (a + o) - 128#32).toInt = _
    rw [BitVec.toInt_eq_toNat_cond, BitVec.toNat_sub, BitVec.toNat_ofNat, BitVec.toNat_ofNat]
    split <;> omega
  rw [e, cmpi_sle_ofNat (by omega) (by omega), cmpi_sge_eq, e', toInt_ofNat_of_lt (by omega), andi_ofBool, ← Bool.decide_and]
  congr 1
  exact decide_eq_decide.mpr (and_congr Iff.rfl ⟨fun h => by omega, fun h => by omega⟩)

/-! ## The stages -/

/-- The masked scores of a block whose window begins with it. -/
def S1 (mk : Ideal .f32) (q k : FVec Ideal S128x128 .bf16) : FVec Ideal S128x128 .f32 :=
  select (andi (cmpi .sle (iota .tc S128x128 32 [1] iota_S128x128_d1_w32) (addi (iota .tc S128x128 32 [0] iota_S128x128_d0_w32) (broadcast S128x128 0#32)))
      (cmpi .sge (iota .tc S128x128 32 [1] iota_S128x128_d1_w32)
        (subi (addi (iota .tc S128x128 32 [0] iota_S128x128_d0_w32) (broadcast S128x128 0#32)) (broadcast S128x128 128#32))))
    (mulf (matmul dot_S128x128_S128x128_S128x128_1_1_0_0_n_n none q k (constant S128x128 .f32 0x00000000#32))
      (broadcast S128x128 (Scalar.ofBits (F := Ideal) .f32 0x3DB504F3#32)))
    (broadcast S128x128 mk)

/-- The masked scores of a block whose window begins 128 keys before it. -/
def S2 (mk : Ideal .f32) (q : FVec Ideal S128x128 .bf16) (k : FVec Ideal S256x128 .bf16) : FVec Ideal S128x256 .f32 :=
  select (andi (cmpi .sle (iota .tc S128x256 32 [1] iota_S128x256_d1_w32) (addi (iota .tc S128x256 32 [0] iota_S128x256_d0_w32) (broadcast S128x256 128#32)))
      (cmpi .sge (iota .tc S128x256 32 [1] iota_S128x256_d1_w32)
        (subi (addi (iota .tc S128x256 32 [0] iota_S128x256_d0_w32) (broadcast S128x256 128#32)) (broadcast S128x256 128#32))))
    (mulf (matmul dot_S128x128_S256x128_S128x256_1_1_0_0_n_n none q k (constant S128x256 .f32 0x00000000#32))
      (broadcast S128x256 (Scalar.ofBits (F := Ideal) .f32 0x3DB504F3#32)))
    (broadcast S128x256 mk)

section Stages

variable {n : ℕ} (hr : (⟨2, ![128, n]⟩ : Shape).Reduces [1] S128) (hb : S128x1.Broadcasts ⟨2, ![128, n]⟩)

/-- The largest score of each query. -/
def M (s : FVec Ideal ⟨2, ![128, n]⟩ .f32) : FVec Ideal S128x1 .f32 :=
  shapeCast S128x1 (multiReduction .maximumf [1] S128 s 0xFF800000#32 hr (.inl rfl) rfl) shapeCasts_S128_S128x1

/-- The weights before the division. -/
def E (s : FVec Ideal ⟨2, ![128, n]⟩ .f32) : FVec Ideal ⟨2, ![128, n]⟩ .f32 :=
  exp (subf s (broadcastTo ⟨2, ![128, n]⟩ (M hr s) hb))

/-- Their sum. -/
def Den (s : FVec Ideal ⟨2, ![128, n]⟩ .f32) : FVec Ideal S128x1 .f32 :=
  shapeCast S128x1 (multiReduction .add [1] S128 (E hr hb s) 0x00000000#32 hr (.inl rfl) rfl) shapeCasts_S128_S128x1

/-- The log-sum-exps. -/
def L (s : FVec Ideal ⟨2, ![128, n]⟩ .f32) : FVec Ideal S1x128x128 .f32 :=
  shapeCast S1x128x128 (broadcastTo S128x128 (shapeCast S128x1 (addf (M hr s) (log (Den hr hb s))) shapeCasts_S128x1_S128x1)
    broadcasts_S128x1_S128x128) shapeCasts_S128x128_S1x128x128

theorem M_at (s : FVec Ideal ⟨2, ![128, n]⟩ .f32) (a : Fin 128) : M hr s (ix2 a 0) = mx fun j => s (ix2 a j) := by
  pointwise [M]
  rw [Cert.Consts.bits_bot]
  rfl

theorem E_at (s : FVec Ideal ⟨2, ![128, n]⟩ .f32) (a : Fin 128) (j : Fin n) :
    E hr hb s (ix2 a j) = Ideal.exp (s (ix2 a j) - mx fun j => s (ix2 a j)) := by
  rw [← M_at hr s a]
  pointwise [E]

theorem Den_at (s : FVec Ideal ⟨2, ![128, n]⟩ .f32) (a : Fin 128) : Den hr hb s (ix2 a 0) = den fun j => s (ix2 a j) := by
  pointwise [Den, E_at]
  rfl

theorem L_at (s : FVec Ideal ⟨2, ![128, n]⟩ .f32) (a d : Fin 128) : L hr hb s (ix3 0 a d) = lse fun j => s (ix2 a j) := by
  pointwise [L]
  rw [M_at, Den_at]
  rfl

end Stages

/-- The outputs of a block whose window begins with it. -/
def O1 (s : FVec Ideal S128x128 .f32) (v : FVec Ideal S128x128 .bf16) : FVec Ideal S1x128x128 .f32 :=
  shapeCast S1x128x128 (divf (matmul dot_S128x128_S128x128_S128x128_1_0_0_1_n_n none
      (truncf .bf16 (E reduces_S128x128_S128 broadcasts_S128x1_S128x128 s) bitsLt_bf16_f32) v (constant S128x128 .f32 0x00000000#32))
    (broadcastTo S128x128 (Den reduces_S128x128_S128 broadcasts_S128x1_S128x128 s) broadcasts_S128x1_S128x128)) shapeCasts_S128x128_S1x128x128

/-- The outputs of a block whose window begins 128 keys before it. -/
def O2 (s : FVec Ideal S128x256 .f32) (v : FVec Ideal S256x128 .bf16) : FVec Ideal S1x128x128 .f32 :=
  shapeCast S1x128x128 (divf (matmul dot_S128x256_S256x128_S128x128_1_0_0_1_n_n none
      (truncf .bf16 (E reduces_S128x256_S128 broadcasts_S128x1_S128x256 s) bitsLt_bf16_f32) v (constant S128x128 .f32 0x00000000#32))
    (broadcastTo S128x128 (Den reduces_S128x256_S128 broadcasts_S128x1_S128x256 s) broadcasts_S128x1_S128x128)) shapeCasts_S128x128_S1x128x128

theorem S1_at (mk : Ideal .f32) (q k : FVec Ideal S128x128 .bf16) (a j : Fin 128) :
    S1 mk q k (ix2 a j)
      = if (j : ℕ) ≤ a + 0 ∧ (a : ℕ) + 0 ≤ j + 128 then (∑ e, q (ix2 a e) * k (ix2 j e)) * scale else mk := by
  pointwise [S1]
  rw [band_word a j 0 (by omega) (by omega) (by omega)]
  unfold Scalar.select
  exact if_congr ((ofBool_eq_one_iff' _).trans decide_eq_true_iff) rfl rfl

theorem S2_at (mk : Ideal .f32) (q : FVec Ideal S128x128 .bf16) (k : FVec Ideal S256x128 .bf16) (a : Fin 128) (j : Fin 256) :
    S2 mk q k (ix2 a j)
      = if (j : ℕ) ≤ a + 128 ∧ (a : ℕ) + 128 ≤ j + 128 then (∑ e, q (ix2 a e) * k (ix2 j e)) * scale else mk := by
  pointwise [S2]
  rw [band_word a j 128 (by omega) (by omega) (by omega)]
  unfold Scalar.select
  refine if_congr ((ofBool_eq_one_iff' _).trans (decide_eq_true_iff.trans ⟨fun h => ⟨?_, ?_⟩, fun h => ⟨?_, ?_⟩⟩)) rfl rfl <;> omega

theorem O1_at (s : FVec Ideal S128x128 .f32) (v : FVec Ideal S128x128 .bf16) (a d : Fin 128) :
    O1 s v (ix3 0 a d) = Ideal.div (∑ j, Ideal.exp (s (ix2 a j) - mx fun j => s (ix2 a j)) * v (ix2 j d)) (den fun j => s (ix2 a j)) := by
  pointwise [O1, E_at, Den_at]

theorem O2_at (s : FVec Ideal S128x256 .f32) (v : FVec Ideal S256x128 .bf16) (a d : Fin 128) :
    O2 s v (ix3 0 a d) = Ideal.div (∑ j, Ideal.exp (s (ix2 a j) - mx fun j => s (ix2 a j)) * v (ix2 j d)) (den fun j => s (ix2 a j)) := by
  pointwise [O2, E_at, Den_at]

/-! ## A block's outputs are the ones over all keys -/

section Keys

variable {D Lq : ℕ} (hD : 0 < D) (hL : Lq * D = 2048) (r : Fin D) {mk : Ideal .f32} (hm : mk = ⊥)
  {Q K : Fin 2048 → Fin 128 → EReal} {v : Fin 2048 → EReal} (hQ : ∀ t e, IsReal (Q t e)) (hK : ∀ t e, IsReal (K t e))

include hD hm hQ hK

theorem O1_key (hn : 0 + 128 ≤ Lq) {q k w : FVec Ideal S128x128 .bf16} (a d : Fin 128) (t : Fin 2048) (ht : (t : ℕ) = a * D + r)
    (hq : ∀ e, q (ix2 a e) = Q t e) (hk : ∀ j e, k (ix2 j e) = K (key hL hn r j) e) (hw : ∀ j, w (ix2 j d) = v (key hL hn r j)) :
    O1 (S1 mk q k) w (ix3 0 a d) = out (sc (128 * D) D Q K t) v := by
  rw [O1_at, ← out_key hD hL hn r Q K hQ hK t a (by rw [Nat.zero_add]; exact ht) a.isLt (.inl rfl) v
    (fun j => S1 mk q k (ix2 a j)) fun j => ?_]
  · simp only [hw]
  · rw [S1_at, hm]; simp only [hq, hk]; rfl

theorem L1_key (hn : 0 + 128 ≤ Lq) {q k : FVec Ideal S128x128 .bf16} (a d : Fin 128) (t : Fin 2048) (ht : (t : ℕ) = a * D + r)
    (hq : ∀ e, q (ix2 a e) = Q t e) (hk : ∀ j e, k (ix2 j e) = K (key hL hn r j) e) :
    L reduces_S128x128_S128 broadcasts_S128x1_S128x128 (S1 mk q k) (ix3 0 a d) = lse (sc (128 * D) D Q K t) := by
  rw [L_at, ← lse_key hD hL hn r Q K hQ hK t a (by rw [Nat.zero_add]; exact ht) a.isLt (.inl rfl)
    (fun j => S1 mk q k (ix2 a j)) fun j => ?_]
  rw [S1_at, hm]; simp only [hq, hk]; rfl

theorem O2_key {lo : ℕ} (hn : lo + 256 ≤ Lq) {q : FVec Ideal S128x128 .bf16} {k w : FVec Ideal S256x128 .bf16} (a d : Fin 128)
    (t : Fin 2048) (ht : (t : ℕ) = (lo + (128 + a)) * D + r)
    (hq : ∀ e, q (ix2 a e) = Q t e) (hk : ∀ j e, k (ix2 j e) = K (key hL hn r j) e) (hw : ∀ j, w (ix2 j d) = v (key hL hn r j)) :
    O2 (S2 mk q k) w (ix3 0 a d) = out (sc (128 * D) D Q K t) v := by
  rw [O2_at, ← out_key hD hL hn r Q K hQ hK t (128 + a) ht (by omega) (.inr (by omega)) v
    (fun j => S2 mk q k (ix2 a j)) fun j => ?_]
  · simp only [hw]
  · rw [S2_at, hm, Nat.add_comm 128]; simp only [hq, hk]

theorem L2_key {lo : ℕ} (hn : lo + 256 ≤ Lq) {q : FVec Ideal S128x128 .bf16} {k : FVec Ideal S256x128 .bf16} (a d : Fin 128)
    (t : Fin 2048) (ht : (t : ℕ) = (lo + (128 + a)) * D + r)
    (hq : ∀ e, q (ix2 a e) = Q t e) (hk : ∀ j e, k (ix2 j e) = K (key hL hn r j) e) :
    L reduces_S128x256_S128 broadcasts_S128x1_S128x256 (S2 mk q k) (ix3 0 a d) = lse (sc (128 * D) D Q K t) := by
  rw [L_at, ← lse_key hD hL hn r Q K hQ hK t (128 + a) ht (by omega) (.inr (by omega))
    (fun j => S2 mk q k (ix2 a j)) fun j => ?_]
  rw [S2_at, hm, Nat.add_comm 128]; simp only [hq, hk]

/-! ### The same, the block and its window cut out of a whole sequence -/

variable {qh kh vh : FVec Ideal ⟨2, ![Lq, 128]⟩ .bf16}

omit hD hm hQ hK in
/-- Rows cut out of a sequence. -/
theorem cut_at {n o : ℕ} (w : FVec Ideal ⟨2, ![Lq, 128]⟩ .bf16) (hs : (⟨2, ![Lq, 128]⟩ : Shape).Slices ![o, 0] ⟨2, ![n, 128]⟩)
    (a : Fin n) (e : Fin 128) (ha : o + a < Lq) :
    extractStridedSlice ⟨2, ![n, 128]⟩ ![o, 0] w hs (ix2 a e) = w (ix2 ⟨o + a, ha⟩ e) := by
  refine congrArg w (funext fun k => ?_)
  fin_cases k
  · rfl
  · exact Fin.ext (Nat.zero_add _)

omit hD hm hQ hK in
theorem blk_idx (x : S1x128x128.Idx) : x = ix3 0 (x 1) (x 2) := by
  funext k
  fin_cases k
  · exact Fin.ext (Nat.lt_one_iff.mp (x 0).isLt)
  · rfl
  · rfl

include hL

/-- The outputs of the first block of a sequence. -/
theorem O1_cut (hn : 0 + 128 ≤ Lq) (hs : (⟨2, ![Lq, 128]⟩ : Shape).Slices ![0, 0] S128x128)
    (x : S1x128x128.Idx) (t : Fin 2048) (ht : (t : ℕ) = (x 1 : ℕ) * D + r)
    (hq : ∀ (l : Fin Lq) (e : Fin 128) (t : Fin 2048), (t : ℕ) = l * D + r → qh (ix2 l e) = Q t e)
    (hk : ∀ (l : Fin Lq) (e : Fin 128) (t : Fin 2048), (t : ℕ) = l * D + r → kh (ix2 l e) = K t e)
    (hv : ∀ (l : Fin Lq) (e : Fin 128) (t : Fin 2048), (e : ℕ) = x 2 → (t : ℕ) = l * D + r → vh (ix2 l e) = v t) :
    O1 (S1 mk (extractStridedSlice S128x128 ![0, 0] qh hs) (extractStridedSlice S128x128 ![0, 0] kh hs))
      (extractStridedSlice S128x128 ![0, 0] vh hs) x = out (sc (128 * D) D Q K t) v := by
  obtain ⟨a, d, rfl⟩ : ∃ (a d : Fin 128), x = ix3 0 a d := ⟨x 1, x 2, blk_idx x⟩
  have ha := a.isLt
  refine O1_key hD hL r hm hQ hK hn a d t ht (fun e => ?_) (fun j e => ?_) fun j => ?_
  · exact (cut_at qh hs a e (by omega)).trans (hq _ _ _ (by rw [ht]; show _ = (0 + (a : ℕ)) * D + r; rw [Nat.zero_add]; rfl))
  · exact (cut_at kh hs j e (by omega)).trans (hk _ _ _ rfl)
  · exact (cut_at vh hs j d (by omega)).trans (hv _ _ _ rfl rfl)

/-- The log-sum-exps of the first block of a sequence. -/
theorem L1_cut (hn : 0 + 128 ≤ Lq) (hs : (⟨2, ![Lq, 128]⟩ : Shape).Slices ![0, 0] S128x128)
    (x : S1x128x128.Idx) (t : Fin 2048) (ht : (t : ℕ) = (x 1 : ℕ) * D + r)
    (hq : ∀ (l : Fin Lq) (e : Fin 128) (t : Fin 2048), (t : ℕ) = l * D + r → qh (ix2 l e) = Q t e)
    (hk : ∀ (l : Fin Lq) (e : Fin 128) (t : Fin 2048), (t : ℕ) = l * D + r → kh (ix2 l e) = K t e) :
    L reduces_S128x128_S128 broadcasts_S128x1_S128x128
      (S1 mk (extractStridedSlice S128x128 ![0, 0] qh hs) (extractStridedSlice S128x128 ![0, 0] kh hs)) x = lse (sc (128 * D) D Q K t) := by
  obtain ⟨a, d, rfl⟩ : ∃ (a d : Fin 128), x = ix3 0 a d := ⟨x 1, x 2, blk_idx x⟩
  have ha := a.isLt
  refine L1_key hD hL r hm hQ hK hn a d t ht (fun e => ?_) fun j e => ?_
  · exact (cut_at qh hs a e (by omega)).trans (hq _ _ _ (by rw [ht]; show _ = (0 + (a : ℕ)) * D + r; rw [Nat.zero_add]; rfl))
  · exact (cut_at kh hs j e (by omega)).trans (hk _ _ _ rfl)

/-- The outputs of a later block: its window begins 128 keys before it. -/
theorem O2_cut {o lo : ℕ} (ho : o = lo + 128) (hn : lo + 256 ≤ Lq) (hsq : (⟨2, ![Lq, 128]⟩ : Shape).Slices ![o, 0] S128x128)
    (hsk : (⟨2, ![Lq, 128]⟩ : Shape).Slices ![lo, 0] S256x128)
    (x : S1x128x128.Idx) (t : Fin 2048) (ht : (t : ℕ) = (o + (x 1 : ℕ)) * D + r)
    (hq : ∀ (l : Fin Lq) (e : Fin 128) (t : Fin 2048), (t : ℕ) = l * D + r → qh (ix2 l e) = Q t e)
    (hk : ∀ (l : Fin Lq) (e : Fin 128) (t : Fin 2048), (t : ℕ) = l * D + r → kh (ix2 l e) = K t e)
    (hv : ∀ (l : Fin Lq) (e : Fin 128) (t : Fin 2048), (e : ℕ) = x 2 → (t : ℕ) = l * D + r → vh (ix2 l e) = v t) :
    O2 (S2 mk (extractStridedSlice S128x128 ![o, 0] qh hsq) (extractStridedSlice S256x128 ![lo, 0] kh hsk))
      (extractStridedSlice S256x128 ![lo, 0] vh hsk) x = out (sc (128 * D) D Q K t) v := by
  subst ho
  obtain ⟨a, d, rfl⟩ : ∃ (a d : Fin 128), x = ix3 0 a d := ⟨x 1, x 2, blk_idx x⟩
  have ha := a.isLt
  refine O2_key hD hL r hm hQ hK hn a d t (ht.trans (by rw [← Nat.add_assoc]; rfl)) (fun e => ?_) (fun j e => ?_) fun j => ?_
  · exact (cut_at qh hsq a e (by omega)).trans (hq _ _ _ ht)
  · exact (cut_at kh hsk j e (by omega)).trans (hk _ _ _ rfl)
  · exact (cut_at vh hsk j d (by omega)).trans (hv _ _ _ rfl rfl)

/-- The log-sum-exps of a later block. -/
theorem L2_cut {o lo : ℕ} (ho : o = lo + 128) (hn : lo + 256 ≤ Lq) (hsq : (⟨2, ![Lq, 128]⟩ : Shape).Slices ![o, 0] S128x128)
    (hsk : (⟨2, ![Lq, 128]⟩ : Shape).Slices ![lo, 0] S256x128)
    (x : S1x128x128.Idx) (t : Fin 2048) (ht : (t : ℕ) = (o + (x 1 : ℕ)) * D + r)
    (hq : ∀ (l : Fin Lq) (e : Fin 128) (t : Fin 2048), (t : ℕ) = l * D + r → qh (ix2 l e) = Q t e)
    (hk : ∀ (l : Fin Lq) (e : Fin 128) (t : Fin 2048), (t : ℕ) = l * D + r → kh (ix2 l e) = K t e) :
    L reduces_S128x256_S128 broadcasts_S128x1_S128x256
      (S2 mk (extractStridedSlice S128x128 ![o, 0] qh hsq) (extractStridedSlice S256x128 ![lo, 0] kh hsk)) x
      = lse (sc (128 * D) D Q K t) := by
  subst ho
  obtain ⟨a, d, rfl⟩ : ∃ (a d : Fin 128), x = ix3 0 a d := ⟨x 1, x 2, blk_idx x⟩
  have ha := a.isLt
  refine L2_key hD hL r hm hQ hK hn a d t (ht.trans (by rw [← Nat.add_assoc]; rfl)) (fun e => ?_) fun j e => ?_
  · exact (cut_at qh hsq a e (by omega)).trans (hq _ _ _ ht)
  · exact (cut_at kh hsk j e (by omega)).trans (hk _ _ _ rfl)

end Keys

end Cert.BandBlk

end
-- ==== Proof.BandTab.lean ====
/- The tables of cosines and signed sines the kernels of the three head groups read, and what they hold. -/
module

public import proofs.«01_k».proof.Pre_finite_gains
public import proofs.«01_k».proof.Proof.BandRef
public import proofs.«01_k».proof.Proof.BandBlk

@[expose] public section

set_option maxRecDepth 16384

noncomputable section

namespace Cert.BandTab

open Cert.Band0Ideal Cert.Band0Ideal.Gen Idealize.ShloMosaic Idealize.ShloMosaic.TcCoe
open Cert.AttnMath Cert.BandSpec

/-- The cosines of the angles, twice side by side. -/
def COS : FVec Ideal S2048x128 .f32 :=
  concatenate S2048x128 1 [⟨S2048x64, (Host.cos Cert.BandRef.ANG : FVec Ideal S2048x64 .f32)⟩, ⟨S2048x64, (Host.cos Cert.BandRef.ANG : FVec Ideal S2048x64 .f32)⟩]
    concatenates_S2048x64_S2048x64_S2048x128_d1

/-- The sines of the angles: negated, then as they are. -/
def SIN : FVec Ideal S2048x128 .f32 :=
  concatenate S2048x128 1 [⟨S2048x64, (Host.negf (Host.sin Cert.BandRef.ANG) : FVec Ideal S2048x64 .f32)⟩, ⟨S2048x64, (Host.sin Cert.BandRef.ANG : FVec Ideal S2048x64 .f32)⟩]
    concatenates_S2048x64_S2048x64_S2048x128_d1

theorem COS_at (t : Fin 2048) (d : Fin 128) : COS (ix2 t d) = Ideal.cos (ang t ⟨(d : ℕ) % 64, Nat.mod_lt _ (by norm_num)⟩) := by
  have hd := d.isLt
  pointwise [COS]
  split
  · rename_i h
    rw [Cert.BandRef.ANG_at]
    exact congrArg (fun x => Ideal.cos (ang t x)) (Fin.ext (Nat.mod_eq_of_lt h).symm)
  · rename_i h
    rw [Cert.BandRef.ANG_at]
    exact congrArg (fun x => Ideal.cos (ang t x)) (Fin.ext (by show (d : ℕ) - 64 = (d : ℕ) % 64; omega))

theorem SIN_at (t : Fin 2048) (d : Fin 128) :
    SIN (ix2 t d) = if (d : ℕ) < 64 then -Ideal.sin (ang t ⟨(d : ℕ) % 64, Nat.mod_lt _ (by norm_num)⟩)
      else Ideal.sin (ang t ⟨(d : ℕ) % 64, Nat.mod_lt _ (by norm_num)⟩) := by
  have hd := d.isLt
  pointwise [SIN]
  split
  · rename_i h
    rw [Cert.BandRef.ANG_at]
    exact congrArg (fun x => -Ideal.sin (ang t x)) (Fin.ext (Nat.mod_eq_of_lt h).symm)
  · rename_i h
    rw [Cert.BandRef.ANG_at]
    exact congrArg (fun x => Ideal.sin (ang t x)) (Fin.ext (by show (d : ℕ) - 64 = (d : ℕ) % 64; omega))

/-! ## The precondition -/

theorem foldl_andi {α : Type} (f : α → BitVec 1) (l : List α) (r : BitVec 1)
    (h : l.foldl (fun r n => IntOp.andi r (f n)) r = 1#1) : r = 1#1 ∧ ∀ n ∈ l, f n = 1#1 := by
  induction l generalizing r with
  | nil => exact ⟨h, fun n hn => absurd hn List.not_mem_nil⟩
  | cons a l ih =>
    obtain ⟨h1, h2⟩ := ih _ h
    obtain ⟨h3, h4⟩ := (by decide : ∀ a b : BitVec 1, IntOp.andi a b = 1#1 → a = 1#1 ∧ b = 1#1) _ _ h1
    refine ⟨h3, fun n hn => ?_⟩
    rcases List.mem_cons.mp hn with rfl | hn
    · exact h4
    · exact h2 n hn

/-- A conjunction over a whole array holds at every element. -/
theorem reduce_andi {s : Shape} {axes : List (Fin s.rank)} (x : IVec s 1) (v : IVec ⟨0, ![]⟩ 1) (h : s.ReducesTo axes ⟨0, ![]⟩)
    (hu : 0 < (⟨0, ![]⟩ : Shape).numel) (j : (⟨0, ![]⟩ : Shape).Idx) (e : Host.reduce IntOp.andi x v h hu j = 1#1) (i : s.Idx) : x i = 1#1 := by
  have := (foldl_andi (fun n => x (s.rowMajor.symm n)) _ _ e).2 (s.rowMajor i)
    (List.mem_filter.mpr ⟨List.mem_finRange _, decide_eq_true (funext fun k => k.elim0)⟩)
  rwa [Equiv.symm_apply_apply] at this

/-- A value whose magnitude compares below `∞` is real. -/
theorem isReal_of_olt (x : EReal) (hx : Ideal.cmp .olt (max x (-x)) (Ideal.ofBits .f32 0x7F800000#32) = 1#1) : IsReal x := by
  refine isReal_of_abs_lt ?_
  rw [Cert.Consts.bits_top] at hx
  by_contra hc
  exact absurd hx (by simp [Ideal.cmp, hc])

/-- The gains are real wherever the precondition holds. -/
theorem gains_real [Cert.Pre_finite_gains.Facts] (A : FVec Ideal S8192x24576 .f32) (wq wk : FVec Ideal S4x128 .f32)
    (h : Cert.Pre_finite_gains.fn (F := Ideal) A wq wk = fun _ => 1#1) : (∀ i, IsReal (wq i)) ∧ ∀ i, IsReal (wk i) := by
  have h0 := congrFun h ix0
  obtain ⟨h1, h2⟩ := (by decide : ∀ a b : BitVec 1, IntOp.andi a b = 1#1 → a = 1#1 ∧ b = 1#1) _ _ h0
  exact ⟨fun i => isReal_of_olt _ (reduce_andi _ _ _ _ _ h1 i), fun i => isReal_of_olt _ (reduce_andi _ _ _ _ _ h2 i)⟩

end Cert.BandTab

end
-- ==== Proof.Band0.lean ====
/-
  The first head group of the windowed attention: dilation 1. The whole sequence is sixteen blocks of 128 queries; a block but
  the first sees the 128 keys before its own ones too.
-/
module

public import proofs.«01_k».proof.Defs
public import proofs.«01_k».proof.Proof.Gen.Band0.Frame
public import proofs.«01_k».proof.Proof.Gen.Band0Ideal.Frame
public import proofs.«01_k».proof.Proof.Gen.Band0RefIdeal.Run
public import Idealize.ShloMosaic.Lib.Claim
public import Idealize.ShloMosaic.Lib.Pointwise
public import Idealize.ShloMosaic.Lib.Pipeline.Value
public import Idealize.ShloMosaic.Lib.Pipeline.ValueKit
public import proofs.«01_k».proof.Proof.BandTab

@[expose] public section

set_option maxRecDepth 16384

noncomputable section

namespace Cert.Band0Ideal.RefValue

open Cert.Band0Ideal Cert.Band0Ideal.Gen Idealize.ShloMosaic Idealize.ShloMosaic.TcCoe Idealize.SL.Sem
open Idealize.ShloMosaic.Pipeline (Dat)
open Cert.AttnMath Cert.BandSpec

variable (m : (ℓ : Loc nD τ sig) → Buf (Elt Ideal) ℓ)

/-! ## What the windows hold -/

/-- Which block each window holds at a point of the grid. -/
theorem idx : ∀ t : Fin cfg0.N, win0_0.index t = ![t.val / 8, 0, t.val / 8 % 1 * 192 + 56 + t.val % 8]
    ∧ win0_1.index t = ![t.val / 8, 0, t.val / 8 % 1 * 192 + 80 + t.val % 8]
    ∧ win0_2.index t = ![t.val / 8, 0, t.val / 8 % 1 * 192 + 104 + t.val % 8]
    ∧ win0_3.index t = ![0, t.val / 8 % 1] ∧ win0_4.index t = ![0, t.val / 8 % 1]
    ∧ win0_5.index t = ![0, 0, 0] ∧ win0_6.index t = ![0, 0, 0]
    ∧ win0_7.index t = ![t.val / 8, 0, t.val / 8 % 1 * 8 + t.val % 8]
    ∧ win0_8.index t = ![t.val / 8, 0, t.val / 8 % 1 * 8 + t.val % 8]
    ∧ win0_9.index t = ![t.val / 8, 0, t.val / 8 % 1 * 8 + t.val % 8] :=
  (by decide +kernel : ∀ t : Fin grid0.N, _)

theorem V_v18 (c : Dev nD) : V m c main_v18 = shapeCast S4x2048x24576 (m ((c : Thread nD τ).loc main_arg0)) shapeCasts_S8192x24576_S4x2048x24576 := by
  unfold V V0; simp only [List.flatten_cons, List.flatten_nil, List.append_nil]; after_results; try rfl

theorem V_v15 (c : Dev nD) : V m c main_v15 = Cert.BandTab.COS := by
  unfold V V0; simp only [List.flatten_cons, List.flatten_nil, List.append_nil]; after_results; try rfl

theorem V_v17 (c : Dev nD) : V m c main_v17 = Cert.BandTab.SIN := by
  unfold V V0; simp only [List.flatten_cons, List.flatten_nil, List.append_nil]; after_results; try rfl

theorem V_v19 (c : Dev nD) : V m c main_v19 = shapeCast S4x1x128 (m ((c : Thread nD τ).loc main_arg1)) shapeCasts_S4x128_S4x1x128 := by
  unfold V V0; simp only [List.flatten_cons, List.flatten_nil, List.append_nil]; after_results; try rfl

theorem V_v20 (c : Dev nD) : V m c main_v20 = shapeCast S4x1x128 (m ((c : Thread nD τ).loc main_arg2)) shapeCasts_S4x128_S4x1x128 := by
  unfold V V0; simp only [List.flatten_cons, List.flatten_nil, List.append_nil]; after_results; try rfl

theorem r18_at (A : FVec Ideal S8192x24576 .f32) (b : Fin 4) (l : Fin 2048) (x : Fin 24576) :
    shapeCast S4x2048x24576 A shapeCasts_S8192x24576_S4x2048x24576 (ix3 b l x)
      = A (ix2 ⟨b * 2048 + l, by omega⟩ x) := by
  pointwise

theorem r21_at (A : FVec Ideal S4x128 .f32) (e : Fin 128) :
    shapeCast S4x1x128 A shapeCasts_S4x128_S4x1x128 (ix3 0 0 e) = A (ix2 0 e) := by
  pointwise

/-- The blocks as vectors. -/
def X0 (c : Dev nD) (t : Fin cfg0.N) : FVec Ideal S1x2048x128 .f32 := iblk m c 0 t
def X1 (c : Dev nD) (t : Fin cfg0.N) : FVec Ideal S1x2048x128 .f32 := iblk m c 1 t
def X2 (c : Dev nD) (t : Fin cfg0.N) : FVec Ideal S1x2048x128 .f32 := iblk m c 2 t
def X3 (c : Dev nD) (t : Fin cfg0.N) : FVec Ideal S2048x128 .f32 := iblk m c 3 t
def X4 (c : Dev nD) (t : Fin cfg0.N) : FVec Ideal S2048x128 .f32 := iblk m c 4 t
def X5 (c : Dev nD) (t : Fin cfg0.N) : FVec Ideal S1x1x128 .f32 := iblk m c 5 t
def X6 (c : Dev nD) (t : Fin cfg0.N) : FVec Ideal S1x1x128 .f32 := iblk m c 6 t

/-- The projected columns as the kernel's windows cut them are the reference's rows. -/
theorem row_at (A : FVec Ideal S8192x24576 .f32) (k : Fin 3) (b : Fin 4) (h : Fin 8) (l : Fin 2048) (e : Fin 128) (p : Fin 2048) (r : ℕ) (hr : r < 1)
    (hp : (p : ℕ) = l * 1 + r) (x : Fin 24576) (hx : (x : ℕ) = (r * 192 + 56 + (k * 3 + 0) * 8 + h) * 128 + e) :
    shapeCast S4x2048x24576 A shapeCasts_S8192x24576_S4x2048x24576 (ix3 b l x) = Cert.BandRef.xrow k 0 A b h p e := by
  rw [r18_at]
  unfold Cert.BandRef.xrow
  have hk := k.isLt
  have hh := h.isLt
  have he := e.isLt
  exact congrArg A (congrArg₂ ix2 (Fin.ext (by show (b : ℕ) * 2048 + l = b * 2048 + p; omega))
    (Fin.ext (by show (x : ℕ) = 7168 + ((k * 3 + 0) * 8 + h) * 128 + e; omega)))

section Point

variable (c : Dev nD) (t : Fin cfg0.N) (b : Fin 4) (h : Fin 8) (hb : (b : ℕ) = t.val / 8) (hh : (h : ℕ) = t.val % 8)
include hb hh

theorem X0_at (l : Fin 2048) (e : Fin 128) (p : Fin 2048) (hp : (p : ℕ) = l * 1 + t.val / 8 % 1) :
    X0 m c t (ix3 0 l e) = Cert.BandRef.xrow 0 0 (m ((c : Thread nD τ).loc main_arg0)) b h p e := by
  have hi : ((cfg0.win 0).blk t).view.emb (ix3 0 l e) = (ix3 b l ⟨(t.val / 8 % 1 * 192 + 56 + t.val % 8) * 128 + e, by omega⟩ : S4x2048x24576.Idx) := by
    blk_ext [idx t]
  have : X0 m c t (ix3 0 l e) = V m c main_v18 (((cfg0.win 0).blk t).view.emb (ix3 0 l e)) := rfl
  rw [this, hi, V_v18]
  exact row_at _ 0 b h l e p _ (Nat.mod_lt _ (by norm_num)) hp _ (by rw [hh]; rfl)

theorem X1_at (l : Fin 2048) (e : Fin 128) (p : Fin 2048) (hp : (p : ℕ) = l * 1 + t.val / 8 % 1) :
    X1 m c t (ix3 0 l e) = Cert.BandRef.xrow 1 0 (m ((c : Thread nD τ).loc main_arg0)) b h p e := by
  have hi : ((cfg0.win 1).blk t).view.emb (ix3 0 l e) = (ix3 b l ⟨(t.val / 8 % 1 * 192 + 80 + t.val % 8) * 128 + e, by omega⟩ : S4x2048x24576.Idx) := by
    blk_ext [idx t]
  have : X1 m c t (ix3 0 l e) = V m c main_v18 (((cfg0.win 1).blk t).view.emb (ix3 0 l e)) := rfl
  rw [this, hi, V_v18]
  exact row_at _ 1 b h l e p _ (Nat.mod_lt _ (by norm_num)) hp _ (by rw [hh]; rfl)

theorem X2_at (l : Fin 2048) (e : Fin 128) (p : Fin 2048) (hp : (p : ℕ) = l * 1 + t.val / 8 % 1) :
    X2 m c t (ix3 0 l e) = Cert.BandRef.xrow 2 0 (m ((c : Thread nD τ).loc main_arg0)) b h p e := by
  have hi : ((cfg0.win 2).blk t).view.emb (ix3 0 l e) = (ix3 b l ⟨(t.val / 8 % 1 * 192 + 104 + t.val % 8) * 128 + e, by omega⟩ : S4x2048x24576.Idx) := by
    blk_ext [idx t]
  have : X2 m c t (ix3 0 l e) = V m c main_v18 (((cfg0.win 2).blk t).view.emb (ix3 0 l e)) := rfl
  rw [this, hi, V_v18]
  exact row_at _ 2 b h l e p _ (Nat.mod_lt _ (by norm_num)) hp _ (by rw [hh]; rfl)

omit hb hh

theorem X3_at (l : Fin 2048) (e : Fin 128) (p : Fin 2048) (hp : (p : ℕ) = l * 1 + t.val / 8 % 1) :
    X3 m c t (ix2 l e) = Ideal.cos (ang p ⟨(e : ℕ) % 64, Nat.mod_lt _ (by norm_num)⟩) := by
  have hi : ((cfg0.win 3).blk t).view.emb (ix2 l e) = (ix2 l ⟨t.val / 8 % 1 * 128 + e, by omega⟩ : S2048x128.Idx) := by
    blk_ext [idx t]
  have : X3 m c t (ix2 l e) = V m c main_v15 (((cfg0.win 3).blk t).view.emb (ix2 l e)) := rfl
  rw [this, hi, V_v15, ← Cert.BandTab.COS_at]
  exact congrArg Cert.BandTab.COS (congrArg₂ ix2 (Fin.ext (by show (l : ℕ) = p; omega))
    (Fin.ext (by show t.val / 8 % 1 * 128 + e = (e : ℕ); omega)))

theorem X4_at (l : Fin 2048) (e : Fin 128) (p : Fin 2048) (hp : (p : ℕ) = l * 1 + t.val / 8 % 1) :
    X4 m c t (ix2 l e) = if (e : ℕ) < 64 then -Ideal.sin (ang p ⟨(e : ℕ) % 64, Nat.mod_lt _ (by norm_num)⟩)
      else Ideal.sin (ang p ⟨(e : ℕ) % 64, Nat.mod_lt _ (by norm_num)⟩) := by
  have hi : ((cfg0.win 4).blk t).view.emb (ix2 l e) = (ix2 l ⟨t.val / 8 % 1 * 128 + e, by omega⟩ : S2048x128.Idx) := by
    blk_ext [idx t]
  have : X4 m c t (ix2 l e) = V m c main_v17 (((cfg0.win 4).blk t).view.emb (ix2 l e)) := rfl
  rw [this, hi, V_v17, ← Cert.BandTab.SIN_at]
  exact congrArg Cert.BandTab.SIN (congrArg₂ ix2 (Fin.ext (by show (l : ℕ) = p; omega))
    (Fin.ext (by show t.val / 8 % 1 * 128 + e = (e : ℕ); omega)))

theorem X5_at (e : Fin 128) : X5 m c t (ix3 0 0 e) = m ((c : Thread nD τ).loc main_arg1) (ix2 0 e) := by
  have hi : ((cfg0.win 5).blk t).view.emb (ix3 0 0 e) = (ix3 0 0 e : S4x1x128.Idx) := by
    blk_ext [idx t]
  have : X5 m c t (ix3 0 0 e) = V m c main_v19 (((cfg0.win 5).blk t).view.emb (ix3 0 0 e)) := rfl
  rw [this, hi, V_v19, r21_at]

theorem X6_at (e : Fin 128) : X6 m c t (ix3 0 0 e) = m ((c : Thread nD τ).loc main_arg2) (ix2 0 e) := by
  have hi : ((cfg0.win 6).blk t).view.emb (ix3 0 0 e) = (ix3 0 0 e : S4x1x128.Idx) := by
    blk_ext [idx t]
  have : X6 m c t (ix3 0 0 e) = V m c main_v20 (((cfg0.win 6).blk t).view.emb (ix3 0 0 e)) := rfl
  rw [this, hi, V_v20, r21_at]

/-! ## The queries and keys of a point -/

/-- The queries the kernel computes. -/
def QV : FVec Ideal S2048x128 .f32 := k0_pay4 (X3 m c t) (X4 m c t) (X0 m c t) (X5 m c t)

/-- The keys the kernel computes. -/
def KV : FVec Ideal S2048x128 .f32 :=
  k0_pay9 (k0_pay2 (X3 m c t)) (k0_pay3 (X4 m c t)) (k0_pay5 (X1 m c t)) (k0_pay6 (X6 m c t)) (k0_pay7 (X1 m c t)) (k0_pay8 (F := Ideal))

/-- The same computation serves the queries and the keys. -/
theorem KV_eq (C S : FVec Ideal S2048x128 .f32) (X : FVec Ideal S1x2048x128 .f32) (G : FVec Ideal S1x1x128 .f32) :
    k0_pay9 (k0_pay2 C) (k0_pay3 S) (k0_pay5 X) (k0_pay6 G) (k0_pay7 X) (k0_pay8 (F := Ideal)) = k0_pay4 C S X G := rfl

/-- Normalized and rotated, a row is the head's vector. -/
theorem head_at (C S : FVec Ideal S2048x128 .f32) (X : FVec Ideal S1x2048x128 .f32) (G : FVec Ideal S1x1x128 .f32) (l : Fin 2048) (d : Fin 128)
    (p : Fin 2048) (x g : Fin 128 → EReal) (hx : ∀ e, X (ix3 0 l e) = x e) (hg : ∀ e, G (ix3 0 0 e) = g e)
    (hc : ∀ e, C (ix2 l e) = Ideal.cos (ang p ⟨(e : ℕ) % 64, Nat.mod_lt _ (by norm_num)⟩))
    (hs : ∀ e, S (ix2 l e) = if (e : ℕ) < 64 then -Ideal.sin (ang p ⟨(e : ℕ) % 64, Nat.mod_lt _ (by norm_num)⟩)
      else Ideal.sin (ang p ⟨(e : ℕ) % 64, Nat.mod_lt _ (by norm_num)⟩)) : k0_pay4 (F := Ideal) C S X G (ix2 l d) = head x g p d := by
  pointwise [k0_pay4, k0_pay2, k0_pay3, hx, hg]
  unfold head
  refine Cert.BandBlk.rot_eq (nrm x g) (fun e => Ideal.cos (ang p e)) (fun e => Ideal.sin (ang p e)) d _ _ _ (hc d) (hs d) ?_
  exact congrArg (nrm x g) (Fin.ext (by show ((d : ℕ) + 128 - 64) % 128 = (d + 64) % 128; omega) :
    (⟨((d : ℕ) + 128 - 64) % 128, Nat.mod_lt _ (by norm_num)⟩ : Fin 128) = ⟨((d : ℕ) + 64) % 128, Nat.mod_lt _ (by norm_num)⟩)

include hb hh

theorem QV_at (l : Fin 2048) (e : Fin 128) (p : Fin 2048) (hp : (p : ℕ) = l * 1 + t.val / 8 % 1) : QV m c t (ix2 l e)
    = Cert.BandRef.hd 0 0 (m ((c : Thread nD τ).loc main_arg0)) (m ((c : Thread nD τ).loc main_arg1)) b h p e :=
  head_at _ _ _ _ l e p _ _ (fun e => X0_at m c t b h hb hh l e p hp) (fun e => X5_at m c t e) (fun e => X3_at m c t l e p hp)
    (fun e => X4_at m c t l e p hp)

theorem KV_at (l : Fin 2048) (e : Fin 128) (p : Fin 2048) (hp : (p : ℕ) = l * 1 + t.val / 8 % 1) : KV m c t (ix2 l e)
    = Cert.BandRef.hd 1 0 (m ((c : Thread nD τ).loc main_arg0)) (m ((c : Thread nD τ).loc main_arg2)) b h p e := by
  unfold KV
  rw [KV_eq]
  exact head_at _ _ _ _ l e p _ _ (fun e => X1_at m c t b h hb hh l e p hp) (fun e => X6_at m c t e) (fun e => X3_at m c t l e p hp)
    (fun e => X4_at m c t l e p hp)

omit hb hh

/-- The values the kernel reads. -/
def VV : FVec Ideal S2048x128 .bf16 := truncf .bf16 (shapeCast S2048x128 (X2 m c t) shapeCasts_S1x2048x128_S2048x128) bitsLt_bf16_f32

include hb hh

theorem VV_at (l : Fin 2048) (e : Fin 128) (p : Fin 2048) (hp : (p : ℕ) = l * 1 + t.val / 8 % 1) :
    VV m c t (ix2 l e) = Cert.BandRef.xrow 2 0 (m ((c : Thread nD τ).loc main_arg0)) b h p e := by
  rw [← X2_at m c t b h hb hh l e p hp]
  pointwise [VV]

omit hb hh

/-- The mask's value. -/
def mk : Ideal .f32 := Named.named κ "mask" 0xF149F2CA#32

theorem mk_eq : mk = ⊥ := IdealRules.named_const.ideal_named_scalar _ _ _ _ rfl

/-- The queries and keys as the blocks are cut from. -/
def QH : FVec Ideal S2048x128 .bf16 := truncf .bf16 (QV m c t) bitsLt_bf16_f32
def KH : FVec Ideal S2048x128 .bf16 := truncf .bf16 (KV m c t) bitsLt_bf16_f32

section Blocks

variable (hq : ∀ i, IsReal (m ((c : Thread nD τ).loc main_arg1) i)) (hk : ∀ i, IsReal (m ((c : Thread nD τ).loc main_arg2) i))
  (hr : t.val / 8 % 1 < 1) (x : Cert.Band0Ideal.S1x128x128.Idx) (p : Fin 2048) (d : Fin 128) (hd : (d : ℕ) = x 2)
include hb hh hq hk hr

/-- The log-sum-exps of a sequence's first block. -/
theorem l_first (hs : S2048x128.Slices ![0, 0] Cert.Band0Ideal.S128x128) (hp : (p : ℕ) = (x 1 : ℕ) * 1 + t.val / 8 % 1) :
    Cert.BandBlk.L Cert.Band0Ideal.Gen.reduces_S128x128_S128 Cert.Band0Ideal.Gen.broadcasts_S128x1_S128x128
        (Cert.BandBlk.S1 mk (extractStridedSlice Cert.Band0Ideal.S128x128 ![0, 0] (QH m c t) hs) (extractStridedSlice Cert.Band0Ideal.S128x128 ![0, 0] (KH m c t) hs)) x
      = lse (sc (128 * 1) 1 (Cert.BandRef.hd 0 0 (m ((c : Thread nD τ).loc main_arg0)) (m ((c : Thread nD τ).loc main_arg1)) b h)
        (Cert.BandRef.hd 1 0 (m ((c : Thread nD τ).loc main_arg0)) (m ((c : Thread nD τ).loc main_arg2)) b h) p) :=
  Cert.BandBlk.L1_cut (D := 1) (Lq := 2048) (by norm_num) (by norm_num) ⟨t.val / 8 % 1, hr⟩ mk_eq (fun t e => head_real _ _ (fun _ => hq _) t e)
    (fun t e => head_real _ _ (fun _ => hk _) t e) (by norm_num) hs x p hp (fun l e p hp => QV_at m c t b h hb hh l e p hp)
    fun l e p hp => KV_at m c t b h hb hh l e p hp

/-- The log-sum-exps of a later block. -/
theorem l_later (o lo : ℕ) (hsq : S2048x128.Slices ![o, 0] Cert.Band0Ideal.S128x128) (hsk : S2048x128.Slices ![lo, 0] Cert.Band0Ideal.S256x128)
    (ho : o = lo + 128) (hn : lo + 256 ≤ 2048) (hp : (p : ℕ) = (o + (x 1 : ℕ)) * 1 + t.val / 8 % 1) :
    Cert.BandBlk.L Cert.Band0Ideal.Gen.reduces_S128x256_S128 Cert.Band0Ideal.Gen.broadcasts_S128x1_S128x256
        (Cert.BandBlk.S2 mk (extractStridedSlice Cert.Band0Ideal.S128x128 ![o, 0] (QH m c t) hsq) (extractStridedSlice Cert.Band0Ideal.S256x128 ![lo, 0] (KH m c t) hsk)) x
      = lse (sc (128 * 1) 1 (Cert.BandRef.hd 0 0 (m ((c : Thread nD τ).loc main_arg0)) (m ((c : Thread nD τ).loc main_arg1)) b h)
        (Cert.BandRef.hd 1 0 (m ((c : Thread nD τ).loc main_arg0)) (m ((c : Thread nD τ).loc main_arg2)) b h) p) :=
  Cert.BandBlk.L2_cut (D := 1) (Lq := 2048) (by norm_num) (by norm_num) ⟨t.val / 8 % 1, hr⟩ mk_eq (fun t e => head_real _ _ (fun _ => hq _) t e)
    (fun t e => head_real _ _ (fun _ => hk _) t e) ho hn hsq hsk x p hp (fun l e p hp => QV_at m c t b h hb hh l e p hp)
    fun l e p hp => KV_at m c t b h hb hh l e p hp

include hd

/-- A value's column, whichever way its number is written. -/
theorem VV_col (l : Fin 2048) (e : Fin 128) (p : Fin 2048) (he : (e : ℕ) = x 2) (hp : (p : ℕ) = l * 1 + t.val / 8 % 1) :
    VV m c t (ix2 l e) = Cert.BandRef.xrow 2 0 (m ((c : Thread nD τ).loc main_arg0)) b h p d := by
  have e1 : e = d := Fin.ext (he.trans hd.symm)
  rw [e1]
  exact VV_at m c t b h hb hh l d p hp

/-- The outputs of a sequence's first block. -/
theorem o_first (hs : S2048x128.Slices ![0, 0] Cert.Band0Ideal.S128x128) (hp : (p : ℕ) = (x 1 : ℕ) * 1 + t.val / 8 % 1) :
    Cert.BandBlk.O1 (Cert.BandBlk.S1 mk (extractStridedSlice Cert.Band0Ideal.S128x128 ![0, 0] (QH m c t) hs) (extractStridedSlice Cert.Band0Ideal.S128x128 ![0, 0] (KH m c t) hs))
        (extractStridedSlice Cert.Band0Ideal.S128x128 ![0, 0] (VV m c t) hs) x
      = out (sc (128 * 1) 1 (Cert.BandRef.hd 0 0 (m ((c : Thread nD τ).loc main_arg0)) (m ((c : Thread nD τ).loc main_arg1)) b h)
        (Cert.BandRef.hd 1 0 (m ((c : Thread nD τ).loc main_arg0)) (m ((c : Thread nD τ).loc main_arg2)) b h) p)
        fun s => Cert.BandRef.xrow 2 0 (m ((c : Thread nD τ).loc main_arg0)) b h s d :=
  Cert.BandBlk.O1_cut (D := 1) (Lq := 2048) (by norm_num) (by norm_num) ⟨t.val / 8 % 1, hr⟩ mk_eq (fun t e => head_real _ _ (fun _ => hq _) t e)
    (fun t e => head_real _ _ (fun _ => hk _) t e) (by norm_num) hs x p hp (fun l e p hp => QV_at m c t b h hb hh l e p hp)
    (fun l e p hp => KV_at m c t b h hb hh l e p hp) fun l e p he hp => VV_col m c t b h hb hh hq hk hr x d hd l e p he hp

/-- The outputs of a later block. -/
theorem o_later (o lo : ℕ) (hsq : S2048x128.Slices ![o, 0] Cert.Band0Ideal.S128x128) (hsk : S2048x128.Slices ![lo, 0] Cert.Band0Ideal.S256x128)
    (ho : o = lo + 128) (hn : lo + 256 ≤ 2048) (hp : (p : ℕ) = (o + (x 1 : ℕ)) * 1 + t.val / 8 % 1) :
    Cert.BandBlk.O2 (Cert.BandBlk.S2 mk (extractStridedSlice Cert.Band0Ideal.S128x128 ![o, 0] (QH m c t) hsq) (extractStridedSlice Cert.Band0Ideal.S256x128 ![lo, 0] (KH m c t) hsk))
        (extractStridedSlice Cert.Band0Ideal.S256x128 ![lo, 0] (VV m c t) hsk) x
      = out (sc (128 * 1) 1 (Cert.BandRef.hd 0 0 (m ((c : Thread nD τ).loc main_arg0)) (m ((c : Thread nD τ).loc main_arg1)) b h)
        (Cert.BandRef.hd 1 0 (m ((c : Thread nD τ).loc main_arg0)) (m ((c : Thread nD τ).loc main_arg2)) b h) p)
        fun s => Cert.BandRef.xrow 2 0 (m ((c : Thread nD τ).loc main_arg0)) b h s d :=
  Cert.BandBlk.O2_cut (D := 1) (Lq := 2048) (by norm_num) (by norm_num) ⟨t.val / 8 % 1, hr⟩ mk_eq (fun t e => head_real _ _ (fun _ => hq _) t e)
    (fun t e => head_real _ _ (fun _ => hk _) t e) ho hn hsq hsk x p hp (fun l e p hp => QV_at m c t b h hb hh l e p hp)
    (fun l e p hp => KV_at m c t b h hb hh l e p hp) fun l e p he hp => VV_col m c t b h hb hh hq hk hr x d hd l e p he hp

end Blocks

end Point

/-! ## The reference's results at an index -/

section Ref

variable (A : FVec Ideal S8192x24576 .f32) (wq wk : FVec Ideal S4x128 .f32)

/-- The reference's outputs. -/
def R0 : FVec Ideal S4x2048x1024 .f32 :=
  shapeCast S4x2048x1024 (Cert.BandRef.RO (128 * 1) 1 0 A wq wk Cert.Band0RefIdeal.Gen.slices_S4x2048x3x3x8x128_S4x2048x1x1x8x128_0_0_0_0_0_0
    Cert.Band0RefIdeal.Gen.slices_S4x2048x3x3x8x128_S4x2048x1x1x8x128_0_0_1_0_0_0
    Cert.Band0RefIdeal.Gen.slices_S4x2048x3x3x8x128_S4x2048x1x1x8x128_0_0_2_0_0_0) Cert.Band0RefIdeal.Gen.shapeCasts_S4x2048x8x128_S4x2048x1024

/-- The reference's log-sum-exps. -/
def R1 : FVec Ideal S4x2048x1024 .f32 :=
  shapeCast S4x2048x1024 (Cert.BandRef.RL (128 * 1) 1 0 A wq wk Cert.Band0RefIdeal.Gen.slices_S4x2048x3x3x8x128_S4x2048x1x1x8x128_0_0_0_0_0_0
    Cert.Band0RefIdeal.Gen.slices_S4x2048x3x3x8x128_S4x2048x1x1x8x128_0_0_1_0_0_0) Cert.Band0RefIdeal.Gen.shapeCasts_S4x2048x8x128_S4x2048x1024

/-- The reference's keys: the last 128 of every sequence. -/
def R2 : FVec Ideal S4x128x1024 .f32 :=
  shapeCast S4x128x1024 (extractStridedSlice Cert.Band0RefIdeal.S4x128x8x128 ![0, 1920, 0, 0]
    (Cert.BandRef.HEADS (Cert.BandRef.XS 1 0 A Cert.Band0RefIdeal.Gen.slices_S4x2048x3x3x8x128_S4x2048x1x1x8x128_0_0_1_0_0_0) wk)
    Cert.Band0RefIdeal.Gen.slices_S4x2048x8x128_S4x128x8x128_0_1920_0_0) shapeCasts_S4x128x1024_S4x128x8x128.symm

theorem keep_at (X : FVec Ideal Cert.Band0RefIdeal.S4x2048x8x128 .f32) (b : Fin 4) (h : Fin 8) (l d : Fin 128) (p : Fin 2048) (r : ℕ)
    (hr : r < 1) (hp : (p : ℕ) = (1920 + l) * 1 + r) (x : Fin 1024) (hx : (x : ℕ) = (r * 8 + h) * 128 + d) :
    shapeCast S4x128x1024 (extractStridedSlice Cert.Band0RefIdeal.S4x128x8x128 ![0, 1920, 0, 0] X
      Cert.Band0RefIdeal.Gen.slices_S4x2048x8x128_S4x128x8x128_0_1920_0_0) shapeCasts_S4x128x1024_S4x128x8x128.symm (ix3 b l x)
      = X (ix4 b p h d) := by
  have hh := h.isLt
  have hd := d.isLt
  pointwise
  exact congrArg X (congr (congr (congrArg (ix4 b) (Fin.ext (by show _ = (p : ℕ); (try dsimp only); omega)))
    (Fin.ext (by show _ = (h : ℕ); (try dsimp only); omega))) (Fin.ext (by show _ = (d : ℕ); (try dsimp only); omega)))

theorem cast_at (X : FVec Ideal Cert.Band0RefIdeal.S4x2048x8x128 .f32) (b : Fin 4) (h : Fin 8) (l : Fin 2048) (d : Fin 128) (p : Fin 2048) (r : ℕ)
    (hr : r < 1) (hp : (p : ℕ) = l * 1 + r) (x : Fin 1024) (hx : (x : ℕ) = (r * 8 + h) * 128 + d) :
    shapeCast S4x2048x1024 X Cert.Band0RefIdeal.Gen.shapeCasts_S4x2048x8x128_S4x2048x1024 (ix3 b l x) = X (ix4 b p h d) := by
  have hh := h.isLt
  have hd := d.isLt
  pointwise
  exact congrArg X (congr (congr (congrArg (ix4 b) (Fin.ext (by show _ = (p : ℕ); (try dsimp only); omega)))
    (Fin.ext (by show _ = (h : ℕ); (try dsimp only); omega))) (Fin.ext (by show _ = (d : ℕ); (try dsimp only); omega)))

theorem R0_at (b : Fin 4) (h : Fin 8) (l : Fin 2048) (d : Fin 128) (p : Fin 2048) (r : ℕ) (hr : r < 1) (hp : (p : ℕ) = l * 1 + r)
    (x : Fin 1024) (hx : (x : ℕ) = (r * 8 + h) * 128 + d) : R0 A wq wk (ix3 b l x)
      = out (sc (128 * 1) 1 (Cert.BandRef.hd 0 0 A wq b h) (Cert.BandRef.hd 1 0 A wk b h) p) fun s => Cert.BandRef.xrow 2 0 A b h s d :=
  (cast_at _ b h l d p r hr hp x hx).trans (Cert.BandRef.RO_at _ _ _ _ _ _ _ _ _ (by norm_num) (by norm_num) (by norm_num) _ _ _ _)

theorem R1_at (b : Fin 4) (h : Fin 8) (l : Fin 2048) (d : Fin 128) (p : Fin 2048) (r : ℕ) (hr : r < 1) (hp : (p : ℕ) = l * 1 + r)
    (x : Fin 1024) (hx : (x : ℕ) = (r * 8 + h) * 128 + d) : R1 A wq wk (ix3 b l x)
      = lse (sc (128 * 1) 1 (Cert.BandRef.hd 0 0 A wq b h) (Cert.BandRef.hd 1 0 A wk b h) p) :=
  (cast_at _ b h l d p r hr hp x hx).trans (Cert.BandRef.RL_at _ _ _ _ _ _ _ _ (by norm_num) (by norm_num) (by norm_num) _ _ _ _)

theorem R2_at (b : Fin 4) (h : Fin 8) (l d : Fin 128) (p : Fin 2048) (r : ℕ) (hr : r < 1) (hp : (p : ℕ) = (1920 + l) * 1 + r)
    (x : Fin 1024) (hx : (x : ℕ) = (r * 8 + h) * 128 + d) : R2 A wk (ix3 b l x) = Cert.BandRef.hd 1 0 A wk b h p d :=
  (keep_at _ b h l d p r hr hp x hx).trans (Cert.BandRef.HXS_at 0 A 1 wk _ _ _ _ _)

end Ref

/-! ## Every point writes the reference's block -/

theorem lt_N (t : Fin cfg0.N) : t.val < 32 := lt_of_lt_of_eq t.isLt (by decide +kernel : cfg0.N = 32)

/-- Where a point's block of a result lies. -/
theorem emb7 (t : Fin cfg0.N) (l : Fin 2048) (d : Fin 128) : ((cfg0.win 7).blk t).view.emb (ix3 0 l d)
    = (ix3 ⟨t.val / 8, by have := lt_N t; omega⟩ l ⟨(t.val / 8 % 1 * 8 + t.val % 8) * 128 + d, by omega⟩ : S4x2048x1024.Idx) := by
  blk_ext [idx t]

theorem emb8 (t : Fin cfg0.N) (l : Fin 2048) (d : Fin 128) : ((cfg0.win 8).blk t).view.emb (ix3 0 l d)
    = (ix3 ⟨t.val / 8, by have := lt_N t; omega⟩ l ⟨(t.val / 8 % 1 * 8 + t.val % 8) * 128 + d, by omega⟩ : S4x2048x1024.Idx) := by
  blk_ext [idx t]

theorem emb9 (t : Fin cfg0.N) (l d : Fin 128) : ((cfg0.win 9).blk t).view.emb (ix3 0 l d)
    = (ix3 ⟨t.val / 8, by have := lt_N t; omega⟩ l ⟨(t.val / 8 % 1 * 8 + t.val % 8) * 128 + d, by omega⟩ : S4x128x1024.Idx) := by
  blk_ext [idx t]

/-- An index of a block is its row and column. -/
theorem seq_idx (x : S1x2048x128.Idx) : x = ix3 0 (x 1) (x 2) := by
  funext k
  fin_cases k
  · exact Fin.ext (Nat.lt_one_iff.mp (x 0).isLt)
  · rfl
  · rfl

section Final

variable (c : Dev nD) (hq : ∀ i, IsReal (m ((c : Thread nD τ).loc main_arg1) i)) (hk : ∀ i, IsReal (m ((c : Thread nD τ).loc main_arg2) i))
include hq hk

theorem point7 (t : Fin cfg0.N) (y : S1x2048x128.Idx) :
    out0_7 (F := Ideal) (X0 m c t) (X1 m c t) (X2 m c t) (X3 m c t) (X4 m c t) (X5 m c t) (X6 m c t) y = R0 (m ((c : Thread nD τ).loc main_arg0)) (m ((c : Thread nD τ).loc main_arg1)) (m ((c : Thread nD τ).loc main_arg2)) (((cfg0.win 7).blk t).view.emb y) := by
  have ht := lt_N t
  have hr : t.val / 8 % 1 < 1 := Nat.mod_lt _ (by norm_num)
  have hy : (y 1 : ℕ) < 2048 := (y 1).isLt
  have hp : (y 1 : ℕ) * 1 + t.val / 8 % 1 < 2048 := by omega
  have e := ((congrArg (fun y => R0 (m ((c : Thread nD τ).loc main_arg0)) (m ((c : Thread nD τ).loc main_arg1)) (m ((c : Thread nD τ).loc main_arg2)) (((cfg0.win 7).blk t).view.emb y)) (seq_idx y)).trans
    (congrArg (R0 (m ((c : Thread nD τ).loc main_arg0)) (m ((c : Thread nD τ).loc main_arg1)) (m ((c : Thread nD τ).loc main_arg2))) (emb7 t (y 1) (y 2)))).trans
    (R0_at _ _ _ ⟨t.val / 8, by omega⟩ ⟨t.val % 8, Nat.mod_lt _ (by norm_num)⟩ (y 1) (y 2) ⟨(y 1 : ℕ) * 1 + t.val / 8 % 1, hp⟩ _ hr rfl _ rfl)
  refine Eq.trans ?_ e.symm
  unfold_out out0_7
  canon_tiles x h
  all_goals simp (disch := decide) only [View.ld_unit_lit']
  case piece15 => exact o_first m c t _ _ rfl rfl hq hk hr x _ _ h2 (by decide) (by dsimp only; omega)
  all_goals exact o_later m c t _ _ rfl rfl hq hk hr x _ _ h2 _ _ (by decide) (by decide) (by norm_num) (by norm_num) (by dsimp only; omega)

theorem point8 (t : Fin cfg0.N) (y : S1x2048x128.Idx) :
    out0_8 (F := Ideal) (X0 m c t) (X1 m c t) (X2 m c t) (X3 m c t) (X4 m c t) (X5 m c t) (X6 m c t) y = R1 (m ((c : Thread nD τ).loc main_arg0)) (m ((c : Thread nD τ).loc main_arg1)) (m ((c : Thread nD τ).loc main_arg2)) (((cfg0.win 8).blk t).view.emb y) := by
  have ht := lt_N t
  have hr : t.val / 8 % 1 < 1 := Nat.mod_lt _ (by norm_num)
  have hy : (y 1 : ℕ) < 2048 := (y 1).isLt
  have hp : (y 1 : ℕ) * 1 + t.val / 8 % 1 < 2048 := by omega
  have e := ((congrArg (fun y => R1 (m ((c : Thread nD τ).loc main_arg0)) (m ((c : Thread nD τ).loc main_arg1)) (m ((c : Thread nD τ).loc main_arg2)) (((cfg0.win 8).blk t).view.emb y)) (seq_idx y)).trans
    (congrArg (R1 (m ((c : Thread nD τ).loc main_arg0)) (m ((c : Thread nD τ).loc main_arg1)) (m ((c : Thread nD τ).loc main_arg2))) (emb8 t (y 1) (y 2)))).trans
    (R1_at _ _ _ ⟨t.val / 8, by omega⟩ ⟨t.val % 8, Nat.mod_lt _ (by norm_num)⟩ (y 1) (y 2) ⟨(y 1 : ℕ) * 1 + t.val / 8 % 1, hp⟩ _ hr rfl _ rfl)
  refine Eq.trans ?_ e.symm
  unfold_out out0_8
  canon_tiles x h
  all_goals simp (disch := decide) only [View.ld_unit_lit']
  case piece15 => exact l_first m c t _ _ rfl rfl hq hk hr x _ (by decide) (by dsimp only; omega)
  all_goals exact l_later m c t _ _ rfl rfl hq hk hr x _ _ _ (by decide) (by decide) (by norm_num) (by norm_num) (by dsimp only; omega)

omit hq hk

theorem point9 (t : Fin cfg0.N) (y : Cert.Band0Ideal.S1x128x128.Idx) :
    k0_pay10 (k0_pay2 (X3 m c t)) (k0_pay3 (X4 m c t)) (k0_pay5 (X1 m c t)) (k0_pay6 (X6 m c t)) (k0_pay7 (X1 m c t)) (k0_pay8 (F := Ideal)) y
      = R2 (m ((c : Thread nD τ).loc main_arg0)) (m ((c : Thread nD τ).loc main_arg2)) (((cfg0.win 9).blk t).view.emb y) := by
  obtain ⟨l, d, rfl⟩ : ∃ (l d : Fin 128), y = ix3 0 l d := ⟨y 1, y 2, Cert.BandBlk.blk_idx y⟩
  have ht := lt_N t
  have hr : t.val / 8 % 1 < 1 := Nat.mod_lt _ (by norm_num)
  have hp : (1920 + (l : ℕ)) * 1 + t.val / 8 % 1 < 2048 := by omega
  rw [emb9, R2_at _ _ _ ⟨t.val % 8, Nat.mod_lt _ (by norm_num)⟩ l d ⟨(1920 + l) * 1 + t.val / 8 % 1, hp⟩ _ hr rfl _ rfl]
  have e : ∀ K : FVec Ideal S2048x128 .f32, shapeCast Cert.Band0Ideal.S1x128x128 (extractStridedSlice Cert.Band0Ideal.S128x128 ![1920, 0] K slices_S2048x128_o1920_0_S128x128)
      shapeCasts_S128x128_S1x128x128 (ix3 0 l d) = K (ix2 ⟨1920 + l, by omega⟩ d) := fun K => by pointwise
  exact (e (KV m c t)).trans (KV_at m c t _ _ rfl rfl _ d _ rfl)

theorem final9 : (dats m 0 c).arrAt 9 (cfgs 0).N = R2 (m ((c : Thread nD τ).loc main_arg0)) (m ((c : Thread nD τ).loc main_arg2)) := by
  refine (dats m 0 c).arrAt_eq_of_covers 9 _ (by decide +kernel) fun t _ y => ?_
  blk_simp; rw [after0_9]; unfold_out out0_9; frame_out; exact point9 m c t y

include hq hk

theorem final7 : (dats m 0 c).arrAt 7 (cfgs 0).N = R0 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp; rw [after0_7]; exact point7 m c hq hk t y

theorem final8 : (dats m 0 c).arrAt 8 (cfgs 0).N = R1 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp; rw [after0_8]; exact point8 m c hq hk t y

end Final

/-- The new keys and values on a common axis. -/
def STACK (k v : FVec Ideal S4x128x8x128 .f32) : FVec Ideal S4x128x2x8x128 .f32 :=
  concatenate S4x128x2x8x128 2 [⟨S4x128x1x8x128, (broadcastInDim S4x128x1x8x128 ![0, 1, 3, 4] bcast_S4x128x8x128_S4x128x1x8x128_0_1_3_4 k : FVec Ideal S4x128x1x8x128 .f32)⟩,
    ⟨S4x128x1x8x128, (broadcastInDim S4x128x1x8x128 ![0, 1, 3, 4] bcast_S4x128x8x128_S4x128x1x8x128_0_1_3_4 v : FVec Ideal S4x128x1x8x128 .f32)⟩]
    concatenates_S4x128x1x8x128_S4x128x1x8x128_S4x128x2x8x128_d2

/-- What the host makes of the kernel's keys and the projection. -/
def TAIL (A : FVec Ideal S8192x24576 .f32) (K : FVec Ideal S4x128x1024 .f32) : FVec Ideal S4x128x2x8x128 .f32 :=
  STACK (shapeCast S4x128x8x128 K shapeCasts_S4x128x1024_S4x128x8x128)
    (shapeCast S4x128x8x128 (extractStridedSlice S4x128x1024 ![0, 1920, 13312] (shapeCast S4x2048x24576 A shapeCasts_S8192x24576_S4x2048x24576)
      slices_S4x2048x24576_S4x128x1024_0_1920_13312) shapeCasts_S4x128x1024_S4x128x8x128)

/-- The reference's: the last keys and values of every sequence. -/
def R3 (A : FVec Ideal S8192x24576 .f32) (wk : FVec Ideal S4x128 .f32) : FVec Ideal S4x128x2x8x128 .f32 :=
  STACK (extractStridedSlice Cert.Band0RefIdeal.S4x128x8x128 ![0, 1920, 0, 0]
    (Cert.BandRef.HEADS (Cert.BandRef.XS 1 0 A Cert.Band0RefIdeal.Gen.slices_S4x2048x3x3x8x128_S4x2048x1x1x8x128_0_0_1_0_0_0) wk)
    Cert.Band0RefIdeal.Gen.slices_S4x2048x8x128_S4x128x8x128_0_1920_0_0)
    (extractStridedSlice Cert.Band0RefIdeal.S4x128x8x128 ![0, 1920, 0, 0]
    (Cert.BandRef.XS 2 0 A Cert.Band0RefIdeal.Gen.slices_S4x2048x3x3x8x128_S4x2048x1x1x8x128_0_0_2_0_0_0)
    Cert.Band0RefIdeal.Gen.slices_S4x2048x8x128_S4x128x8x128_0_1920_0_0)

/-- The values the host cuts from the projection are the reference's. -/
theorem vals_eq (A : FVec Ideal S8192x24576 .f32) :
    shapeCast S4x128x8x128 (extractStridedSlice S4x128x1024 ![0, 1920, 13312] (shapeCast S4x2048x24576 A shapeCasts_S8192x24576_S4x2048x24576)
      slices_S4x2048x24576_S4x128x1024_0_1920_13312) shapeCasts_S4x128x1024_S4x128x8x128
      = (extractStridedSlice Cert.Band0RefIdeal.S4x128x8x128 ![0, 1920, 0, 0]
    (Cert.BandRef.XS 2 0 A Cert.Band0RefIdeal.Gen.slices_S4x2048x3x3x8x128_S4x2048x1x1x8x128_0_0_2_0_0_0)
    Cert.Band0RefIdeal.Gen.slices_S4x2048x8x128_S4x128x8x128_0_1920_0_0) := by
  funext i
  obtain ⟨b, l, h, d, rfl⟩ : ∃ (b : Fin 4) (l : Fin 128) (h : Fin 8) (d : Fin 128), i = ix4 b l h d :=
    ⟨i 0, i 1, i 2, i 3, by funext k; fin_cases k <;> rfl⟩
  have e0 : ∀ Q : FVec Ideal S4x2048x24576 .f32, shapeCast S4x128x8x128 (extractStridedSlice S4x128x1024 ![0, 1920, 13312] Q
      slices_S4x2048x24576_S4x128x1024_0_1920_13312) shapeCasts_S4x128x1024_S4x128x8x128 (ix4 b l h d)
      = Q (ix3 b ⟨1920 + l, by omega⟩ ⟨13312 + (h * 128 + d), by omega⟩) := fun Q => by
    pointwise
  have e1 : ∀ (p : Fin 2048) (x : Fin 24576), shapeCast S4x2048x24576 A shapeCasts_S8192x24576_S4x2048x24576 (ix3 b p x)
      = A (ix2 ⟨b * 2048 + p, by omega⟩ x) := fun p x => by pointwise
  have e3 : ∀ X : FVec Ideal Cert.Band0RefIdeal.S4x2048x8x128 .f32, extractStridedSlice Cert.Band0RefIdeal.S4x128x8x128 ![0, 1920, 0, 0] X
      Cert.Band0RefIdeal.Gen.slices_S4x2048x8x128_S4x128x8x128_0_1920_0_0 (ix4 b l h d) = X (ix4 b ⟨1920 + l, by omega⟩ h d) := fun X => by pointwise
  have e2 : (extractStridedSlice Cert.Band0RefIdeal.S4x128x8x128 ![0, 1920, 0, 0]
    (Cert.BandRef.XS 2 0 A Cert.Band0RefIdeal.Gen.slices_S4x2048x3x3x8x128_S4x2048x1x1x8x128_0_0_2_0_0_0)
    Cert.Band0RefIdeal.Gen.slices_S4x2048x8x128_S4x128x8x128_0_1920_0_0) (ix4 b l h d) = Cert.BandRef.xrow 2 0 A b h ⟨1920 + l, by omega⟩ d :=
    (e3 _).trans (Cert.BandRef.XS_at 2 0 A _ b ⟨1920 + l, by omega⟩ h d)
  refine (e0 _).trans ((e1 _ _).trans (Eq.trans ?_ e2.symm))
  unfold Cert.BandRef.xrow
  exact congrArg A (congrArg (ix2 _) (Fin.ext (by show 13312 + ((h : ℕ) * 128 + d) = 7168 + ((2 * 3 + 0) * 8 + h) * 128 + d; omega)))

/-- Of the reference's keys, flat as the kernel leaves them, the host makes the reference's. -/
theorem tail_eq (A : FVec Ideal S8192x24576 .f32) (wk : FVec Ideal S4x128 .f32) : TAIL A (R2 A wk) = R3 A wk :=
  congrArg₂ STACK (shapeCast_shapeCast _ _ _) (vals_eq A)

/-- What the host's lines after the call make of any arrays. -/
theorem after_tail (U : Valuation τ sig (Elt Ideal)) :
    StableHlo.after (List.flatten [hostOps1]) U (Proc.devRef .tc main_v28) = TAIL (U (Proc.devRef .tc main_arg0)) (U (Proc.devRef .tc main_v21_2)) := by
  simp only [List.flatten_cons, List.flatten_nil, List.append_nil]; after_results; try rfl

/-- They leave it in the third result. -/
theorem tail (c : Dev nD) : Pipeline.afterTail₀ cfgs (dats m) 0 (V0 m) [hostOps1] c main_v28
    = TAIL (m ((c : Thread nD τ).loc main_arg0)) ((dats m 0 c).arrAt 9 (cfgs 0).N) :=
  (after_tail _).trans (congrArg₂ TAIL
    ((Pipeline.withArrays_of_ne _ c (V0 m c) _ main_arg0 (by exact (by decide : ∀ w, Pipeline.arrRef spec0 w ≠ main_arg0))).trans (V_main_arg0 m c))
    (Pipeline.Dat.withArrays_arrAt (dats m 0 c) sharedIn0 (V0 m c) (A_eq m c) 9))

/-- The run with the three results and the arguments named. -/
theorem run_all (ρ : Dev nD → PrngReg) : θ_run defs (onTc (τ := τ) (main (F := Ideal))) ⟨m, fun _ => 0, ρ⟩ fun r => ∀ c : Dev nD,
      r.2.mem ((c : Thread nD τ).loc main_v21_0) = (dats m 0 c).arrAt 7 (cfgs 0).N
      ∧ r.2.mem ((c : Thread nD τ).loc main_v21_1) = (dats m 0 c).arrAt 8 (cfgs 0).N
      ∧ r.2.mem ((c : Thread nD τ).loc main_v28) = TAIL (m ((c : Thread nD τ).loc main_arg0)) ((dats m 0 c).arrAt 9 (cfgs 0).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 7, (h.1 c).1 8,
    ((h.1 c).2 main_v28 (Pipeline.mem_restRefs_of main_v28 (by decide) (by decide))).trans (tail m c), h.2 c⟩)
    (θ_run_and (run_main m ρ) (unchanged m ρ))

end Cert.Band0Ideal.RefValue

namespace Cert.Proof

open Idealize.ShloMosaic Idealize.ShloMosaic.TcCoe Idealize.SL.Sem

/-- The kernel runs as printed and leaves its arguments alone. -/
theorem frame_Band0 : quiescent_Band0 := fun m ρ _ => Cert.Band0.Gen.frame m ρ

/-- So does its idealization. -/
theorem frame_Band0Ideal : quiescent_Band0Ideal := fun m ρ _ => Cert.Band0Ideal.Gen.frame m ρ

/-- So it does where the gains are real. -/
theorem frame_Band0Ideal_real [Cert.Pre_finite_gains.Facts] : quiescent_Band0Ideal_pre_finite_gains := fun m ρ _ => Cert.Band0Ideal.Gen.frame m ρ

/-- The reference runs and leaves its arguments alone. -/
theorem frame_Band0RefIdeal : quiescent_Band0RefIdeal := by
  intro m ρ _
  refine θ_run_mono (Cert.Band0RefIdeal.Value.run m ρ) fun r h => ?_
  exact ⟨fun c => (h c).2.2.2, sem_eq_zero_of_no_sems (by decide) r.2⟩

theorem frame_Band0RefIdeal_real [Cert.Pre_finite_gains.Facts] : quiescent_Band0RefIdeal_pre_finite_gains := by
  intro m ρ _
  refine θ_run_mono (Cert.Band0RefIdeal.Value.run m ρ) fun r h => ?_
  exact ⟨fun c => (h c).2.2.2, sem_eq_zero_of_no_sems (by decide) r.2⟩

/-- The idealization replaces the mask's finite number by `-∞` and nothing else. -/
theorem mask_Band0 : preserves_Band0_Band0Ideal := IdealRules.named_const.statement Cert.Band0Ideal.κ "mask" .f32 0xF149F2CA#32 ⊥ rfl

/-- The reference's printed keys are the staged ones. -/
theorem keys_Band0 (m : (ℓ : Loc Cert.Band0RefIdeal.nD Cert.Band0RefIdeal.τ Cert.Band0RefIdeal.sig) → Buf (Elt Ideal) ℓ)
    (c : Dev Cert.Band0RefIdeal.nD) : Cert.Band0RefIdeal.Value.res_main_v94 (StableHlo.launchContents m c) = Cert.BandRef.HEADS (Cert.BandRef.XS 1 0 (m ((c.tc : Thread _ _).loc Cert.Band0RefIdeal.main_arg0)) Cert.Band0RefIdeal.Gen.slices_S4x2048x3x3x8x128_S4x2048x1x1x8x128_0_0_1_0_0_0) (m ((c.tc : Thread _ _).loc Cert.Band0RefIdeal.main_arg2)) := rfl

/-- The reference's printed values are the staged ones. -/
theorem vals_Band0 (m : (ℓ : Loc Cert.Band0RefIdeal.nD Cert.Band0RefIdeal.τ Cert.Band0RefIdeal.sig) → Buf (Elt Ideal) ℓ)
    (c : Dev Cert.Band0RefIdeal.nD) : Cert.Band0RefIdeal.Value.res_main_v96 (StableHlo.launchContents m c) = Cert.BandRef.XS 2 0 (m ((c.tc : Thread _ _).loc Cert.Band0RefIdeal.main_arg0)) Cert.Band0RefIdeal.Gen.slices_S4x2048x3x3x8x128_S4x2048x1x1x8x128_0_0_2_0_0_0 := rfl

/-- The reference's printed scores are the staged ones. -/
theorem scores_Band0 (m : (ℓ : Loc Cert.Band0RefIdeal.nD Cert.Band0RefIdeal.τ Cert.Band0RefIdeal.sig) → Buf (Elt Ideal) ℓ)
    (c : Dev Cert.Band0RefIdeal.nD) : Cert.Band0RefIdeal.Value.res_main_v115 (StableHlo.launchContents m c)
      = (Cert.BandRef.RS (128 * 1) 1 0 (m ((c.tc : Thread _ _).loc Cert.Band0RefIdeal.main_arg0)) (m ((c.tc : Thread _ _).loc Cert.Band0RefIdeal.main_arg1)) (m ((c.tc : Thread _ _).loc Cert.Band0RefIdeal.main_arg2))
      Cert.Band0RefIdeal.Gen.slices_S4x2048x3x3x8x128_S4x2048x1x1x8x128_0_0_0_0_0_0 Cert.Band0RefIdeal.Gen.slices_S4x2048x3x3x8x128_S4x2048x1x1x8x128_0_0_1_0_0_0) := rfl

/-- The reference's printed log-sum-exps are the staged ones. -/
theorem lse_Band0 (m : (ℓ : Loc Cert.Band0RefIdeal.nD Cert.Band0RefIdeal.τ Cert.Band0RefIdeal.sig) → Buf (Elt Ideal) ℓ)
    (c : Dev Cert.Band0RefIdeal.nD) : Cert.Band0RefIdeal.Value.res_main_v123 (StableHlo.launchContents m c)
      = Cert.BandRef.LSE (Cert.BandRef.RS (128 * 1) 1 0 (m ((c.tc : Thread _ _).loc Cert.Band0RefIdeal.main_arg0)) (m ((c.tc : Thread _ _).loc Cert.Band0RefIdeal.main_arg1)) (m ((c.tc : Thread _ _).loc Cert.Band0RefIdeal.main_arg2))
      Cert.Band0RefIdeal.Gen.slices_S4x2048x3x3x8x128_S4x2048x1x1x8x128_0_0_0_0_0_0 Cert.Band0RefIdeal.Gen.slices_S4x2048x3x3x8x128_S4x2048x1x1x8x128_0_0_1_0_0_0) := rfl

/-- Where the gains are real, kernel and reference end with equal results. -/
theorem equal_Band0 [Cert.Pre_finite_gains.Facts] : algebraic_Band0Ideal_Band0RefIdeal_pre_finite_gains := by
  intro m g m' g' hpre hag
  have hr := fun c => Cert.BandTab.gains_real _ _ _ (hpre c)
  refine ⟨fun c => (Cert.Band0Ideal.Gen.dats m 0 c).arrAt 7 Cert.Band0Ideal.cfg0.N, fun c => (Cert.Band0Ideal.Gen.dats m 0 c).arrAt 8 Cert.Band0Ideal.cfg0.N,
    fun c => Cert.Band0Ideal.RefValue.TAIL (m ((c.tc : Thread _ _).loc Cert.Band0Ideal.main_arg0)) ((Cert.Band0Ideal.Gen.dats m 0 c).arrAt 9 (Cert.Band0Ideal.cfgs 0).N), ?_, ?_⟩
  · run_from Cert.Band0Ideal.RefValue.run_all m g
  · refine (θ_run _ _ _).mono (fun r h c => ?_) (Cert.Band0RefIdeal.Value.run m' g')
    obtain ⟨h0, h1, h2, h3⟩ := h c
    obtain ⟨a0, a1, a2⟩ := hag c
    refine ⟨h0.trans (Eq.trans (b := Cert.Band0Ideal.RefValue.R0 (m' ((c.tc : Thread _ _).loc Cert.Band0RefIdeal.main_arg0)) (m' ((c.tc : Thread _ _).loc Cert.Band0RefIdeal.main_arg1)) (m' ((c.tc : Thread _ _).loc Cert.Band0RefIdeal.main_arg2))) ?_ ?_), h1.trans (Eq.trans (b := Cert.Band0Ideal.RefValue.R1 (m' ((c.tc : Thread _ _).loc Cert.Band0RefIdeal.main_arg0)) (m' ((c.tc : Thread _ _).loc Cert.Band0RefIdeal.main_arg1)) (m' ((c.tc : Thread _ _).loc Cert.Band0RefIdeal.main_arg2))) ?_ ?_),
      h2.trans (Eq.trans (b := Cert.Band0Ideal.RefValue.R3 (m' ((c.tc : Thread _ _).loc Cert.Band0RefIdeal.main_arg0)) (m' ((c.tc : Thread _ _).loc Cert.Band0RefIdeal.main_arg2))) ?_ ?_), h3⟩
    · rw [vals_Band0, scores_Band0, lse_Band0]; rfl
    · rw [a0, a1, a2]; exact (Cert.Band0Ideal.RefValue.final7 m c (hr c).1 (hr c).2).symm
    · rw [lse_Band0]; rfl
    · rw [a0, a1, a2]; exact (Cert.Band0Ideal.RefValue.final8 m c (hr c).1 (hr c).2).symm
    · rw [keys_Band0, vals_Band0]; rfl
    · rw [a0, a2]; exact (Cert.Band0Ideal.RefValue.tail_eq _ _).symm.trans (congrArg (Cert.Band0Ideal.RefValue.TAIL _) (Cert.Band0Ideal.RefValue.final9 m c).symm)

end Cert.Proof

end
-- ==== Proof.Band1.lean ====
/-
  The second head group of the windowed attention: dilation 4. A sequence of positions congruent to each other is four blocks
  of 128 queries; a block but the first sees the 128 keys before its own ones too.
-/
module

public import proofs.«01_k».proof.Defs
public import proofs.«01_k».proof.Proof.Gen.Band1.Frame
public import proofs.«01_k».proof.Proof.Gen.Band1Ideal.Frame
public import proofs.«01_k».proof.Proof.Gen.Band1RefIdeal.Run
public import Idealize.ShloMosaic.Lib.Claim
public import Idealize.ShloMosaic.Lib.Pointwise
public import Idealize.ShloMosaic.Lib.Pipeline.Value
public import Idealize.ShloMosaic.Lib.Pipeline.ValueKit
public import proofs.«01_k».proof.Proof.BandTab

@[expose] public section

set_option maxRecDepth 16384

noncomputable section

namespace Cert.Band1Ideal.RefValue

open Cert.Band1Ideal Cert.Band1Ideal.Gen Idealize.ShloMosaic Idealize.ShloMosaic.TcCoe Idealize.SL.Sem
open Idealize.ShloMosaic.Pipeline (Dat)
open Cert.AttnMath Cert.BandSpec

variable (m : (ℓ : Loc nD τ sig) → Buf (Elt Ideal) ℓ)

/-! ## What the windows hold -/

/-- Which block each window holds at a point of the grid. -/
theorem idx : ∀ t : Fin cfg0.N, win0_0.index t = ![t.val / 32, 0, t.val / 8 % 4 * 192 + 64 + t.val % 8]
    ∧ win0_1.index t = ![t.val / 32, 0, t.val / 8 % 4 * 192 + 88 + t.val % 8]
    ∧ win0_2.index t = ![t.val / 32, 0, t.val / 8 % 4 * 192 + 112 + t.val % 8]
    ∧ win0_3.index t = ![0, t.val / 8 % 4] ∧ win0_4.index t = ![0, t.val / 8 % 4]
    ∧ win0_5.index t = ![0, 0, 0] ∧ win0_6.index t = ![0, 0, 0]
    ∧ win0_7.index t = ![t.val / 32, 0, t.val / 8 % 4 * 8 + t.val % 8]
    ∧ win0_8.index t = ![t.val / 32, 0, t.val / 8 % 4 * 8 + t.val % 8]
    ∧ win0_9.index t = ![t.val / 32, 0, t.val / 8 % 4 * 8 + t.val % 8] :=
  (by decide +kernel : ∀ t : Fin grid0.N, _)

theorem V_v18 (c : Dev nD) : V m c main_v18 = shapeCast S4x512x98304 (m ((c : Thread nD τ).loc main_arg0)) shapeCasts_S8192x24576_S4x512x98304 := by
  unfold V V0; simp only [List.flatten_cons, List.flatten_nil, List.append_nil]; after_results; try rfl

theorem V_v19 (c : Dev nD) : V m c main_v19 = shapeCast S512x512 Cert.BandTab.COS shapeCasts_S2048x128_S512x512 := by
  unfold V V0; simp only [List.flatten_cons, List.flatten_nil, List.append_nil]; after_results; try rfl

theorem V_v20 (c : Dev nD) : V m c main_v20 = shapeCast S512x512 Cert.BandTab.SIN shapeCasts_S2048x128_S512x512 := by
  unfold V V0; simp only [List.flatten_cons, List.flatten_nil, List.append_nil]; after_results; try rfl

theorem V_v21 (c : Dev nD) : V m c main_v21 = shapeCast S4x1x128 (m ((c : Thread nD τ).loc main_arg1)) shapeCasts_S4x128_S4x1x128 := by
  unfold V V0; simp only [List.flatten_cons, List.flatten_nil, List.append_nil]; after_results; try rfl

theorem V_v22 (c : Dev nD) : V m c main_v22 = shapeCast S4x1x128 (m ((c : Thread nD τ).loc main_arg2)) shapeCasts_S4x128_S4x1x128 := by
  unfold V V0; simp only [List.flatten_cons, List.flatten_nil, List.append_nil]; after_results; try rfl

theorem r18_at (A : FVec Ideal S8192x24576 .f32) (b : Fin 4) (l : Fin 512) (x : Fin 98304) :
    shapeCast S4x512x98304 A shapeCasts_S8192x24576_S4x512x98304 (ix3 b l x)
      = A (ix2 ⟨b * 2048 + l * 4 + x / 24576, by omega⟩ ⟨x % 24576, by omega⟩) := by
  pointwise

theorem r19_at (A : FVec Ideal S2048x128 .f32) (l : Fin 512) (x : Fin 512) :
    shapeCast S512x512 A shapeCasts_S2048x128_S512x512 (ix2 l x)
      = A (ix2 ⟨l * 4 + x / 128, by omega⟩ ⟨x % 128, by omega⟩) := by
  pointwise

theorem r21_at (A : FVec Ideal S4x128 .f32) (e : Fin 128) :
    shapeCast S4x1x128 A shapeCasts_S4x128_S4x1x128 (ix3 0 0 e) = A (ix2 0 e) := by
  pointwise

/-- The blocks as vectors. -/
def X0 (c : Dev nD) (t : Fin cfg0.N) : FVec Ideal S1x512x128 .f32 := iblk m c 0 t
def X1 (c : Dev nD) (t : Fin cfg0.N) : FVec Ideal S1x512x128 .f32 := iblk m c 1 t
def X2 (c : Dev nD) (t : Fin cfg0.N) : FVec Ideal S1x512x128 .f32 := iblk m c 2 t
def X3 (c : Dev nD) (t : Fin cfg0.N) : FVec Ideal S512x128 .f32 := iblk m c 3 t
def X4 (c : Dev nD) (t : Fin cfg0.N) : FVec Ideal S512x128 .f32 := iblk m c 4 t
def X5 (c : Dev nD) (t : Fin cfg0.N) : FVec Ideal S1x1x128 .f32 := iblk m c 5 t
def X6 (c : Dev nD) (t : Fin cfg0.N) : FVec Ideal S1x1x128 .f32 := iblk m c 6 t

/-- The projected columns as the kernel's windows cut them are the reference's rows. -/
theorem row_at (A : FVec Ideal S8192x24576 .f32) (k : Fin 3) (b : Fin 4) (h : Fin 8) (l : Fin 512) (e : Fin 128) (p : Fin 2048) (r : ℕ) (hr : r < 4)
    (hp : (p : ℕ) = l * 4 + r) (x : Fin 98304) (hx : (x : ℕ) = (r * 192 + 56 + (k * 3 + 1) * 8 + h) * 128 + e) :
    shapeCast S4x512x98304 A shapeCasts_S8192x24576_S4x512x98304 (ix3 b l x) = Cert.BandRef.xrow k 1 A b h p e := by
  rw [r18_at]
  unfold Cert.BandRef.xrow
  have hk := k.isLt
  have hh := h.isLt
  have he := e.isLt
  have e1 : (x : ℕ) / 24576 = r := by omega
  exact congrArg A (congrArg₂ ix2 (Fin.ext (by show (b : ℕ) * 2048 + l * 4 + x / 24576 = b * 2048 + p; omega))
    (Fin.ext (by show (x : ℕ) % 24576 = 7168 + ((k * 3 + 1) * 8 + h) * 128 + e; omega)))

section Point

variable (c : Dev nD) (t : Fin cfg0.N) (b : Fin 4) (h : Fin 8) (hb : (b : ℕ) = t.val / 32) (hh : (h : ℕ) = t.val % 8)
include hb hh

theorem X0_at (l : Fin 512) (e : Fin 128) (p : Fin 2048) (hp : (p : ℕ) = l * 4 + t.val / 8 % 4) :
    X0 m c t (ix3 0 l e) = Cert.BandRef.xrow 0 1 (m ((c : Thread nD τ).loc main_arg0)) b h p e := by
  have hi : ((cfg0.win 0).blk t).view.emb (ix3 0 l e) = (ix3 b l ⟨(t.val / 8 % 4 * 192 + 64 + t.val % 8) * 128 + e, by omega⟩ : S4x512x98304.Idx) := by
    blk_ext [idx t]
  have : X0 m c t (ix3 0 l e) = V m c main_v18 (((cfg0.win 0).blk t).view.emb (ix3 0 l e)) := rfl
  rw [this, hi, V_v18]
  exact row_at _ 0 b h l e p _ (Nat.mod_lt _ (by norm_num)) hp _ (by rw [hh]; rfl)

theorem X1_at (l : Fin 512) (e : Fin 128) (p : Fin 2048) (hp : (p : ℕ) = l * 4 + t.val / 8 % 4) :
    X1 m c t (ix3 0 l e) = Cert.BandRef.xrow 1 1 (m ((c : Thread nD τ).loc main_arg0)) b h p e := by
  have hi : ((cfg0.win 1).blk t).view.emb (ix3 0 l e) = (ix3 b l ⟨(t.val / 8 % 4 * 192 + 88 + t.val % 8) * 128 + e, by omega⟩ : S4x512x98304.Idx) := by
    blk_ext [idx t]
  have : X1 m c t (ix3 0 l e) = V m c main_v18 (((cfg0.win 1).blk t).view.emb (ix3 0 l e)) := rfl
  rw [this, hi, V_v18]
  exact row_at _ 1 b h l e p _ (Nat.mod_lt _ (by norm_num)) hp _ (by rw [hh]; rfl)

theorem X2_at (l : Fin 512) (e : Fin 128) (p : Fin 2048) (hp : (p : ℕ) = l * 4 + t.val / 8 % 4) :
    X2 m c t (ix3 0 l e) = Cert.BandRef.xrow 2 1 (m ((c : Thread nD τ).loc main_arg0)) b h p e := by
  have hi : ((cfg0.win 2).blk t).view.emb (ix3 0 l e) = (ix3 b l ⟨(t.val / 8 % 4 * 192 + 112 + t.val % 8) * 128 + e, by omega⟩ : S4x512x98304.Idx) := by
    blk_ext [idx t]
  have : X2 m c t (ix3 0 l e) = V m c main_v18 (((cfg0.win 2).blk t).view.emb (ix3 0 l e)) := rfl
  rw [this, hi, V_v18]
  exact row_at _ 2 b h l e p _ (Nat.mod_lt _ (by norm_num)) hp _ (by rw [hh]; rfl)

omit hb hh

theorem X3_at (l : Fin 512) (e : Fin 128) (p : Fin 2048) (hp : (p : ℕ) = l * 4 + t.val / 8 % 4) :
    X3 m c t (ix2 l e) = Ideal.cos (ang p ⟨(e : ℕ) % 64, Nat.mod_lt _ (by norm_num)⟩) := by
  have hi : ((cfg0.win 3).blk t).view.emb (ix2 l e) = (ix2 l ⟨t.val / 8 % 4 * 128 + e, by omega⟩ : S512x512.Idx) := by
    blk_ext [idx t]
  have : X3 m c t (ix2 l e) = V m c main_v19 (((cfg0.win 3).blk t).view.emb (ix2 l e)) := rfl
  rw [this, hi, V_v19, r19_at, ← Cert.BandTab.COS_at]
  exact congrArg Cert.BandTab.COS (congrArg₂ ix2 (Fin.ext (by show (l : ℕ) * 4 + (t.val / 8 % 4 * 128 + e) / 128 = p; omega))
    (Fin.ext (by show (t.val / 8 % 4 * 128 + e) % 128 = (e : ℕ); omega)))

theorem X4_at (l : Fin 512) (e : Fin 128) (p : Fin 2048) (hp : (p : ℕ) = l * 4 + t.val / 8 % 4) :
    X4 m c t (ix2 l e) = if (e : ℕ) < 64 then -Ideal.sin (ang p ⟨(e : ℕ) % 64, Nat.mod_lt _ (by norm_num)⟩)
      else Ideal.sin (ang p ⟨(e : ℕ) % 64, Nat.mod_lt _ (by norm_num)⟩) := by
  have hi : ((cfg0.win 4).blk t).view.emb (ix2 l e) = (ix2 l ⟨t.val / 8 % 4 * 128 + e, by omega⟩ : S512x512.Idx) := by
    blk_ext [idx t]
  have : X4 m c t (ix2 l e) = V m c main_v20 (((cfg0.win 4).blk t).view.emb (ix2 l e)) := rfl
  rw [this, hi, V_v20, r19_at, ← Cert.BandTab.SIN_at]
  exact congrArg Cert.BandTab.SIN (congrArg₂ ix2 (Fin.ext (by show (l : ℕ) * 4 + (t.val / 8 % 4 * 128 + e) / 128 = p; omega))
    (Fin.ext (by show (t.val / 8 % 4 * 128 + e) % 128 = (e : ℕ); omega)))

theorem X5_at (e : Fin 128) : X5 m c t (ix3 0 0 e) = m ((c : Thread nD τ).loc main_arg1) (ix2 0 e) := by
  have hi : ((cfg0.win 5).blk t).view.emb (ix3 0 0 e) = (ix3 0 0 e : S4x1x128.Idx) := by
    blk_ext [idx t]
  have : X5 m c t (ix3 0 0 e) = V m c main_v21 (((cfg0.win 5).blk t).view.emb (ix3 0 0 e)) := rfl
  rw [this, hi, V_v21, r21_at]

theorem X6_at (e : Fin 128) : X6 m c t (ix3 0 0 e) = m ((c : Thread nD τ).loc main_arg2) (ix2 0 e) := by
  have hi : ((cfg0.win 6).blk t).view.emb (ix3 0 0 e) = (ix3 0 0 e : S4x1x128.Idx) := by
    blk_ext [idx t]
  have : X6 m c t (ix3 0 0 e) = V m c main_v22 (((cfg0.win 6).blk t).view.emb (ix3 0 0 e)) := rfl
  rw [this, hi, V_v22, r21_at]

/-! ## The queries and keys of a point -/

/-- The queries the kernel computes. -/
def QV : FVec Ideal S512x128 .f32 := k0_pay4 (X3 m c t) (X4 m c t) (X0 m c t) (X5 m c t)

/-- The keys the kernel computes. -/
def KV : FVec Ideal S512x128 .f32 :=
  k0_pay9 (k0_pay2 (X3 m c t)) (k0_pay3 (X4 m c t)) (k0_pay5 (X1 m c t)) (k0_pay6 (X6 m c t)) (k0_pay7 (X1 m c t)) (k0_pay8 (F := Ideal))

/-- The same computation serves the queries and the keys. -/
theorem KV_eq (C S : FVec Ideal S512x128 .f32) (X : FVec Ideal S1x512x128 .f32) (G : FVec Ideal S1x1x128 .f32) :
    k0_pay9 (k0_pay2 C) (k0_pay3 S) (k0_pay5 X) (k0_pay6 G) (k0_pay7 X) (k0_pay8 (F := Ideal)) = k0_pay4 C S X G := rfl

/-- Normalized and rotated, a row is the head's vector. -/
theorem head_at (C S : FVec Ideal S512x128 .f32) (X : FVec Ideal S1x512x128 .f32) (G : FVec Ideal S1x1x128 .f32) (l : Fin 512) (d : Fin 128)
    (p : Fin 2048) (x g : Fin 128 → EReal) (hx : ∀ e, X (ix3 0 l e) = x e) (hg : ∀ e, G (ix3 0 0 e) = g e)
    (hc : ∀ e, C (ix2 l e) = Ideal.cos (ang p ⟨(e : ℕ) % 64, Nat.mod_lt _ (by norm_num)⟩))
    (hs : ∀ e, S (ix2 l e) = if (e : ℕ) < 64 then -Ideal.sin (ang p ⟨(e : ℕ) % 64, Nat.mod_lt _ (by norm_num)⟩)
      else Ideal.sin (ang p ⟨(e : ℕ) % 64, Nat.mod_lt _ (by norm_num)⟩)) : k0_pay4 (F := Ideal) C S X G (ix2 l d) = head x g p d := by
  pointwise [k0_pay4, k0_pay2, k0_pay3, hx, hg]
  unfold head
  refine Cert.BandBlk.rot_eq (nrm x g) (fun e => Ideal.cos (ang p e)) (fun e => Ideal.sin (ang p e)) d _ _ _ (hc d) (hs d) ?_
  exact congrArg (nrm x g) (Fin.ext (by show ((d : ℕ) + 128 - 64) % 128 = (d + 64) % 128; omega) :
    (⟨((d : ℕ) + 128 - 64) % 128, Nat.mod_lt _ (by norm_num)⟩ : Fin 128) = ⟨((d : ℕ) + 64) % 128, Nat.mod_lt _ (by norm_num)⟩)

include hb hh

theorem QV_at (l : Fin 512) (e : Fin 128) (p : Fin 2048) (hp : (p : ℕ) = l * 4 + t.val / 8 % 4) : QV m c t (ix2 l e)
    = Cert.BandRef.hd 0 1 (m ((c : Thread nD τ).loc main_arg0)) (m ((c : Thread nD τ).loc main_arg1)) b h p e :=
  head_at _ _ _ _ l e p _ _ (fun e => X0_at m c t b h hb hh l e p hp) (fun e => X5_at m c t e) (fun e => X3_at m c t l e p hp)
    (fun e => X4_at m c t l e p hp)

theorem KV_at (l : Fin 512) (e : Fin 128) (p : Fin 2048) (hp : (p : ℕ) = l * 4 + t.val / 8 % 4) : KV m c t (ix2 l e)
    = Cert.BandRef.hd 1 1 (m ((c : Thread nD τ).loc main_arg0)) (m ((c : Thread nD τ).loc main_arg2)) b h p e := by
  unfold KV
  rw [KV_eq]
  exact head_at _ _ _ _ l e p _ _ (fun e => X1_at m c t b h hb hh l e p hp) (fun e => X6_at m c t e) (fun e => X3_at m c t l e p hp)
    (fun e => X4_at m c t l e p hp)

omit hb hh

/-- The values the kernel reads. -/
def VV : FVec Ideal S512x128 .bf16 := truncf .bf16 (shapeCast S512x128 (X2 m c t) shapeCasts_S1x512x128_S512x128) bitsLt_bf16_f32

include hb hh

theorem VV_at (l : Fin 512) (e : Fin 128) (p : Fin 2048) (hp : (p : ℕ) = l * 4 + t.val / 8 % 4) :
    VV m c t (ix2 l e) = Cert.BandRef.xrow 2 1 (m ((c : Thread nD τ).loc main_arg0)) b h p e := by
  rw [← X2_at m c t b h hb hh l e p hp]
  pointwise [VV]

omit hb hh

/-- The mask's value. -/
def mk : Ideal .f32 := Named.named κ "mask" 0xF149F2CA#32

theorem mk_eq : mk = ⊥ := IdealRules.named_const.ideal_named_scalar _ _ _ _ rfl

/-- The queries and keys as the blocks are cut from. -/
def QH : FVec Ideal S512x128 .bf16 := truncf .bf16 (QV m c t) bitsLt_bf16_f32
def KH : FVec Ideal S512x128 .bf16 := truncf .bf16 (KV m c t) bitsLt_bf16_f32

section Blocks

variable (hq : ∀ i, IsReal (m ((c : Thread nD τ).loc main_arg1) i)) (hk : ∀ i, IsReal (m ((c : Thread nD τ).loc main_arg2) i))
  (hr : t.val / 8 % 4 < 4) (x : Cert.Band0Ideal.S1x128x128.Idx) (p : Fin 2048) (d : Fin 128) (hd : (d : ℕ) = x 2)
include hb hh hq hk hr

/-- The log-sum-exps of a sequence's first block. -/
theorem l_first (hs : S512x128.Slices ![0, 0] Cert.Band0Ideal.S128x128) (hp : (p : ℕ) = (x 1 : ℕ) * 4 + t.val / 8 % 4) :
    Cert.BandBlk.L Cert.Band0Ideal.Gen.reduces_S128x128_S128 Cert.Band0Ideal.Gen.broadcasts_S128x1_S128x128
        (Cert.BandBlk.S1 mk (extractStridedSlice Cert.Band0Ideal.S128x128 ![0, 0] (QH m c t) hs) (extractStridedSlice Cert.Band0Ideal.S128x128 ![0, 0] (KH m c t) hs)) x
      = lse (sc (128 * 4) 4 (Cert.BandRef.hd 0 1 (m ((c : Thread nD τ).loc main_arg0)) (m ((c : Thread nD τ).loc main_arg1)) b h)
        (Cert.BandRef.hd 1 1 (m ((c : Thread nD τ).loc main_arg0)) (m ((c : Thread nD τ).loc main_arg2)) b h) p) :=
  Cert.BandBlk.L1_cut (D := 4) (Lq := 512) (by norm_num) (by norm_num) ⟨t.val / 8 % 4, hr⟩ mk_eq (fun t e => head_real _ _ (fun _ => hq _) t e)
    (fun t e => head_real _ _ (fun _ => hk _) t e) (by norm_num) hs x p hp (fun l e p hp => QV_at m c t b h hb hh l e p hp)
    fun l e p hp => KV_at m c t b h hb hh l e p hp

/-- The log-sum-exps of a later block. -/
theorem l_later (o lo : ℕ) (hsq : S512x128.Slices ![o, 0] Cert.Band0Ideal.S128x128) (hsk : S512x128.Slices ![lo, 0] Cert.Band0Ideal.S256x128)
    (ho : o = lo + 128) (hn : lo + 256 ≤ 512) (hp : (p : ℕ) = (o + (x 1 : ℕ)) * 4 + t.val / 8 % 4) :
    Cert.BandBlk.L Cert.Band0Ideal.Gen.reduces_S128x256_S128 Cert.Band0Ideal.Gen.broadcasts_S128x1_S128x256
        (Cert.BandBlk.S2 mk (extractStridedSlice Cert.Band0Ideal.S128x128 ![o, 0] (QH m c t) hsq) (extractStridedSlice Cert.Band0Ideal.S256x128 ![lo, 0] (KH m c t) hsk)) x
      = lse (sc (128 * 4) 4 (Cert.BandRef.hd 0 1 (m ((c : Thread nD τ).loc main_arg0)) (m ((c : Thread nD τ).loc main_arg1)) b h)
        (Cert.BandRef.hd 1 1 (m ((c : Thread nD τ).loc main_arg0)) (m ((c : Thread nD τ).loc main_arg2)) b h) p) :=
  Cert.BandBlk.L2_cut (D := 4) (Lq := 512) (by norm_num) (by norm_num) ⟨t.val / 8 % 4, hr⟩ mk_eq (fun t e => head_real _ _ (fun _ => hq _) t e)
    (fun t e => head_real _ _ (fun _ => hk _) t e) ho hn hsq hsk x p hp (fun l e p hp => QV_at m c t b h hb hh l e p hp)
    fun l e p hp => KV_at m c t b h hb hh l e p hp

include hd

/-- A value's column, whichever way its number is written. -/
theorem VV_col (l : Fin 512) (e : Fin 128) (p : Fin 2048) (he : (e : ℕ) = x 2) (hp : (p : ℕ) = l * 4 + t.val / 8 % 4) :
    VV m c t (ix2 l e) = Cert.BandRef.xrow 2 1 (m ((c : Thread nD τ).loc main_arg0)) b h p d := by
  have e1 : e = d := Fin.ext (he.trans hd.symm)
  rw [e1]
  exact VV_at m c t b h hb hh l d p hp

/-- The outputs of a sequence's first block. -/
theorem o_first (hs : S512x128.Slices ![0, 0] Cert.Band0Ideal.S128x128) (hp : (p : ℕ) = (x 1 : ℕ) * 4 + t.val / 8 % 4) :
    Cert.BandBlk.O1 (Cert.BandBlk.S1 mk (extractStridedSlice Cert.Band0Ideal.S128x128 ![0, 0] (QH m c t) hs) (extractStridedSlice Cert.Band0Ideal.S128x128 ![0, 0] (KH m c t) hs))
        (extractStridedSlice Cert.Band0Ideal.S128x128 ![0, 0] (VV m c t) hs) x
      = out (sc (128 * 4) 4 (Cert.BandRef.hd 0 1 (m ((c : Thread nD τ).loc main_arg0)) (m ((c : Thread nD τ).loc main_arg1)) b h)
        (Cert.BandRef.hd 1 1 (m ((c : Thread nD τ).loc main_arg0)) (m ((c : Thread nD τ).loc main_arg2)) b h) p)
        fun s => Cert.BandRef.xrow 2 1 (m ((c : Thread nD τ).loc main_arg0)) b h s d :=
  Cert.BandBlk.O1_cut (D := 4) (Lq := 512) (by norm_num) (by norm_num) ⟨t.val / 8 % 4, hr⟩ mk_eq (fun t e => head_real _ _ (fun _ => hq _) t e)
    (fun t e => head_real _ _ (fun _ => hk _) t e) (by norm_num) hs x p hp (fun l e p hp => QV_at m c t b h hb hh l e p hp)
    (fun l e p hp => KV_at m c t b h hb hh l e p hp) fun l e p he hp => VV_col m c t b h hb hh hq hk hr x d hd l e p he hp

/-- The outputs of a later block. -/
theorem o_later (o lo : ℕ) (hsq : S512x128.Slices ![o, 0] Cert.Band0Ideal.S128x128) (hsk : S512x128.Slices ![lo, 0] Cert.Band0Ideal.S256x128)
    (ho : o = lo + 128) (hn : lo + 256 ≤ 512) (hp : (p : ℕ) = (o + (x 1 : ℕ)) * 4 + t.val / 8 % 4) :
    Cert.BandBlk.O2 (Cert.BandBlk.S2 mk (extractStridedSlice Cert.Band0Ideal.S128x128 ![o, 0] (QH m c t) hsq) (extractStridedSlice Cert.Band0Ideal.S256x128 ![lo, 0] (KH m c t) hsk))
        (extractStridedSlice Cert.Band0Ideal.S256x128 ![lo, 0] (VV m c t) hsk) x
      = out (sc (128 * 4) 4 (Cert.BandRef.hd 0 1 (m ((c : Thread nD τ).loc main_arg0)) (m ((c : Thread nD τ).loc main_arg1)) b h)
        (Cert.BandRef.hd 1 1 (m ((c : Thread nD τ).loc main_arg0)) (m ((c : Thread nD τ).loc main_arg2)) b h) p)
        fun s => Cert.BandRef.xrow 2 1 (m ((c : Thread nD τ).loc main_arg0)) b h s d :=
  Cert.BandBlk.O2_cut (D := 4) (Lq := 512) (by norm_num) (by norm_num) ⟨t.val / 8 % 4, hr⟩ mk_eq (fun t e => head_real _ _ (fun _ => hq _) t e)
    (fun t e => head_real _ _ (fun _ => hk _) t e) ho hn hsq hsk x p hp (fun l e p hp => QV_at m c t b h hb hh l e p hp)
    (fun l e p hp => KV_at m c t b h hb hh l e p hp) fun l e p he hp => VV_col m c t b h hb hh hq hk hr x d hd l e p he hp

end Blocks

end Point

/-! ## The reference's results at an index -/

section Ref

variable (A : FVec Ideal S8192x24576 .f32) (wq wk : FVec Ideal S4x128 .f32)

/-- The reference's outputs. -/
def R0 : FVec Ideal S4x512x4096 .f32 :=
  shapeCast S4x512x4096 (Cert.BandRef.RO (128 * 4) 4 1 A wq wk Cert.Band1RefIdeal.Gen.slices_S4x2048x3x3x8x128_S4x2048x1x1x8x128_0_0_0_1_0_0
    Cert.Band1RefIdeal.Gen.slices_S4x2048x3x3x8x128_S4x2048x1x1x8x128_0_0_1_1_0_0
    Cert.Band1RefIdeal.Gen.slices_S4x2048x3x3x8x128_S4x2048x1x1x8x128_0_0_2_1_0_0) Cert.Band1RefIdeal.Gen.shapeCasts_S4x2048x8x128_S4x512x4096

/-- The reference's log-sum-exps. -/
def R1 : FVec Ideal S4x512x4096 .f32 :=
  shapeCast S4x512x4096 (Cert.BandRef.RL (128 * 4) 4 1 A wq wk Cert.Band1RefIdeal.Gen.slices_S4x2048x3x3x8x128_S4x2048x1x1x8x128_0_0_0_1_0_0
    Cert.Band1RefIdeal.Gen.slices_S4x2048x3x3x8x128_S4x2048x1x1x8x128_0_0_1_1_0_0) Cert.Band1RefIdeal.Gen.shapeCasts_S4x2048x8x128_S4x512x4096

/-- The reference's keys: the last 128 of every sequence. -/
def R2 : FVec Ideal S4x128x4096 .f32 :=
  shapeCast S4x128x4096 (extractStridedSlice Cert.Band1RefIdeal.S4x512x8x128 ![0, 1536, 0, 0]
    (Cert.BandRef.HEADS (Cert.BandRef.XS 1 1 A Cert.Band1RefIdeal.Gen.slices_S4x2048x3x3x8x128_S4x2048x1x1x8x128_0_0_1_1_0_0) wk)
    Cert.Band1RefIdeal.Gen.slices_S4x2048x8x128_S4x512x8x128_0_1536_0_0) shapeCasts_S4x128x4096_S4x512x8x128.symm

theorem keep_at (X : FVec Ideal Cert.Band1RefIdeal.S4x2048x8x128 .f32) (b : Fin 4) (h : Fin 8) (l d : Fin 128) (p : Fin 2048) (r : ℕ)
    (hr : r < 4) (hp : (p : ℕ) = (384 + l) * 4 + r) (x : Fin 4096) (hx : (x : ℕ) = (r * 8 + h) * 128 + d) :
    shapeCast S4x128x4096 (extractStridedSlice Cert.Band1RefIdeal.S4x512x8x128 ![0, 1536, 0, 0] X
      Cert.Band1RefIdeal.Gen.slices_S4x2048x8x128_S4x512x8x128_0_1536_0_0) shapeCasts_S4x128x4096_S4x512x8x128.symm (ix3 b l x)
      = X (ix4 b p h d) := by
  have hh := h.isLt
  have hd := d.isLt
  pointwise
  exact congrArg X (congr (congr (congrArg (ix4 b) (Fin.ext (by show _ = (p : ℕ); dsimp only; omega)))
    (Fin.ext (by show _ = (h : ℕ); dsimp only; omega))) (Fin.ext (by show _ = (d : ℕ); dsimp only; omega)))

theorem cast_at (X : FVec Ideal Cert.Band1RefIdeal.S4x2048x8x128 .f32) (b : Fin 4) (h : Fin 8) (l : Fin 512) (d : Fin 128) (p : Fin 2048) (r : ℕ)
    (hr : r < 4) (hp : (p : ℕ) = l * 4 + r) (x : Fin 4096) (hx : (x : ℕ) = (r * 8 + h) * 128 + d) :
    shapeCast S4x512x4096 X Cert.Band1RefIdeal.Gen.shapeCasts_S4x2048x8x128_S4x512x4096 (ix3 b l x) = X (ix4 b p h d) := by
  have hh := h.isLt
  have hd := d.isLt
  pointwise
  exact congrArg X (congr (congr (congrArg (ix4 b) (Fin.ext (by show _ = (p : ℕ); dsimp only; omega)))
    (Fin.ext (by show _ = (h : ℕ); dsimp only; omega))) (Fin.ext (by show _ = (d : ℕ); dsimp only; omega)))

theorem R0_at (b : Fin 4) (h : Fin 8) (l : Fin 512) (d : Fin 128) (p : Fin 2048) (r : ℕ) (hr : r < 4) (hp : (p : ℕ) = l * 4 + r)
    (x : Fin 4096) (hx : (x : ℕ) = (r * 8 + h) * 128 + d) : R0 A wq wk (ix3 b l x)
      = out (sc (128 * 4) 4 (Cert.BandRef.hd 0 1 A wq b h) (Cert.BandRef.hd 1 1 A wk b h) p) fun s => Cert.BandRef.xrow 2 1 A b h s d :=
  (cast_at _ b h l d p r hr hp x hx).trans (Cert.BandRef.RO_at _ _ _ _ _ _ _ _ _ (by norm_num) (by norm_num) (by norm_num) _ _ _ _)

theorem R1_at (b : Fin 4) (h : Fin 8) (l : Fin 512) (d : Fin 128) (p : Fin 2048) (r : ℕ) (hr : r < 4) (hp : (p : ℕ) = l * 4 + r)
    (x : Fin 4096) (hx : (x : ℕ) = (r * 8 + h) * 128 + d) : R1 A wq wk (ix3 b l x)
      = lse (sc (128 * 4) 4 (Cert.BandRef.hd 0 1 A wq b h) (Cert.BandRef.hd 1 1 A wk b h) p) :=
  (cast_at _ b h l d p r hr hp x hx).trans (Cert.BandRef.RL_at _ _ _ _ _ _ _ _ (by norm_num) (by norm_num) (by norm_num) _ _ _ _)

theorem R2_at (b : Fin 4) (h : Fin 8) (l d : Fin 128) (p : Fin 2048) (r : ℕ) (hr : r < 4) (hp : (p : ℕ) = (384 + l) * 4 + r)
    (x : Fin 4096) (hx : (x : ℕ) = (r * 8 + h) * 128 + d) : R2 A wk (ix3 b l x) = Cert.BandRef.hd 1 1 A wk b h p d :=
  (keep_at _ b h l d p r hr hp x hx).trans (Cert.BandRef.HXS_at 1 A 1 wk _ _ _ _ _)

end Ref

/-! ## Every point writes the reference's block -/

theorem lt_N (t : Fin cfg0.N) : t.val < 128 := lt_of_lt_of_eq t.isLt (by decide +kernel : cfg0.N = 128)

/-- Where a point's block of a result lies. -/
theorem emb7 (t : Fin cfg0.N) (l : Fin 512) (d : Fin 128) : ((cfg0.win 7).blk t).view.emb (ix3 0 l d)
    = (ix3 ⟨t.val / 32, by have := lt_N t; omega⟩ l ⟨(t.val / 8 % 4 * 8 + t.val % 8) * 128 + d, by omega⟩ : S4x512x4096.Idx) := by
  blk_ext [idx t]

theorem emb8 (t : Fin cfg0.N) (l : Fin 512) (d : Fin 128) : ((cfg0.win 8).blk t).view.emb (ix3 0 l d)
    = (ix3 ⟨t.val / 32, by have := lt_N t; omega⟩ l ⟨(t.val / 8 % 4 * 8 + t.val % 8) * 128 + d, by omega⟩ : S4x512x4096.Idx) := by
  blk_ext [idx t]

theorem emb9 (t : Fin cfg0.N) (l d : Fin 128) : ((cfg0.win 9).blk t).view.emb (ix3 0 l d)
    = (ix3 ⟨t.val / 32, by have := lt_N t; omega⟩ l ⟨(t.val / 8 % 4 * 8 + t.val % 8) * 128 + d, by omega⟩ : S4x128x4096.Idx) := by
  blk_ext [idx t]

/-- An index of a block is its row and column. -/
theorem seq_idx (x : S1x512x128.Idx) : x = ix3 0 (x 1) (x 2) := by
  funext k
  fin_cases k
  · exact Fin.ext (Nat.lt_one_iff.mp (x 0).isLt)
  · rfl
  · rfl

section Final

variable (c : Dev nD) (hq : ∀ i, IsReal (m ((c : Thread nD τ).loc main_arg1) i)) (hk : ∀ i, IsReal (m ((c : Thread nD τ).loc main_arg2) i))
include hq hk

theorem point7 (t : Fin cfg0.N) (y : S1x512x128.Idx) :
    out0_7 (F := Ideal) (X0 m c t) (X1 m c t) (X2 m c t) (X3 m c t) (X4 m c t) (X5 m c t) (X6 m c t) y = R0 (m ((c : Thread nD τ).loc main_arg0)) (m ((c : Thread nD τ).loc main_arg1)) (m ((c : Thread nD τ).loc main_arg2)) (((cfg0.win 7).blk t).view.emb y) := by
  have ht := lt_N t
  have hr : t.val / 8 % 4 < 4 := Nat.mod_lt _ (by norm_num)
  have hy : (y 1 : ℕ) < 512 := (y 1).isLt
  have hp : (y 1 : ℕ) * 4 + t.val / 8 % 4 < 2048 := by omega
  have e := ((congrArg (fun y => R0 (m ((c : Thread nD τ).loc main_arg0)) (m ((c : Thread nD τ).loc main_arg1)) (m ((c : Thread nD τ).loc main_arg2)) (((cfg0.win 7).blk t).view.emb y)) (seq_idx y)).trans
    (congrArg (R0 (m ((c : Thread nD τ).loc main_arg0)) (m ((c : Thread nD τ).loc main_arg1)) (m ((c : Thread nD τ).loc main_arg2))) (emb7 t (y 1) (y 2)))).trans
    (R0_at _ _ _ ⟨t.val / 32, by omega⟩ ⟨t.val % 8, Nat.mod_lt _ (by norm_num)⟩ (y 1) (y 2) ⟨(y 1 : ℕ) * 4 + t.val / 8 % 4, hp⟩ _ hr rfl _ rfl)
  refine Eq.trans ?_ e.symm
  unfold_out out0_7
  canon_tiles x h
  all_goals simp (disch := decide) only [View.ld_unit_lit']
  case piece3 => exact o_first m c t _ _ rfl rfl hq hk hr x _ _ h2 (by decide) (by dsimp only; omega)
  all_goals exact o_later m c t _ _ rfl rfl hq hk hr x _ _ h2 _ _ (by decide) (by decide) (by norm_num) (by norm_num) (by dsimp only; omega)

theorem point8 (t : Fin cfg0.N) (y : S1x512x128.Idx) :
    out0_8 (F := Ideal) (X0 m c t) (X1 m c t) (X2 m c t) (X3 m c t) (X4 m c t) (X5 m c t) (X6 m c t) y = R1 (m ((c : Thread nD τ).loc main_arg0)) (m ((c : Thread nD τ).loc main_arg1)) (m ((c : Thread nD τ).loc main_arg2)) (((cfg0.win 8).blk t).view.emb y) := by
  have ht := lt_N t
  have hr : t.val / 8 % 4 < 4 := Nat.mod_lt _ (by norm_num)
  have hy : (y 1 : ℕ) < 512 := (y 1).isLt
  have hp : (y 1 : ℕ) * 4 + t.val / 8 % 4 < 2048 := by omega
  have e := ((congrArg (fun y => R1 (m ((c : Thread nD τ).loc main_arg0)) (m ((c : Thread nD τ).loc main_arg1)) (m ((c : Thread nD τ).loc main_arg2)) (((cfg0.win 8).blk t).view.emb y)) (seq_idx y)).trans
    (congrArg (R1 (m ((c : Thread nD τ).loc main_arg0)) (m ((c : Thread nD τ).loc main_arg1)) (m ((c : Thread nD τ).loc main_arg2))) (emb8 t (y 1) (y 2)))).trans
    (R1_at _ _ _ ⟨t.val / 32, by omega⟩ ⟨t.val % 8, Nat.mod_lt _ (by norm_num)⟩ (y 1) (y 2) ⟨(y 1 : ℕ) * 4 + t.val / 8 % 4, hp⟩ _ hr rfl _ rfl)
  refine Eq.trans ?_ e.symm
  unfold_out out0_8
  canon_tiles x h
  all_goals simp (disch := decide) only [View.ld_unit_lit']
  case piece3 => exact l_first m c t _ _ rfl rfl hq hk hr x _ (by decide) (by dsimp only; omega)
  all_goals exact l_later m c t _ _ rfl rfl hq hk hr x _ _ _ (by decide) (by decide) (by norm_num) (by norm_num) (by dsimp only; omega)

omit hq hk

theorem point9 (t : Fin cfg0.N) (y : Cert.Band0Ideal.S1x128x128.Idx) :
    k0_pay10 (k0_pay2 (X3 m c t)) (k0_pay3 (X4 m c t)) (k0_pay5 (X1 m c t)) (k0_pay6 (X6 m c t)) (k0_pay7 (X1 m c t)) (k0_pay8 (F := Ideal)) y
      = R2 (m ((c : Thread nD τ).loc main_arg0)) (m ((c : Thread nD τ).loc main_arg2)) (((cfg0.win 9).blk t).view.emb y) := by
  obtain ⟨l, d, rfl⟩ : ∃ (l d : Fin 128), y = ix3 0 l d := ⟨y 1, y 2, Cert.BandBlk.blk_idx y⟩
  have ht := lt_N t
  have hr : t.val / 8 % 4 < 4 := Nat.mod_lt _ (by norm_num)
  have hp : (384 + (l : ℕ)) * 4 + t.val / 8 % 4 < 2048 := by omega
  rw [emb9, R2_at _ _ _ ⟨t.val % 8, Nat.mod_lt _ (by norm_num)⟩ l d ⟨(384 + l) * 4 + t.val / 8 % 4, hp⟩ _ hr rfl _ rfl]
  have e : ∀ K : FVec Ideal S512x128 .f32, shapeCast Cert.Band0Ideal.S1x128x128 (extractStridedSlice Cert.Band0Ideal.S128x128 ![384, 0] K slices_S512x128_o384_0_S128x128)
      shapeCasts_S128x128_S1x128x128 (ix3 0 l d) = K (ix2 ⟨384 + l, by omega⟩ d) := fun K => by pointwise
  exact (e (KV m c t)).trans (KV_at m c t _ _ rfl rfl _ d _ rfl)

theorem final9 : (dats m 0 c).arrAt 9 (cfgs 0).N = R2 (m ((c : Thread nD τ).loc main_arg0)) (m ((c : Thread nD τ).loc main_arg2)) := by
  refine (dats m 0 c).arrAt_eq_of_covers 9 _ (by decide +kernel) fun t _ y => ?_
  blk_simp; rw [after0_9]; unfold_out out0_9; frame_out; exact point9 m c t y

include hq hk

theorem final7 : (dats m 0 c).arrAt 7 (cfgs 0).N = R0 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp; rw [after0_7]; exact point7 m c hq hk t y

theorem final8 : (dats m 0 c).arrAt 8 (cfgs 0).N = R1 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp; rw [after0_8]; exact point8 m c hq hk t y

end Final

/-- The new keys and values on a common axis. -/
def STACK (k v : FVec Ideal S4x512x8x128 .f32) : FVec Ideal S4x512x2x8x128 .f32 :=
  concatenate S4x512x2x8x128 2 [⟨S4x512x1x8x128, (broadcastInDim S4x512x1x8x128 ![0, 1, 3, 4] bcast_S4x512x8x128_S4x512x1x8x128_0_1_3_4 k : FVec Ideal S4x512x1x8x128 .f32)⟩,
    ⟨S4x512x1x8x128, (broadcastInDim S4x512x1x8x128 ![0, 1, 3, 4] bcast_S4x512x8x128_S4x512x1x8x128_0_1_3_4 v : FVec Ideal S4x512x1x8x128 .f32)⟩]
    concatenates_S4x512x1x8x128_S4x512x1x8x128_S4x512x2x8x128_d2

/-- What the host makes of the kernel's keys and the projection. -/
def TAIL (A : FVec Ideal S8192x24576 .f32) (K : FVec Ideal S4x128x4096 .f32) : FVec Ideal S4x512x2x8x128 .f32 :=
  STACK (shapeCast S4x512x8x128 K shapeCasts_S4x128x4096_S4x512x8x128)
    (shapeCast S4x512x8x128 (extractStridedSlice S4x512x1024 ![0, 1536, 14336] (shapeCast S4x2048x24576 A shapeCasts_S8192x24576_S4x2048x24576)
      slices_S4x2048x24576_S4x512x1024_0_1536_14336) shapeCasts_S4x512x1024_S4x512x8x128)

/-- The reference's: the last keys and values of every sequence. -/
def R3 (A : FVec Ideal S8192x24576 .f32) (wk : FVec Ideal S4x128 .f32) : FVec Ideal S4x512x2x8x128 .f32 :=
  STACK (extractStridedSlice Cert.Band1RefIdeal.S4x512x8x128 ![0, 1536, 0, 0]
    (Cert.BandRef.HEADS (Cert.BandRef.XS 1 1 A Cert.Band1RefIdeal.Gen.slices_S4x2048x3x3x8x128_S4x2048x1x1x8x128_0_0_1_1_0_0) wk)
    Cert.Band1RefIdeal.Gen.slices_S4x2048x8x128_S4x512x8x128_0_1536_0_0)
    (extractStridedSlice Cert.Band1RefIdeal.S4x512x8x128 ![0, 1536, 0, 0]
    (Cert.BandRef.XS 2 1 A Cert.Band1RefIdeal.Gen.slices_S4x2048x3x3x8x128_S4x2048x1x1x8x128_0_0_2_1_0_0)
    Cert.Band1RefIdeal.Gen.slices_S4x2048x8x128_S4x512x8x128_0_1536_0_0)

/-- The values the host cuts from the projection are the reference's. -/
theorem vals_eq (A : FVec Ideal S8192x24576 .f32) :
    shapeCast S4x512x8x128 (extractStridedSlice S4x512x1024 ![0, 1536, 14336] (shapeCast S4x2048x24576 A shapeCasts_S8192x24576_S4x2048x24576)
      slices_S4x2048x24576_S4x512x1024_0_1536_14336) shapeCasts_S4x512x1024_S4x512x8x128
      = (extractStridedSlice Cert.Band1RefIdeal.S4x512x8x128 ![0, 1536, 0, 0]
    (Cert.BandRef.XS 2 1 A Cert.Band1RefIdeal.Gen.slices_S4x2048x3x3x8x128_S4x2048x1x1x8x128_0_0_2_1_0_0)
    Cert.Band1RefIdeal.Gen.slices_S4x2048x8x128_S4x512x8x128_0_1536_0_0) := by
  funext i
  obtain ⟨b, l, h, d, rfl⟩ : ∃ (b : Fin 4) (l : Fin 512) (h : Fin 8) (d : Fin 128), i = ix4 b l h d :=
    ⟨i 0, i 1, i 2, i 3, by funext k; fin_cases k <;> rfl⟩
  have e0 : ∀ Q : FVec Ideal S4x2048x24576 .f32, shapeCast S4x512x8x128 (extractStridedSlice S4x512x1024 ![0, 1536, 14336] Q
      slices_S4x2048x24576_S4x512x1024_0_1536_14336) shapeCasts_S4x512x1024_S4x512x8x128 (ix4 b l h d)
      = Q (ix3 b ⟨1536 + l, by omega⟩ ⟨14336 + (h * 128 + d), by omega⟩) := fun Q => by
    pointwise
  have e1 : ∀ (p : Fin 2048) (x : Fin 24576), shapeCast S4x2048x24576 A shapeCasts_S8192x24576_S4x2048x24576 (ix3 b p x)
      = A (ix2 ⟨b * 2048 + p, by omega⟩ x) := fun p x => by pointwise
  have e3 : ∀ X : FVec Ideal Cert.Band1RefIdeal.S4x2048x8x128 .f32, extractStridedSlice Cert.Band1RefIdeal.S4x512x8x128 ![0, 1536, 0, 0] X
      Cert.Band1RefIdeal.Gen.slices_S4x2048x8x128_S4x512x8x128_0_1536_0_0 (ix4 b l h d) = X (ix4 b ⟨1536 + l, by omega⟩ h d) := fun X => by pointwise
  have e2 : (extractStridedSlice Cert.Band1RefIdeal.S4x512x8x128 ![0, 1536, 0, 0]
    (Cert.BandRef.XS 2 1 A Cert.Band1RefIdeal.Gen.slices_S4x2048x3x3x8x128_S4x2048x1x1x8x128_0_0_2_1_0_0)
    Cert.Band1RefIdeal.Gen.slices_S4x2048x8x128_S4x512x8x128_0_1536_0_0) (ix4 b l h d) = Cert.BandRef.xrow 2 1 A b h ⟨1536 + l, by omega⟩ d :=
    (e3 _).trans (Cert.BandRef.XS_at 2 1 A _ b ⟨1536 + l, by omega⟩ h d)
  refine (e0 _).trans ((e1 _ _).trans (Eq.trans ?_ e2.symm))
  unfold Cert.BandRef.xrow
  exact congrArg A (congrArg (ix2 _) (Fin.ext (by show 14336 + ((h : ℕ) * 128 + d) = 7168 + ((2 * 3 + 1) * 8 + h) * 128 + d; omega)))

/-- Of the reference's keys, flat as the kernel leaves them, the host makes the reference's. -/
theorem tail_eq (A : FVec Ideal S8192x24576 .f32) (wk : FVec Ideal S4x128 .f32) : TAIL A (R2 A wk) = R3 A wk :=
  congrArg₂ STACK (shapeCast_shapeCast _ _ _) (vals_eq A)

/-- What the host's lines after the call make of any arrays. -/
theorem after_tail (U : Valuation τ sig (Elt Ideal)) :
    StableHlo.after (List.flatten [hostOps1]) U (Proc.devRef .tc main_v30) = TAIL (U (Proc.devRef .tc main_arg0)) (U (Proc.devRef .tc main_v23_2)) := by
  simp only [List.flatten_cons, List.flatten_nil, List.append_nil]; after_results; try rfl

/-- They leave it in the third result. -/
theorem tail (c : Dev nD) : Pipeline.afterTail₀ cfgs (dats m) 0 (V0 m) [hostOps1] c main_v30
    = TAIL (m ((c : Thread nD τ).loc main_arg0)) ((dats m 0 c).arrAt 9 (cfgs 0).N) :=
  (after_tail _).trans (congrArg₂ TAIL
    ((Pipeline.withArrays_of_ne _ c (V0 m c) _ main_arg0 (by exact (by decide : ∀ w, Pipeline.arrRef spec0 w ≠ main_arg0))).trans (V_main_arg0 m c))
    (Pipeline.Dat.withArrays_arrAt (dats m 0 c) sharedIn0 (V0 m c) (A_eq m c) 9))

/-- The run with the three results and the arguments named. -/
theorem run_all (ρ : Dev nD → PrngReg) : θ_run defs (onTc (τ := τ) (main (F := Ideal))) ⟨m, fun _ => 0, ρ⟩ fun r => ∀ c : Dev nD,
      r.2.mem ((c : Thread nD τ).loc main_v23_0) = (dats m 0 c).arrAt 7 (cfgs 0).N
      ∧ r.2.mem ((c : Thread nD τ).loc main_v23_1) = (dats m 0 c).arrAt 8 (cfgs 0).N
      ∧ r.2.mem ((c : Thread nD τ).loc main_v30) = TAIL (m ((c : Thread nD τ).loc main_arg0)) ((dats m 0 c).arrAt 9 (cfgs 0).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 7, (h.1 c).1 8,
    ((h.1 c).2 main_v30 (Pipeline.mem_restRefs_of main_v30 (by decide) (by decide))).trans (tail m c), h.2 c⟩)
    (θ_run_and (run_main m ρ) (unchanged m ρ))

end Cert.Band1Ideal.RefValue

namespace Cert.Proof

open Idealize.ShloMosaic Idealize.ShloMosaic.TcCoe Idealize.SL.Sem

/-- The kernel runs as printed and leaves its arguments alone. -/
theorem frame_Band1 : quiescent_Band1 := fun m ρ _ => Cert.Band1.Gen.frame m ρ

/-- So does its idealization. -/
theorem frame_Band1Ideal : quiescent_Band1Ideal := fun m ρ _ => Cert.Band1Ideal.Gen.frame m ρ

/-- So it does where the gains are real. -/
theorem frame_Band1Ideal_real [Cert.Pre_finite_gains.Facts] : quiescent_Band1Ideal_pre_finite_gains := fun m ρ _ => Cert.Band1Ideal.Gen.frame m ρ

/-- The reference runs and leaves its arguments alone. -/
theorem frame_Band1RefIdeal : quiescent_Band1RefIdeal := by
  intro m ρ _
  refine θ_run_mono (Cert.Band1RefIdeal.Value.run m ρ) fun r h => ?_
  exact ⟨fun c => (h c).2.2.2, sem_eq_zero_of_no_sems (by decide) r.2⟩

theorem frame_Band1RefIdeal_real [Cert.Pre_finite_gains.Facts] : quiescent_Band1RefIdeal_pre_finite_gains := by
  intro m ρ _
  refine θ_run_mono (Cert.Band1RefIdeal.Value.run m ρ) fun r h => ?_
  exact ⟨fun c => (h c).2.2.2, sem_eq_zero_of_no_sems (by decide) r.2⟩

/-- The idealization replaces the mask's finite number by `-∞` and nothing else. -/
theorem mask_Band1 : preserves_Band1_Band1Ideal := IdealRules.named_const.statement Cert.Band1Ideal.κ "mask" .f32 0xF149F2CA#32 ⊥ rfl

/-- The reference's printed keys are the staged ones. -/
theorem keys_Band1 (m : (ℓ : Loc Cert.Band1RefIdeal.nD Cert.Band1RefIdeal.τ Cert.Band1RefIdeal.sig) → Buf (Elt Ideal) ℓ)
    (c : Dev Cert.Band1RefIdeal.nD) : Cert.Band1RefIdeal.Value.res_main_v94 (StableHlo.launchContents m c) = Cert.BandRef.HEADS (Cert.BandRef.XS 1 1 (m ((c.tc : Thread _ _).loc Cert.Band1RefIdeal.main_arg0)) Cert.Band1RefIdeal.Gen.slices_S4x2048x3x3x8x128_S4x2048x1x1x8x128_0_0_1_1_0_0) (m ((c.tc : Thread _ _).loc Cert.Band1RefIdeal.main_arg2)) := rfl

/-- The reference's printed values are the staged ones. -/
theorem vals_Band1 (m : (ℓ : Loc Cert.Band1RefIdeal.nD Cert.Band1RefIdeal.τ Cert.Band1RefIdeal.sig) → Buf (Elt Ideal) ℓ)
    (c : Dev Cert.Band1RefIdeal.nD) : Cert.Band1RefIdeal.Value.res_main_v96 (StableHlo.launchContents m c) = Cert.BandRef.XS 2 1 (m ((c.tc : Thread _ _).loc Cert.Band1RefIdeal.main_arg0)) Cert.Band1RefIdeal.Gen.slices_S4x2048x3x3x8x128_S4x2048x1x1x8x128_0_0_2_1_0_0 := rfl

/-- The reference's printed scores are the staged ones. -/
theorem scores_Band1 (m : (ℓ : Loc Cert.Band1RefIdeal.nD Cert.Band1RefIdeal.τ Cert.Band1RefIdeal.sig) → Buf (Elt Ideal) ℓ)
    (c : Dev Cert.Band1RefIdeal.nD) : Cert.Band1RefIdeal.Value.res_main_v115 (StableHlo.launchContents m c)
      = (Cert.BandRef.RS (128 * 4) 4 1 (m ((c.tc : Thread _ _).loc Cert.Band1RefIdeal.main_arg0)) (m ((c.tc : Thread _ _).loc Cert.Band1RefIdeal.main_arg1)) (m ((c.tc : Thread _ _).loc Cert.Band1RefIdeal.main_arg2))
      Cert.Band1RefIdeal.Gen.slices_S4x2048x3x3x8x128_S4x2048x1x1x8x128_0_0_0_1_0_0 Cert.Band1RefIdeal.Gen.slices_S4x2048x3x3x8x128_S4x2048x1x1x8x128_0_0_1_1_0_0) := rfl

/-- The reference's printed log-sum-exps are the staged ones. -/
theorem lse_Band1 (m : (ℓ : Loc Cert.Band1RefIdeal.nD Cert.Band1RefIdeal.τ Cert.Band1RefIdeal.sig) → Buf (Elt Ideal) ℓ)
    (c : Dev Cert.Band1RefIdeal.nD) : Cert.Band1RefIdeal.Value.res_main_v123 (StableHlo.launchContents m c)
      = Cert.BandRef.LSE (Cert.BandRef.RS (128 * 4) 4 1 (m ((c.tc : Thread _ _).loc Cert.Band1RefIdeal.main_arg0)) (m ((c.tc : Thread _ _).loc Cert.Band1RefIdeal.main_arg1)) (m ((c.tc : Thread _ _).loc Cert.Band1RefIdeal.main_arg2))
      Cert.Band1RefIdeal.Gen.slices_S4x2048x3x3x8x128_S4x2048x1x1x8x128_0_0_0_1_0_0 Cert.Band1RefIdeal.Gen.slices_S4x2048x3x3x8x128_S4x2048x1x1x8x128_0_0_1_1_0_0) := rfl

/-- Where the gains are real, kernel and reference end with equal results. -/
theorem equal_Band1 [Cert.Pre_finite_gains.Facts] : algebraic_Band1Ideal_Band1RefIdeal_pre_finite_gains := by
  intro m g m' g' hpre hag
  have hr := fun c => Cert.BandTab.gains_real _ _ _ (hpre c)
  refine ⟨fun c => (Cert.Band1Ideal.Gen.dats m 0 c).arrAt 7 Cert.Band1Ideal.cfg0.N, fun c => (Cert.Band1Ideal.Gen.dats m 0 c).arrAt 8 Cert.Band1Ideal.cfg0.N,
    fun c => Cert.Band1Ideal.RefValue.TAIL (m ((c.tc : Thread _ _).loc Cert.Band1Ideal.main_arg0)) ((Cert.Band1Ideal.Gen.dats m 0 c).arrAt 9 (Cert.Band1Ideal.cfgs 0).N), ?_, ?_⟩
  · run_from Cert.Band1Ideal.RefValue.run_all m g
  · refine (θ_run _ _ _).mono (fun r h c => ?_) (Cert.Band1RefIdeal.Value.run m' g')
    obtain ⟨h0, h1, h2, h3⟩ := h c
    obtain ⟨a0, a1, a2⟩ := hag c
    refine ⟨h0.trans (Eq.trans (b := Cert.Band1Ideal.RefValue.R0 (m' ((c.tc : Thread _ _).loc Cert.Band1RefIdeal.main_arg0)) (m' ((c.tc : Thread _ _).loc Cert.Band1RefIdeal.main_arg1)) (m' ((c.tc : Thread _ _).loc Cert.Band1RefIdeal.main_arg2))) ?_ ?_), h1.trans (Eq.trans (b := Cert.Band1Ideal.RefValue.R1 (m' ((c.tc : Thread _ _).loc Cert.Band1RefIdeal.main_arg0)) (m' ((c.tc : Thread _ _).loc Cert.Band1RefIdeal.main_arg1)) (m' ((c.tc : Thread _ _).loc Cert.Band1RefIdeal.main_arg2))) ?_ ?_),
      h2.trans (Eq.trans (b := Cert.Band1Ideal.RefValue.R3 (m' ((c.tc : Thread _ _).loc Cert.Band1RefIdeal.main_arg0)) (m' ((c.tc : Thread _ _).loc Cert.Band1RefIdeal.main_arg2))) ?_ ?_), h3⟩
    · rw [vals_Band1, scores_Band1, lse_Band1]; rfl
    · rw [a0, a1, a2]; exact (Cert.Band1Ideal.RefValue.final7 m c (hr c).1 (hr c).2).symm
    · rw [lse_Band1]; rfl
    · rw [a0, a1, a2]; exact (Cert.Band1Ideal.RefValue.final8 m c (hr c).1 (hr c).2).symm
    · rw [keys_Band1, vals_Band1]; rfl
    · rw [a0, a2]; exact (Cert.Band1Ideal.RefValue.tail_eq _ _).symm.trans (congrArg (Cert.Band1Ideal.RefValue.TAIL _) (Cert.Band1Ideal.RefValue.final9 m c).symm)

end Cert.Proof

end
-- ==== Proof.Band2.lean ====
/-
  The third head group of the windowed attention: dilation 16, so that one block of 128 queries with its 128 keys is a whole
  sequence of positions congruent to each other.
-/
module

public import proofs.«01_k».proof.Defs
public import proofs.«01_k».proof.Proof.Gen.Band2.Frame
public import proofs.«01_k».proof.Proof.Gen.Band2Ideal.Frame
public import proofs.«01_k».proof.Proof.Gen.Band2RefIdeal.Run
public import Idealize.ShloMosaic.Lib.Claim
public import Idealize.ShloMosaic.Lib.Pointwise
public import Idealize.ShloMosaic.Lib.Pipeline.Value
public import Idealize.ShloMosaic.Lib.Pipeline.ValueKit
public import proofs.«01_k».proof.Proof.BandTab

@[expose] public section

set_option maxRecDepth 16384

noncomputable section

namespace Cert.Band2Ideal.RefValue

open Cert.Band2Ideal Cert.Band2Ideal.Gen Idealize.ShloMosaic Idealize.ShloMosaic.TcCoe Idealize.SL.Sem
open Idealize.ShloMosaic.Pipeline (Dat)
open Cert.AttnMath Cert.BandSpec

variable (m : (ℓ : Loc nD τ sig) → Buf (Elt Ideal) ℓ)

/-! ## What the windows hold -/

/-- Which block each window holds at a point of the grid. -/
theorem idx : ∀ t : Fin cfg0.N, win0_0.index t = ![t.val / 128, 0, t.val / 8 % 16 * 192 + 72 + t.val % 8]
    ∧ win0_1.index t = ![t.val / 128, 0, t.val / 8 % 16 * 192 + 96 + t.val % 8]
    ∧ win0_2.index t = ![t.val / 128, 0, t.val / 8 % 16 * 192 + 120 + t.val % 8]
    ∧ win0_3.index t = ![0, t.val / 8 % 16] ∧ win0_4.index t = ![0, t.val / 8 % 16]
    ∧ win0_5.index t = ![0, 0, 0] ∧ win0_6.index t = ![0, 0, 0]
    ∧ win0_7.index t = ![t.val / 128, 0, t.val / 8 % 16 * 8 + t.val % 8]
    ∧ win0_8.index t = ![t.val / 128, 0, t.val / 8 % 16 * 8 + t.val % 8]
    ∧ win0_9.index t = ![t.val / 128, 0, t.val / 8 % 16 * 8 + t.val % 8] :=
  (by decide +kernel : ∀ t : Fin grid0.N, _)

theorem V_v18 (c : Dev nD) : V m c main_v18 = shapeCast S4x128x393216 (m ((c : Thread nD τ).loc main_arg0)) shapeCasts_S8192x24576_S4x128x393216 := by
  unfold V V0; simp only [List.flatten_cons, List.flatten_nil, List.append_nil]; after_results; try rfl

theorem V_v19 (c : Dev nD) : V m c main_v19 = shapeCast S128x2048 Cert.BandTab.COS shapeCasts_S2048x128_S128x2048 := by
  unfold V V0; simp only [List.flatten_cons, List.flatten_nil, List.append_nil]; after_results; try rfl

theorem V_v20 (c : Dev nD) : V m c main_v20 = shapeCast S128x2048 Cert.BandTab.SIN shapeCasts_S2048x128_S128x2048 := by
  unfold V V0; simp only [List.flatten_cons, List.flatten_nil, List.append_nil]; after_results; try rfl

theorem V_v21 (c : Dev nD) : V m c main_v21 = shapeCast S4x1x128 (m ((c : Thread nD τ).loc main_arg1)) shapeCasts_S4x128_S4x1x128 := by
  unfold V V0; simp only [List.flatten_cons, List.flatten_nil, List.append_nil]; after_results; try rfl

theorem V_v22 (c : Dev nD) : V m c main_v22 = shapeCast S4x1x128 (m ((c : Thread nD τ).loc main_arg2)) shapeCasts_S4x128_S4x1x128 := by
  unfold V V0; simp only [List.flatten_cons, List.flatten_nil, List.append_nil]; after_results; try rfl

theorem r18_at (A : FVec Ideal S8192x24576 .f32) (b : Fin 4) (l : Fin 128) (x : Fin 393216) :
    shapeCast S4x128x393216 A shapeCasts_S8192x24576_S4x128x393216 (ix3 b l x)
      = A (ix2 ⟨b * 2048 + l * 16 + x / 24576, by omega⟩ ⟨x % 24576, by omega⟩) := by
  pointwise

theorem r19_at (A : FVec Ideal S2048x128 .f32) (l : Fin 128) (x : Fin 2048) :
    shapeCast S128x2048 A shapeCasts_S2048x128_S128x2048 (ix2 l x)
      = A (ix2 ⟨l * 16 + x / 128, by omega⟩ ⟨x % 128, by omega⟩) := by
  pointwise

theorem r21_at (A : FVec Ideal S4x128 .f32) (e : Fin 128) :
    shapeCast S4x1x128 A shapeCasts_S4x128_S4x1x128 (ix3 0 0 e) = A (ix2 0 e) := by
  pointwise

/-- The blocks as vectors. -/
def X0 (c : Dev nD) (t : Fin cfg0.N) : FVec Ideal S1x128x128 .f32 := iblk m c 0 t
def X1 (c : Dev nD) (t : Fin cfg0.N) : FVec Ideal S1x128x128 .f32 := iblk m c 1 t
def X2 (c : Dev nD) (t : Fin cfg0.N) : FVec Ideal S1x128x128 .f32 := iblk m c 2 t
def X3 (c : Dev nD) (t : Fin cfg0.N) : FVec Ideal S128x128 .f32 := iblk m c 3 t
def X4 (c : Dev nD) (t : Fin cfg0.N) : FVec Ideal S128x128 .f32 := iblk m c 4 t
def X5 (c : Dev nD) (t : Fin cfg0.N) : FVec Ideal S1x1x128 .f32 := iblk m c 5 t
def X6 (c : Dev nD) (t : Fin cfg0.N) : FVec Ideal S1x1x128 .f32 := iblk m c 6 t

/-- The projected columns as the kernel's windows cut them are the reference's rows. -/
theorem row_at (A : FVec Ideal S8192x24576 .f32) (k : Fin 3) (b : Fin 4) (h : Fin 8) (l e : Fin 128) (p : Fin 2048) (r : ℕ) (hr : r < 16)
    (hp : (p : ℕ) = l * 16 + r) (x : Fin 393216) (hx : (x : ℕ) = (r * 192 + 56 + (k * 3 + 2) * 8 + h) * 128 + e) :
    shapeCast S4x128x393216 A shapeCasts_S8192x24576_S4x128x393216 (ix3 b l x) = Cert.BandRef.xrow k 2 A b h p e := by
  rw [r18_at]
  unfold Cert.BandRef.xrow
  have hk := k.isLt
  have hh := h.isLt
  have he := e.isLt
  have e1 : (x : ℕ) / 24576 = r := by omega
  exact congrArg A (congrArg₂ ix2 (Fin.ext (by show (b : ℕ) * 2048 + l * 16 + x / 24576 = b * 2048 + p; omega))
    (Fin.ext (by show (x : ℕ) % 24576 = 7168 + ((k * 3 + 2) * 8 + h) * 128 + e; omega)))

section Point

variable (c : Dev nD) (t : Fin cfg0.N) (b : Fin 4) (h : Fin 8) (hb : (b : ℕ) = t.val / 128) (hh : (h : ℕ) = t.val % 8)
include hb hh

theorem X0_at (l e : Fin 128) (p : Fin 2048) (hp : (p : ℕ) = l * 16 + t.val / 8 % 16) :
    X0 m c t (ix3 0 l e) = Cert.BandRef.xrow 0 2 (m ((c : Thread nD τ).loc main_arg0)) b h p e := by
  have hi : ((cfg0.win 0).blk t).view.emb (ix3 0 l e) = (ix3 b l ⟨(t.val / 8 % 16 * 192 + 72 + t.val % 8) * 128 + e, by omega⟩ : S4x128x393216.Idx) := by
    blk_ext [idx t]
  have : X0 m c t (ix3 0 l e) = V m c main_v18 (((cfg0.win 0).blk t).view.emb (ix3 0 l e)) := rfl
  rw [this, hi, V_v18]
  exact row_at _ 0 b h l e p _ (Nat.mod_lt _ (by norm_num)) hp _ (by rw [hh]; rfl)

theorem X1_at (l e : Fin 128) (p : Fin 2048) (hp : (p : ℕ) = l * 16 + t.val / 8 % 16) :
    X1 m c t (ix3 0 l e) = Cert.BandRef.xrow 1 2 (m ((c : Thread nD τ).loc main_arg0)) b h p e := by
  have hi : ((cfg0.win 1).blk t).view.emb (ix3 0 l e) = (ix3 b l ⟨(t.val / 8 % 16 * 192 + 96 + t.val % 8) * 128 + e, by omega⟩ : S4x128x393216.Idx) := by
    blk_ext [idx t]
  have : X1 m c t (ix3 0 l e) = V m c main_v18 (((cfg0.win 1).blk t).view.emb (ix3 0 l e)) := rfl
  rw [this, hi, V_v18]
  exact row_at _ 1 b h l e p _ (Nat.mod_lt _ (by norm_num)) hp _ (by rw [hh]; rfl)

theorem X2_at (l e : Fin 128) (p : Fin 2048) (hp : (p : ℕ) = l * 16 + t.val / 8 % 16) :
    X2 m c t (ix3 0 l e) = Cert.BandRef.xrow 2 2 (m ((c : Thread nD τ).loc main_arg0)) b h p e := by
  have hi : ((cfg0.win 2).blk t).view.emb (ix3 0 l e) = (ix3 b l ⟨(t.val / 8 % 16 * 192 + 120 + t.val % 8) * 128 + e, by omega⟩ : S4x128x393216.Idx) := by
    blk_ext [idx t]
  have : X2 m c t (ix3 0 l e) = V m c main_v18 (((cfg0.win 2).blk t).view.emb (ix3 0 l e)) := rfl
  rw [this, hi, V_v18]
  exact row_at _ 2 b h l e p _ (Nat.mod_lt _ (by norm_num)) hp _ (by rw [hh]; rfl)

omit hb hh

theorem X3_at (l e : Fin 128) (p : Fin 2048) (hp : (p : ℕ) = l * 16 + t.val / 8 % 16) :
    X3 m c t (ix2 l e) = Ideal.cos (ang p ⟨(e : ℕ) % 64, Nat.mod_lt _ (by norm_num)⟩) := by
  have hi : ((cfg0.win 3).blk t).view.emb (ix2 l e) = (ix2 l ⟨t.val / 8 % 16 * 128 + e, by omega⟩ : S128x2048.Idx) := by
    blk_ext [idx t]
  have : X3 m c t (ix2 l e) = V m c main_v19 (((cfg0.win 3).blk t).view.emb (ix2 l e)) := rfl
  rw [this, hi, V_v19, r19_at, ← Cert.BandTab.COS_at]
  exact congrArg Cert.BandTab.COS (congrArg₂ ix2 (Fin.ext (by show (l : ℕ) * 16 + (t.val / 8 % 16 * 128 + e) / 128 = p; omega))
    (Fin.ext (by show (t.val / 8 % 16 * 128 + e) % 128 = (e : ℕ); omega)))

theorem X4_at (l e : Fin 128) (p : Fin 2048) (hp : (p : ℕ) = l * 16 + t.val / 8 % 16) :
    X4 m c t (ix2 l e) = if (e : ℕ) < 64 then -Ideal.sin (ang p ⟨(e : ℕ) % 64, Nat.mod_lt _ (by norm_num)⟩)
      else Ideal.sin (ang p ⟨(e : ℕ) % 64, Nat.mod_lt _ (by norm_num)⟩) := by
  have hi : ((cfg0.win 4).blk t).view.emb (ix2 l e) = (ix2 l ⟨t.val / 8 % 16 * 128 + e, by omega⟩ : S128x2048.Idx) := by
    blk_ext [idx t]
  have : X4 m c t (ix2 l e) = V m c main_v20 (((cfg0.win 4).blk t).view.emb (ix2 l e)) := rfl
  rw [this, hi, V_v20, r19_at, ← Cert.BandTab.SIN_at]
  exact congrArg Cert.BandTab.SIN (congrArg₂ ix2 (Fin.ext (by show (l : ℕ) * 16 + (t.val / 8 % 16 * 128 + e) / 128 = p; omega))
    (Fin.ext (by show (t.val / 8 % 16 * 128 + e) % 128 = (e : ℕ); omega)))

theorem X5_at (e : Fin 128) : X5 m c t (ix3 0 0 e) = m ((c : Thread nD τ).loc main_arg1) (ix2 0 e) := by
  have hi : ((cfg0.win 5).blk t).view.emb (ix3 0 0 e) = (ix3 0 0 e : S4x1x128.Idx) := by
    blk_ext [idx t]
  have : X5 m c t (ix3 0 0 e) = V m c main_v21 (((cfg0.win 5).blk t).view.emb (ix3 0 0 e)) := rfl
  rw [this, hi, V_v21, r21_at]

theorem X6_at (e : Fin 128) : X6 m c t (ix3 0 0 e) = m ((c : Thread nD τ).loc main_arg2) (ix2 0 e) := by
  have hi : ((cfg0.win 6).blk t).view.emb (ix3 0 0 e) = (ix3 0 0 e : S4x1x128.Idx) := by
    blk_ext [idx t]
  have : X6 m c t (ix3 0 0 e) = V m c main_v22 (((cfg0.win 6).blk t).view.emb (ix3 0 0 e)) := rfl
  rw [this, hi, V_v22, r21_at]

/-! ## The queries and keys of a point -/

/-- The queries the kernel computes. -/
def QV : FVec Ideal S128x128 .f32 := k0_pay5 (X3 m c t) (X4 m c t) (X0 m c t) (X5 m c t)

/-- The keys the kernel computes. -/
def KV : FVec Ideal S128x128 .f32 :=
  k0_pay10 (k0_pay3 (X3 m c t)) (k0_pay4 (X4 m c t)) (k0_pay6 (X1 m c t)) (k0_pay7 (X6 m c t)) (k0_pay8 (X1 m c t)) (k0_pay9 (F := Ideal))

/-- The same computation serves the queries and the keys. -/
theorem KV_eq (C S : FVec Ideal S128x128 .f32) (X : FVec Ideal S1x128x128 .f32) (G : FVec Ideal S1x1x128 .f32) :
    k0_pay10 (k0_pay3 C) (k0_pay4 S) (k0_pay6 X) (k0_pay7 G) (k0_pay8 X) (k0_pay9 (F := Ideal)) = k0_pay5 C S X G := rfl

/-- Normalized and rotated, a row is the head's vector. -/
theorem head_at (C S : FVec Ideal S128x128 .f32) (X : FVec Ideal S1x128x128 .f32) (G : FVec Ideal S1x1x128 .f32) (l d : Fin 128)
    (p : Fin 2048) (x g : Fin 128 → EReal) (hx : ∀ e, X (ix3 0 l e) = x e) (hg : ∀ e, G (ix3 0 0 e) = g e)
    (hc : ∀ e, C (ix2 l e) = Ideal.cos (ang p ⟨(e : ℕ) % 64, Nat.mod_lt _ (by norm_num)⟩))
    (hs : ∀ e, S (ix2 l e) = if (e : ℕ) < 64 then -Ideal.sin (ang p ⟨(e : ℕ) % 64, Nat.mod_lt _ (by norm_num)⟩)
      else Ideal.sin (ang p ⟨(e : ℕ) % 64, Nat.mod_lt _ (by norm_num)⟩)) : k0_pay5 (F := Ideal) C S X G (ix2 l d) = head x g p d := by
  pointwise [k0_pay5, k0_pay3, k0_pay4, hx, hg]
  unfold head
  refine Cert.BandBlk.rot_eq (nrm x g) (fun e => Ideal.cos (ang p e)) (fun e => Ideal.sin (ang p e)) d _ _ _ (hc d) (hs d) ?_
  exact congrArg (nrm x g) (Fin.ext (by show ((d : ℕ) + 128 - 64) % 128 = (d + 64) % 128; omega) :
    (⟨((d : ℕ) + 128 - 64) % 128, Nat.mod_lt _ (by norm_num)⟩ : Fin 128) = ⟨((d : ℕ) + 64) % 128, Nat.mod_lt _ (by norm_num)⟩)

include hb hh

theorem QV_at (l e : Fin 128) (p : Fin 2048) (hp : (p : ℕ) = l * 16 + t.val / 8 % 16) : QV m c t (ix2 l e)
    = Cert.BandRef.hd 0 2 (m ((c : Thread nD τ).loc main_arg0)) (m ((c : Thread nD τ).loc main_arg1)) b h p e :=
  head_at _ _ _ _ l e p _ _ (fun e => X0_at m c t b h hb hh l e p hp) (fun e => X5_at m c t e) (fun e => X3_at m c t l e p hp)
    (fun e => X4_at m c t l e p hp)

theorem KV_at (l e : Fin 128) (p : Fin 2048) (hp : (p : ℕ) = l * 16 + t.val / 8 % 16) : KV m c t (ix2 l e)
    = Cert.BandRef.hd 1 2 (m ((c : Thread nD τ).loc main_arg0)) (m ((c : Thread nD τ).loc main_arg2)) b h p e := by
  unfold KV
  rw [KV_eq]
  exact head_at _ _ _ _ l e p _ _ (fun e => X1_at m c t b h hb hh l e p hp) (fun e => X6_at m c t e) (fun e => X3_at m c t l e p hp)
    (fun e => X4_at m c t l e p hp)

omit hb hh

/-- The values the kernel reads. -/
def VV : FVec Ideal S128x128 .bf16 := truncf .bf16 (shapeCast S128x128 (X2 m c t) shapeCasts_S1x128x128_S128x128) bitsLt_bf16_f32

include hb hh

theorem VV_at (l e : Fin 128) (p : Fin 2048) (hp : (p : ℕ) = l * 16 + t.val / 8 % 16) :
    VV m c t (ix2 l e) = Cert.BandRef.xrow 2 2 (m ((c : Thread nD τ).loc main_arg0)) b h p e := by
  rw [← X2_at m c t b h hb hh l e p hp]
  pointwise [VV]

omit hb hh

/-- The mask's value. -/
def mk : Ideal .f32 := Named.named κ "mask" 0xF149F2CA#32

theorem mk_eq : mk = ⊥ := IdealRules.named_const.ideal_named_scalar _ _ _ _ rfl

/-- The outputs the kernel computes, as a block's. -/
theorem o_eq : k0_pay1 (k0_pay16 (k0_pay3 (X3 m c t)) (k0_pay4 (X4 m c t)) (QV m c t) (k0_pay6 (X1 m c t)) (k0_pay7 (X6 m c t)) (k0_pay8 (X1 m c t)) (k0_pay9 (F := Ideal)) (X2 m c t))
    = Cert.BandBlk.O1 (Cert.BandBlk.S1 mk (truncf .bf16 (QV m c t) bitsLt_bf16_f32) (truncf .bf16 (KV m c t) bitsLt_bf16_f32)) (VV m c t) := rfl

theorem l_eq : k0_pay2 (k0_pay13 (k0_pay3 (X3 m c t)) (k0_pay4 (X4 m c t)) (QV m c t) (k0_pay6 (X1 m c t)) (k0_pay7 (X6 m c t)) (k0_pay8 (X1 m c t)) (k0_pay9 (F := Ideal)))
      (k0_pay15 (k0_pay3 (X3 m c t)) (k0_pay4 (X4 m c t)) (QV m c t) (k0_pay6 (X1 m c t)) (k0_pay7 (X6 m c t)) (k0_pay8 (X1 m c t)) (k0_pay9 (F := Ideal)))
    = Cert.BandBlk.L Cert.Band0Ideal.Gen.reduces_S128x128_S128 Cert.Band0Ideal.Gen.broadcasts_S128x1_S128x128
        (Cert.BandBlk.S1 mk (truncf .bf16 (QV m c t) bitsLt_bf16_f32) (truncf .bf16 (KV m c t) bitsLt_bf16_f32)) := rfl

end Point

/-! ## The reference's results at an index -/

section Ref

variable (A : FVec Ideal S8192x24576 .f32) (wq wk : FVec Ideal S4x128 .f32)

/-- The reference's outputs. -/
def R0 : FVec Ideal S4x128x16384 .f32 :=
  shapeCast S4x128x16384 (Cert.BandRef.RO (128 * 16) 16 2 A wq wk Cert.Band2RefIdeal.Gen.slices_S4x2048x3x3x8x128_S4x2048x1x1x8x128_0_0_0_2_0_0
    Cert.Band2RefIdeal.Gen.slices_S4x2048x3x3x8x128_S4x2048x1x1x8x128_0_0_1_2_0_0
    Cert.Band2RefIdeal.Gen.slices_S4x2048x3x3x8x128_S4x2048x1x1x8x128_0_0_2_2_0_0) Cert.Band2RefIdeal.Gen.shapeCasts_S4x2048x8x128_S4x128x16384

/-- The reference's log-sum-exps. -/
def R1 : FVec Ideal S4x128x16384 .f32 :=
  shapeCast S4x128x16384 (Cert.BandRef.RL (128 * 16) 16 2 A wq wk Cert.Band2RefIdeal.Gen.slices_S4x2048x3x3x8x128_S4x2048x1x1x8x128_0_0_0_2_0_0
    Cert.Band2RefIdeal.Gen.slices_S4x2048x3x3x8x128_S4x2048x1x1x8x128_0_0_1_2_0_0) Cert.Band2RefIdeal.Gen.shapeCasts_S4x2048x8x128_S4x128x16384

/-- The reference's keys. -/
def R2 : FVec Ideal S4x128x16384 .f32 :=
  shapeCast S4x128x16384 (Cert.BandRef.HEADS (Cert.BandRef.XS 1 2 A Cert.Band2RefIdeal.Gen.slices_S4x2048x3x3x8x128_S4x2048x1x1x8x128_0_0_1_2_0_0) wk)
    Cert.Band2RefIdeal.Gen.shapeCasts_S4x2048x8x128_S4x128x16384

theorem cast_at (X : FVec Ideal Cert.Band2RefIdeal.S4x2048x8x128 .f32) (b : Fin 4) (h : Fin 8) (l d : Fin 128) (p : Fin 2048) (r : ℕ)
    (hr : r < 16) (hp : (p : ℕ) = l * 16 + r) (x : Fin 16384) (hx : (x : ℕ) = (r * 8 + h) * 128 + d) :
    shapeCast S4x128x16384 X Cert.Band2RefIdeal.Gen.shapeCasts_S4x2048x8x128_S4x128x16384 (ix3 b l x) = X (ix4 b p h d) := by
  have hh := h.isLt
  have hd := d.isLt
  pointwise
  exact congrArg X (congr (congr (congrArg (ix4 b) (Fin.ext (by show _ = (p : ℕ); dsimp only; omega)))
    (Fin.ext (by show _ = (h : ℕ); dsimp only; omega))) (Fin.ext (by show _ = (d : ℕ); dsimp only; omega)))

theorem R0_at (b : Fin 4) (h : Fin 8) (l d : Fin 128) (p : Fin 2048) (r : ℕ) (hr : r < 16) (hp : (p : ℕ) = l * 16 + r)
    (x : Fin 16384) (hx : (x : ℕ) = (r * 8 + h) * 128 + d) : R0 A wq wk (ix3 b l x)
      = out (sc (128 * 16) 16 (Cert.BandRef.hd 0 2 A wq b h) (Cert.BandRef.hd 1 2 A wk b h) p) fun s => Cert.BandRef.xrow 2 2 A b h s d :=
  (cast_at _ b h l d p r hr hp x hx).trans (Cert.BandRef.RO_at _ _ _ _ _ _ _ _ _ (by norm_num) (by norm_num) (by norm_num) _ _ _ _)

theorem R1_at (b : Fin 4) (h : Fin 8) (l d : Fin 128) (p : Fin 2048) (r : ℕ) (hr : r < 16) (hp : (p : ℕ) = l * 16 + r)
    (x : Fin 16384) (hx : (x : ℕ) = (r * 8 + h) * 128 + d) : R1 A wq wk (ix3 b l x)
      = lse (sc (128 * 16) 16 (Cert.BandRef.hd 0 2 A wq b h) (Cert.BandRef.hd 1 2 A wk b h) p) :=
  (cast_at _ b h l d p r hr hp x hx).trans (Cert.BandRef.RL_at _ _ _ _ _ _ _ _ (by norm_num) (by norm_num) (by norm_num) _ _ _ _)

theorem R2_at (b : Fin 4) (h : Fin 8) (l d : Fin 128) (p : Fin 2048) (r : ℕ) (hr : r < 16) (hp : (p : ℕ) = l * 16 + r)
    (x : Fin 16384) (hx : (x : ℕ) = (r * 8 + h) * 128 + d) : R2 A wk (ix3 b l x) = Cert.BandRef.hd 1 2 A wk b h p d :=
  (cast_at _ b h l d p r hr hp x hx).trans (Cert.BandRef.HXS_at 2 A 1 wk _ _ _ _ _)

end Ref

/-! ## Every point writes the reference's block -/

theorem lt_N (t : Fin cfg0.N) : t.val < 512 := lt_of_lt_of_eq t.isLt (by decide +kernel : cfg0.N = 512)

/-- Where a point's block of a result lies. -/
theorem emb7 (t : Fin cfg0.N) (l d : Fin 128) : ((cfg0.win 7).blk t).view.emb (ix3 0 l d)
    = (ix3 ⟨t.val / 128, by have := lt_N t; omega⟩ l ⟨(t.val / 8 % 16 * 8 + t.val % 8) * 128 + d, by omega⟩ : S4x128x16384.Idx) := by
  blk_ext [idx t]

theorem emb8 (t : Fin cfg0.N) (l d : Fin 128) : ((cfg0.win 8).blk t).view.emb (ix3 0 l d)
    = (ix3 ⟨t.val / 128, by have := lt_N t; omega⟩ l ⟨(t.val / 8 % 16 * 8 + t.val % 8) * 128 + d, by omega⟩ : S4x128x16384.Idx) := by
  blk_ext [idx t]

theorem emb9 (t : Fin cfg0.N) (l d : Fin 128) : ((cfg0.win 9).blk t).view.emb (ix3 0 l d)
    = (ix3 ⟨t.val / 128, by have := lt_N t; omega⟩ l ⟨(t.val / 8 % 16 * 8 + t.val % 8) * 128 + d, by omega⟩ : S4x128x16384.Idx) := by
  blk_ext [idx t]

section Final

variable (c : Dev nD) (hq : ∀ i, IsReal (m ((c : Thread nD τ).loc main_arg1) i)) (hk : ∀ i, IsReal (m ((c : Thread nD τ).loc main_arg2) i))
include hq hk

theorem point7 (t : Fin cfg0.N) (y : S1x128x128.Idx) :
    k0_pay1 (k0_pay16 (k0_pay3 (X3 m c t)) (k0_pay4 (X4 m c t)) (QV m c t) (k0_pay6 (X1 m c t)) (k0_pay7 (X6 m c t)) (k0_pay8 (X1 m c t)) (k0_pay9 (F := Ideal)) (X2 m c t)) y
      = R0 (m ((c : Thread nD τ).loc main_arg0)) (m ((c : Thread nD τ).loc main_arg1)) (m ((c : Thread nD τ).loc main_arg2)) (((cfg0.win 7).blk t).view.emb y) := by
  obtain ⟨l, d, rfl⟩ : ∃ (l d : Fin 128), y = ix3 0 l d := ⟨y 1, y 2, Cert.BandBlk.blk_idx y⟩
  have ht := lt_N t
  have hr : t.val / 8 % 16 < 16 := Nat.mod_lt _ (by norm_num)
  have hp : (l : ℕ) * 16 + t.val / 8 % 16 < 2048 := by omega
  rw [emb7, R0_at _ _ _ _ ⟨t.val % 8, Nat.mod_lt _ (by norm_num)⟩ l d ⟨l * 16 + t.val / 8 % 16, hp⟩ _ hr rfl _ rfl, o_eq]
  exact Cert.BandBlk.O1_key (by norm_num) (Lq := 128) (by norm_num) ⟨t.val / 8 % 16, hr⟩ mk_eq (fun t e => head_real _ _ (fun _ => hq _) t e)
    (fun t e => head_real _ _ (fun _ => hk _) t e) (by norm_num) l d _ rfl (fun e => QV_at m c t _ _ rfl rfl l e _ rfl)
    (fun j e => KV_at m c t _ _ rfl rfl j e _ (by show (0 + (j : ℕ)) * 16 + _ = _; rw [Nat.zero_add]))
    (fun j => VV_at m c t _ _ rfl rfl j d _ (by show (0 + (j : ℕ)) * 16 + _ = _; rw [Nat.zero_add]))

theorem point8 (t : Fin cfg0.N) (y : S1x128x128.Idx) :
    k0_pay2 (k0_pay13 (k0_pay3 (X3 m c t)) (k0_pay4 (X4 m c t)) (QV m c t) (k0_pay6 (X1 m c t)) (k0_pay7 (X6 m c t)) (k0_pay8 (X1 m c t)) (k0_pay9 (F := Ideal)))
      (k0_pay15 (k0_pay3 (X3 m c t)) (k0_pay4 (X4 m c t)) (QV m c t) (k0_pay6 (X1 m c t)) (k0_pay7 (X6 m c t)) (k0_pay8 (X1 m c t)) (k0_pay9 (F := Ideal))) y
      = R1 (m ((c : Thread nD τ).loc main_arg0)) (m ((c : Thread nD τ).loc main_arg1)) (m ((c : Thread nD τ).loc main_arg2)) (((cfg0.win 8).blk t).view.emb y) := by
  obtain ⟨l, d, rfl⟩ : ∃ (l d : Fin 128), y = ix3 0 l d := ⟨y 1, y 2, Cert.BandBlk.blk_idx y⟩
  have ht := lt_N t
  have hr : t.val / 8 % 16 < 16 := Nat.mod_lt _ (by norm_num)
  have hp : (l : ℕ) * 16 + t.val / 8 % 16 < 2048 := by omega
  rw [emb8, R1_at _ _ _ _ ⟨t.val % 8, Nat.mod_lt _ (by norm_num)⟩ l d ⟨l * 16 + t.val / 8 % 16, hp⟩ _ hr rfl _ rfl, l_eq]
  exact Cert.BandBlk.L1_key (by norm_num) (Lq := 128) (by norm_num) ⟨t.val / 8 % 16, hr⟩ mk_eq (fun t e => head_real _ _ (fun _ => hq _) t e)
    (fun t e => head_real _ _ (fun _ => hk _) t e) (by norm_num) l d _ rfl (fun e => QV_at m c t _ _ rfl rfl l e _ rfl)
    (fun j e => KV_at m c t _ _ rfl rfl j e _ (by show (0 + (j : ℕ)) * 16 + _ = _; rw [Nat.zero_add]))

omit hq hk

theorem point9 (t : Fin cfg0.N) (y : S1x128x128.Idx) :
    k0_pay11 (k0_pay3 (X3 m c t)) (k0_pay4 (X4 m c t)) (k0_pay6 (X1 m c t)) (k0_pay7 (X6 m c t)) (k0_pay8 (X1 m c t)) (k0_pay9 (F := Ideal)) y
      = R2 (m ((c : Thread nD τ).loc main_arg0)) (m ((c : Thread nD τ).loc main_arg2)) (((cfg0.win 9).blk t).view.emb y) := by
  obtain ⟨l, d, rfl⟩ : ∃ (l d : Fin 128), y = ix3 0 l d := ⟨y 1, y 2, Cert.BandBlk.blk_idx y⟩
  have ht := lt_N t
  have hr : t.val / 8 % 16 < 16 := Nat.mod_lt _ (by norm_num)
  have hp : (l : ℕ) * 16 + t.val / 8 % 16 < 2048 := by omega
  rw [emb9, R2_at _ _ _ ⟨t.val % 8, Nat.mod_lt _ (by norm_num)⟩ l d ⟨l * 16 + t.val / 8 % 16, hp⟩ _ hr rfl _ rfl]
  have e : ∀ K : FVec Ideal S128x128 .f32, shapeCast S1x128x128 K shapeCasts_S128x128_S1x128x128 (ix3 0 l d) = K (ix2 l d) := fun K => by pointwise
  exact (e (KV m c t)).trans (KV_at m c t _ _ rfl rfl l d _ rfl)

theorem final9 : (dats m 0 c).arrAt 9 (cfgs 0).N = R2 (m ((c : Thread nD τ).loc main_arg0)) (m ((c : Thread nD τ).loc main_arg2)) := by
  refine (dats m 0 c).arrAt_eq_of_covers 9 _ (by decide +kernel) fun t _ y => ?_
  blk_simp; rw [after0_9]; unfold_out out0_9; frame_out; exact point9 m c t y

include hq hk

theorem final7 : (dats m 0 c).arrAt 7 (cfgs 0).N
    = R0 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp; rw [after0_7]; unfold_out out0_7; frame_out; exact point7 m c hq hk t y

theorem final8 : (dats m 0 c).arrAt 8 (cfgs 0).N
    = R1 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp; rw [after0_8]; unfold_out out0_8; frame_out; exact point8 m c hq hk t y

end Final

/-- The new keys and values on a common axis. -/
def STACK (k v : FVec Ideal S4x2048x8x128 .f32) : FVec Ideal S4x2048x2x8x128 .f32 :=
  concatenate S4x2048x2x8x128 2 [⟨S4x2048x1x8x128, (broadcastInDim S4x2048x1x8x128 ![0, 1, 3, 4] bcast_S4x2048x8x128_S4x2048x1x8x128_0_1_3_4 k : FVec Ideal S4x2048x1x8x128 .f32)⟩,
    ⟨S4x2048x1x8x128, (broadcastInDim S4x2048x1x8x128 ![0, 1, 3, 4] bcast_S4x2048x8x128_S4x2048x1x8x128_0_1_3_4 v : FVec Ideal S4x2048x1x8x128 .f32)⟩]
    concatenates_S4x2048x1x8x128_S4x2048x1x8x128_S4x2048x2x8x128_d2

/-- What the host makes of the kernel's keys and the projection. -/
def TAIL (A : FVec Ideal S8192x24576 .f32) (K : FVec Ideal S4x128x16384 .f32) : FVec Ideal S4x2048x2x8x128 .f32 :=
  STACK (shapeCast S4x2048x8x128 K shapeCasts_S4x128x16384_S4x2048x8x128)
    (shapeCast S4x2048x8x128 (extractStridedSlice S4x2048x1024 ![0, 0, 15360] (shapeCast S4x2048x24576 A shapeCasts_S8192x24576_S4x2048x24576)
      slices_S4x2048x24576_S4x2048x1024_0_0_15360) shapeCasts_S4x2048x1024_S4x2048x8x128)

/-- The reference's: the last keys and values of every sequence. -/
def R3 (A : FVec Ideal S8192x24576 .f32) (wk : FVec Ideal S4x128 .f32) : FVec Ideal S4x2048x2x8x128 .f32 :=
  STACK (Cert.BandRef.HEADS (Cert.BandRef.XS 1 2 A Cert.Band2RefIdeal.Gen.slices_S4x2048x3x3x8x128_S4x2048x1x1x8x128_0_0_1_2_0_0) wk)
    (Cert.BandRef.XS 2 2 A Cert.Band2RefIdeal.Gen.slices_S4x2048x3x3x8x128_S4x2048x1x1x8x128_0_0_2_2_0_0)

/-- The values the host cuts from the projection are the reference's. -/
theorem vals_eq (A : FVec Ideal S8192x24576 .f32) :
    shapeCast S4x2048x8x128 (extractStridedSlice S4x2048x1024 ![0, 0, 15360] (shapeCast S4x2048x24576 A shapeCasts_S8192x24576_S4x2048x24576)
      slices_S4x2048x24576_S4x2048x1024_0_0_15360) shapeCasts_S4x2048x1024_S4x2048x8x128
      = (Cert.BandRef.XS 2 2 A Cert.Band2RefIdeal.Gen.slices_S4x2048x3x3x8x128_S4x2048x1x1x8x128_0_0_2_2_0_0) := by
  funext i
  obtain ⟨b, l, h, d, rfl⟩ : ∃ (b : Fin 4) (l : Fin 2048) (h : Fin 8) (d : Fin 128), i = ix4 b l h d :=
    ⟨i 0, i 1, i 2, i 3, by funext k; fin_cases k <;> rfl⟩
  have e0 : ∀ Q : FVec Ideal S4x2048x24576 .f32, shapeCast S4x2048x8x128 (extractStridedSlice S4x2048x1024 ![0, 0, 15360] Q
      slices_S4x2048x24576_S4x2048x1024_0_0_15360) shapeCasts_S4x2048x1024_S4x2048x8x128 (ix4 b l h d)
      = Q (ix3 b ⟨0 + l, by omega⟩ ⟨15360 + (h * 128 + d), by omega⟩) := fun Q => by
    pointwise
  have e1 : ∀ (p : Fin 2048) (x : Fin 24576), shapeCast S4x2048x24576 A shapeCasts_S8192x24576_S4x2048x24576 (ix3 b p x)
      = A (ix2 ⟨b * 2048 + p, by omega⟩ x) := fun p x => by pointwise
  have e2 : (Cert.BandRef.XS 2 2 A Cert.Band2RefIdeal.Gen.slices_S4x2048x3x3x8x128_S4x2048x1x1x8x128_0_0_2_2_0_0) (ix4 b l h d) = Cert.BandRef.xrow 2 2 A b h ⟨0 + l, by omega⟩ d :=
    (Cert.BandRef.XS_at 2 2 A _ b l h d).trans (congrArg (fun z => Cert.BandRef.xrow 2 2 A b h z d) (Fin.ext (by dsimp only; omega)))
  refine (e0 _).trans ((e1 _ _).trans (Eq.trans ?_ e2.symm))
  unfold Cert.BandRef.xrow
  exact congrArg A (congrArg (ix2 _) (Fin.ext (by show 15360 + ((h : ℕ) * 128 + d) = 7168 + ((2 * 3 + 2) * 8 + h) * 128 + d; omega)))

/-- Of the reference's keys, flat as the kernel leaves them, the host makes the reference's. -/
theorem tail_eq (A : FVec Ideal S8192x24576 .f32) (wk : FVec Ideal S4x128 .f32) : TAIL A (R2 A wk) = R3 A wk :=
  congrArg₂ STACK (shapeCast_shapeCast _ _ _) (vals_eq A)

/-- What the host's lines after the call make of any arrays. -/
theorem after_tail (U : Valuation τ sig (Elt Ideal)) :
    StableHlo.after (List.flatten [hostOps1]) U (Proc.devRef .tc main_v30) = TAIL (U (Proc.devRef .tc main_arg0)) (U (Proc.devRef .tc main_v23_2)) := by
  simp only [List.flatten_cons, List.flatten_nil, List.append_nil]; after_results; try rfl

/-- They leave it in the third result. -/
theorem tail (c : Dev nD) : Pipeline.afterTail₀ cfgs (dats m) 0 (V0 m) [hostOps1] c main_v30
    = TAIL (m ((c : Thread nD τ).loc main_arg0)) ((dats m 0 c).arrAt 9 (cfgs 0).N) :=
  (after_tail _).trans (congrArg₂ TAIL
    ((Pipeline.withArrays_of_ne _ c (V0 m c) _ main_arg0 (by exact (by decide : ∀ w, Pipeline.arrRef spec0 w ≠ main_arg0))).trans (V_main_arg0 m c))
    (Pipeline.Dat.withArrays_arrAt (dats m 0 c) sharedIn0 (V0 m c) (A_eq m c) 9))

/-- The run with the three results and the arguments named. -/
theorem run_all (ρ : Dev nD → PrngReg) : θ_run defs (onTc (τ := τ) (main (F := Ideal))) ⟨m, fun _ => 0, ρ⟩ fun r => ∀ c : Dev nD,
      r.2.mem ((c : Thread nD τ).loc main_v23_0) = (dats m 0 c).arrAt 7 (cfgs 0).N
      ∧ r.2.mem ((c : Thread nD τ).loc main_v23_1) = (dats m 0 c).arrAt 8 (cfgs 0).N
      ∧ r.2.mem ((c : Thread nD τ).loc main_v30) = TAIL (m ((c : Thread nD τ).loc main_arg0)) ((dats m 0 c).arrAt 9 (cfgs 0).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 7, (h.1 c).1 8,
    ((h.1 c).2 main_v30 (Pipeline.mem_restRefs_of main_v30 (by decide) (by decide))).trans (tail m c), h.2 c⟩)
    (θ_run_and (run_main m ρ) (unchanged m ρ))

end Cert.Band2Ideal.RefValue

namespace Cert.Proof

open Idealize.ShloMosaic Idealize.ShloMosaic.TcCoe Idealize.SL.Sem

/-- The kernel runs as printed and leaves its arguments alone. -/
theorem frame_Band2 : quiescent_Band2 := fun m ρ _ => Cert.Band2.Gen.frame m ρ

/-- So does its idealization. -/
theorem frame_Band2Ideal : quiescent_Band2Ideal := fun m ρ _ => Cert.Band2Ideal.Gen.frame m ρ

/-- So it does where the gains are real. -/
theorem frame_Band2Ideal_real [Cert.Pre_finite_gains.Facts] : quiescent_Band2Ideal_pre_finite_gains := fun m ρ _ => Cert.Band2Ideal.Gen.frame m ρ

/-- The reference runs and leaves its arguments alone. -/
theorem frame_Band2RefIdeal : quiescent_Band2RefIdeal := by
  intro m ρ _
  refine θ_run_mono (Cert.Band2RefIdeal.Value.run m ρ) fun r h => ?_
  exact ⟨fun c => (h c).2.2.2, sem_eq_zero_of_no_sems (by decide) r.2⟩

theorem frame_Band2RefIdeal_real [Cert.Pre_finite_gains.Facts] : quiescent_Band2RefIdeal_pre_finite_gains := by
  intro m ρ _
  refine θ_run_mono (Cert.Band2RefIdeal.Value.run m ρ) fun r h => ?_
  exact ⟨fun c => (h c).2.2.2, sem_eq_zero_of_no_sems (by decide) r.2⟩

/-- The idealization replaces the mask's finite number by `-∞` and nothing else. -/
theorem mask_Band2 : preserves_Band2_Band2Ideal := IdealRules.named_const.statement Cert.Band2Ideal.κ "mask" .f32 0xF149F2CA#32 ⊥ rfl

/-- The reference's printed outputs are the staged ones. -/
theorem res0_Band2 (m : (ℓ : Loc Cert.Band2RefIdeal.nD Cert.Band2RefIdeal.τ Cert.Band2RefIdeal.sig) → Buf (Elt Ideal) ℓ)
    (c : Dev Cert.Band2RefIdeal.nD) : Cert.Band2RefIdeal.Value.res_main_v133 m c
      = Cert.Band2Ideal.RefValue.R0 (m ((c.tc : Thread _ _).loc Cert.Band2RefIdeal.main_arg0)) (m ((c.tc : Thread _ _).loc Cert.Band2RefIdeal.main_arg1)) (m ((c.tc : Thread _ _).loc Cert.Band2RefIdeal.main_arg2)) := rfl

/-- The reference's printed log-sum-exps are the staged ones. -/
theorem res1_Band2 (m : (ℓ : Loc Cert.Band2RefIdeal.nD Cert.Band2RefIdeal.τ Cert.Band2RefIdeal.sig) → Buf (Elt Ideal) ℓ)
    (c : Dev Cert.Band2RefIdeal.nD) : Cert.Band2RefIdeal.Value.res_main_v134 m c
      = Cert.Band2Ideal.RefValue.R1 (m ((c.tc : Thread _ _).loc Cert.Band2RefIdeal.main_arg0)) (m ((c.tc : Thread _ _).loc Cert.Band2RefIdeal.main_arg1)) (m ((c.tc : Thread _ _).loc Cert.Band2RefIdeal.main_arg2)) := rfl

/-- The reference's printed keys and values are the staged ones. -/
theorem res2_Band2 (m : (ℓ : Loc Cert.Band2RefIdeal.nD Cert.Band2RefIdeal.τ Cert.Band2RefIdeal.sig) → Buf (Elt Ideal) ℓ)
    (c : Dev Cert.Band2RefIdeal.nD) : Cert.Band2RefIdeal.Value.res_out2 m c
      = Cert.Band2Ideal.RefValue.R3 (m ((c.tc : Thread _ _).loc Cert.Band2RefIdeal.main_arg0)) (m ((c.tc : Thread _ _).loc Cert.Band2RefIdeal.main_arg2)) := rfl

/-- Where the gains are real, kernel and reference end with equal results. -/
theorem equal_Band2 [Cert.Pre_finite_gains.Facts] : algebraic_Band2Ideal_Band2RefIdeal_pre_finite_gains := by
  intro m g m' g' hpre hag
  have hr := fun c => Cert.BandTab.gains_real _ _ _ (hpre c)
  refine ⟨fun c => (Cert.Band2Ideal.Gen.dats m 0 c).arrAt 7 Cert.Band2Ideal.cfg0.N, fun c => (Cert.Band2Ideal.Gen.dats m 0 c).arrAt 8 Cert.Band2Ideal.cfg0.N,
    fun c => Cert.Band2Ideal.RefValue.TAIL (m ((c.tc : Thread _ _).loc Cert.Band2Ideal.main_arg0)) ((Cert.Band2Ideal.Gen.dats m 0 c).arrAt 9 (Cert.Band2Ideal.cfgs 0).N), ?_, ?_⟩
  · run_from Cert.Band2Ideal.RefValue.run_all m g
  · refine (θ_run _ _ _).mono (fun r h c => ?_) (Cert.Band2RefIdeal.Value.run m' g')
    obtain ⟨h0, h1, h2, h3⟩ := h c
    obtain ⟨a0, a1, a2⟩ := hag c
    refine ⟨h0.trans ((res0_Band2 m' c).trans ?_), h1.trans ((res1_Band2 m' c).trans ?_), h2.trans ((res2_Band2 m' c).trans ?_), h3⟩
    · rw [a0, a1, a2]; exact (Cert.Band2Ideal.RefValue.final7 m c (hr c).1 (hr c).2).symm
    · rw [a0, a1, a2]; exact (Cert.Band2Ideal.RefValue.final8 m c (hr c).1 (hr c).2).symm
    · rw [a0, a2]; exact (Cert.Band2Ideal.RefValue.tail_eq _ _).symm.trans (congrArg (Cert.Band2Ideal.RefValue.TAIL _) (Cert.Band2Ideal.RefValue.final9 m c).symm)

end Cert.Proof

end
-- ==== Proof.Combine.lean ====
/-
  The combination of the three head groups (`combine_groups`): softmax over the groups' log-sum-exps, then the weighted sum of
  their outputs. The kernel divides the weighted sum by the weights' sum, the reference each weight.
-/
module

public import proofs.«01_k».proof.Defs
public import proofs.«01_k».proof.Proof.Gen.Combine.Frame
public import proofs.«01_k».proof.Proof.Gen.CombineIdeal.Value
public import proofs.«01_k».proof.Proof.Gen.CombineRefIdeal.Run
public import Idealize.ShloMosaic.Lib.Claim
public import Idealize.ShloMosaic.Lib.Pointwise
public import Idealize.ShloMosaic.Lib.Pipeline.ValueKit
public import proofs.«01_k».proof.Proof.BandTab

@[expose] public section

set_option maxRecDepth 16384

noncomputable section

namespace Cert.CombineIdeal.RefValue

open Cert.CombineIdeal Cert.CombineIdeal.Gen Idealize.ShloMosaic Idealize.ShloMosaic.TcCoe Idealize.SL.Sem
open Idealize.ShloMosaic.Pipeline (Dat)
open Cert.AttnMath

variable (m : (ℓ : Loc nD τ sig) → Buf (Elt Ideal) ℓ)

/-! ## The reference in stages -/

/-- Three arrays side by side. -/
def CAT (a b c : FVec Ideal S8192x1024 .f32) : FVec Ideal Cert.CombineRefIdeal.S8192x3x1024 .f32 :=
  concatenate Cert.CombineRefIdeal.S8192x3x1024 1
    [⟨Cert.CombineRefIdeal.S8192x1x1024, (broadcastInDim Cert.CombineRefIdeal.S8192x1x1024 ![0, 2] Cert.CombineRefIdeal.Gen.bcast_S8192x1024_S8192x1x1024_0_2 a : FVec Ideal _ .f32)⟩,
      ⟨Cert.CombineRefIdeal.S8192x1x1024, (broadcastInDim Cert.CombineRefIdeal.S8192x1x1024 ![0, 2] Cert.CombineRefIdeal.Gen.bcast_S8192x1024_S8192x1x1024_0_2 b : FVec Ideal _ .f32)⟩,
      ⟨Cert.CombineRefIdeal.S8192x1x1024, (broadcastInDim Cert.CombineRefIdeal.S8192x1x1024 ![0, 2] Cert.CombineRefIdeal.Gen.bcast_S8192x1024_S8192x1x1024_0_2 c : FVec Ideal _ .f32)⟩]
    Cert.CombineRefIdeal.Gen.concatenates_S8192x1x1024_S8192x1x1024_S8192x1x1024_S8192x3x1024_d1

/-- One number per element, for each of the three. -/
def TRI (a : FVec Ideal S8192x1024 .f32) : FVec Ideal Cert.CombineRefIdeal.S8192x3x1024 .f32 :=
  broadcastInDim Cert.CombineRefIdeal.S8192x3x1024 ![0, 1, 2] Cert.CombineRefIdeal.Gen.bcast_S8192x1x1024_S8192x3x1024_0_1_2
    (broadcastInDim Cert.CombineRefIdeal.S8192x1x1024 ![0, 2] Cert.CombineRefIdeal.Gen.bcast_S8192x1024_S8192x1x1024_0_2 a)

/-- The largest of the three. -/
def RED3 (x : FVec Ideal Cert.CombineRefIdeal.S8192x3x1024 .f32) : FVec Ideal Cert.CombineRefIdeal.S8192x1024 .f32 :=
  Host.reduce FloatOps.maximumf x (constant Cert.CombineRefIdeal.S_ .f32 0xFF800000#32) Cert.CombineRefIdeal.Gen.reducesTo_S8192x3x1024_S8192x1024_d1 Cert.CombineRefIdeal.Gen.h_S_

/-- The bound from below that the softmax puts under it. -/
def BOT : FVec Ideal Cert.CombineRefIdeal.S8192x1024 .f32 :=
  broadcastInDim Cert.CombineRefIdeal.S8192x1024 ![] Cert.CombineRefIdeal.Gen.bcast_S_S8192x1024 (constant Cert.CombineRefIdeal.S_ .f32 0xFF800000#32)

/-- The largest of the three, as the softmax takes it. -/
def MX3 (x : FVec Ideal Cert.CombineRefIdeal.S8192x3x1024 .f32) : FVec Ideal Cert.CombineRefIdeal.S8192x1024 .f32 :=
  maximumf BOT (RED3 x)

/-- The three exponentials under the largest. -/
def EXP3 (x : FVec Ideal Cert.CombineRefIdeal.S8192x3x1024 .f32) : FVec Ideal Cert.CombineRefIdeal.S8192x3x1024 .f32 :=
  Host.exp (subf x (TRI (MX3 x)))

/-- The sum of the three. -/
def SUM3 (x : FVec Ideal Cert.CombineRefIdeal.S8192x3x1024 .f32) : FVec Ideal S8192x1024 .f32 :=
  Host.reduceAdd x (constant Cert.CombineRefIdeal.S_ .f32 0x00000000#32) Cert.CombineRefIdeal.Gen.reducesTo_S8192x3x1024_S8192x1024_d1 Cert.CombineRefIdeal.Gen.h_S_

/-- What the reference computes of its arguments. -/
def REF (O0 O1 O2 L0 L1 L2 : FVec Ideal S8192x1024 .f32) : FVec Ideal S8192x1024 .bf16 :=
  truncf .bf16 (SUM3 (mulf (Host.divf (EXP3 (CAT L0 L1 L2)) (TRI (SUM3 (EXP3 (CAT L0 L1 L2))))) (CAT O0 O1 O2))) Cert.CombineRefIdeal.Gen.bitsLt_bf16_f32

theorem CAT_at (a b c : FVec Ideal S8192x1024 .f32) (r : Fin 8192) (k : Fin 3) (j : Fin 1024) :
    CAT a b c (ix3 r k j) = ![a (ix2 r j), b (ix2 r j), c (ix2 r j)] k := by
  fin_cases k <;> pointwise [CAT]

theorem TRI_at (a : FVec Ideal S8192x1024 .f32) (r : Fin 8192) (k : Fin 3) (j : Fin 1024) : TRI a (ix3 r k j) = a (ix2 r j) := by
  pointwise [TRI]

/-- The largest along the middle axis. -/
theorem reduce_mid {n0 n1 n2 : Nat} {u : Shape} (x : (⟨3, ![n0, n1, n2]⟩ : Shape).Idx → EReal) (init : u.Idx → EReal)
    (h : (⟨3, ![n0, n1, n2]⟩ : Shape).ReducesTo [1] ⟨2, ![n0, n2]⟩) (hu : 0 < u.numel) (r : Fin n0) (j : Fin n2) (hb : ∀ i, init i = ⊥) :
    Host.reduce (FloatOps.maximumf (F := Ideal) (φ := .f32)) x init h hu (ix2 r j) = mx fun k => x (ix3 r k j) := by
  pointwise
  rw [hb]
  rfl

theorem RED3_at (x : FVec Ideal Cert.CombineRefIdeal.S8192x3x1024 .f32) (r : Fin 8192) (j : Fin 1024) :
    RED3 x (ix2 r j) = mx fun k => x (ix3 r k j) := by
  unfold RED3
  refine reduce_mid x _ _ _ r j fun i => ?_
  pointwise
  rw [Cert.Consts.bits_bot]

theorem BOT_at (i : Cert.CombineRefIdeal.S8192x1024.Idx) : BOT i = ⊥ := by
  pointwise [BOT]
  rw [Cert.Consts.bits_bot]

theorem MX3_at (x : FVec Ideal Cert.CombineRefIdeal.S8192x3x1024 .f32) (r : Fin 8192) (j : Fin 1024) :
    MX3 x (ix2 r j) = mx fun k => x (ix3 r k j) := by
  unfold MX3
  rw [maximumf_apply, BOT_at, RED3_at]
  exact max_eq_right bot_le

theorem EXP3_at (x : FVec Ideal Cert.CombineRefIdeal.S8192x3x1024 .f32) (r : Fin 8192) (k : Fin 3) (j : Fin 1024) :
    EXP3 x (ix3 r k j) = Ideal.exp (x (ix3 r k j) - mx fun k => x (ix3 r k j)) := by
  pointwise [EXP3]
  rw [TRI_at, MX3_at]

theorem SUM3_at (x : FVec Ideal Cert.CombineRefIdeal.S8192x3x1024 .f32) (r : Fin 8192) (j : Fin 1024) :
    SUM3 x (ix2 r j) = ∑ k, x (ix3 r k j) := by
  pointwise [SUM3]

/-- A sum of values weighted by a softmax. -/
def mean (o l : Fin 3 → EReal) : EReal := ∑ k, Ideal.div (Ideal.exp (l k - mx l)) (den l) * o k

theorem REF_at (O0 O1 O2 L0 L1 L2 : FVec Ideal S8192x1024 .f32) (r : Fin 8192) (j : Fin 1024) :
    REF O0 O1 O2 L0 L1 L2 (ix2 r j)
      = mean ![O0 (ix2 r j), O1 (ix2 r j), O2 (ix2 r j)] ![L0 (ix2 r j), L1 (ix2 r j), L2 (ix2 r j)] := by
  have e : ∀ k, CAT L0 L1 L2 (ix3 r k j) = ![L0 (ix2 r j), L1 (ix2 r j), L2 (ix2 r j)] k := fun k => CAT_at _ _ _ r k j
  have s : SUM3 (EXP3 (CAT L0 L1 L2)) (ix2 r j) = den ![L0 (ix2 r j), L1 (ix2 r j), L2 (ix2 r j)] := by
    rw [SUM3_at]
    simp only [EXP3_at, e]
    rfl
  refine (SUM3_at _ r j).trans (Finset.sum_congr rfl fun k _ => ?_)
  show Ideal.div (EXP3 (CAT L0 L1 L2) (ix3 r k j)) (TRI (SUM3 (EXP3 (CAT L0 L1 L2))) (ix3 r k j)) * CAT O0 O1 O2 (ix3 r k j) = _
  rw [TRI_at, s, EXP3_at]
  simp only [e, CAT_at]

/-! ## Dividing once or each weight -/

/-- Where the log-sum-exps are real, the weighted sum may be divided once. -/
theorem mean_eq (o l : Fin 3 → EReal) (hl : ∀ k, IsReal (l k)) :
    mean o l = Ideal.div (∑ k, Ideal.exp (l k - mx l) * o k) (∑ k, Ideal.exp (l k - mx l)) := by
  obtain ⟨μ, e, hμ, hD, hden, he⟩ := Scores.weights (s := l) ⟨fun k => .inr (hl k), 0, hl 0⟩
  have hd : (∑ k, Ideal.exp (l k - mx l)) = den l := rfl
  have hn : ((∑ k, e k : ℝ) : EReal) ≠ 0 := by
    rw [Ne, EReal.coe_eq_zero]; exact hD.ne'
  rw [hd, hden, Ideal.div, if_neg hn, ← EReal.coe_inv, sum_mul_coe _ _ (inv_pos.mpr hD)]
  unfold mean
  refine Finset.sum_congr rfl fun k _ => ?_
  rw [hden, Ideal.div, if_neg hn, ← EReal.coe_inv, mul_assoc, mul_assoc, mul_comm (o k)]

theorem mx3 (l : Fin 3 → EReal) : max (max (l 0) (l 1)) (l 2) = mx l :=
  le_antisymm (max_le (max_le (le_mx l 0) (le_mx l 1)) (le_mx l 2)) (mx_le l fun k => by
    fin_cases k
    · exact le_max_of_le_left (le_max_left _ _)
    · exact le_max_of_le_left (le_max_right _ _)
    · exact le_max_right _ _)

/-- The kernel's element. -/
theorem pay_at (l0 l1 l2 o0 o1 o2 : FVec Ideal S512x1024 .f32) (a : Fin 512) (j : Fin 1024)
    (h0 : IsReal (l0 (ix2 a j))) (h1 : IsReal (l1 (ix2 a j))) (h2 : IsReal (l2 (ix2 a j))) :
    k0_pay1 (F := Ideal) l0 l1 l2 o0 o1 o2 (ix2 a j)
      = mean ![o0 (ix2 a j), o1 (ix2 a j), o2 (ix2 a j)] ![l0 (ix2 a j), l1 (ix2 a j), l2 (ix2 a j)] := by
  rw [mean_eq _ _ (by intro k; fin_cases k; exacts [h0, h1, h2]), Fin.sum_univ_three, Fin.sum_univ_three, ← mx3]
  pointwise [k0_pay1]

/-! ## The kernel's array -/

/-- Which block each window holds at a point of the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem lt_N (t : Fin cfg0.N) : t.val < 16 := lt_of_lt_of_eq t.isLt (by decide +kernel : cfg0.N = 16)

section Final

variable (c : Dev nD) (h3 : ∀ i, IsReal (m ((c : Thread nD τ).loc main_arg3) i)) (h4 : ∀ i, IsReal (m ((c : Thread nD τ).loc main_arg4) i))
  (h5 : ∀ i, IsReal (m ((c : Thread nD τ).loc main_arg5) i))
include h3 h4 h5

/-- At every point the body's result is the reference's array under that point's block. -/
theorem point (t : Fin cfg0.N) (y : S512x1024.Idx) :
    k0_pay1 (iblk m c 3 t) (iblk m c 4 t) (iblk m c 5 t) (iblk m c 0 t) (iblk m c 1 t) (iblk m c 2 t) y
      = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (((cfg0.win 6).blk t).view.emb y) := by
  have ht := lt_N t
  obtain ⟨a, j, rfl⟩ : ∃ (a : Fin 512) (j : Fin 1024), y = ix2 a j := ⟨y 0, y 1, by funext k; fin_cases k <;> rfl⟩
  have e6 : ((cfg0.win 6).blk t).view.emb (ix2 a j) = (ix2 ⟨t.val * 512 + a, by omega⟩ j : S8192x1024.Idx) := by blk_ext [idx t]
  have e0 : ((cfg0.win 0).blk t).view.emb (ix2 a j) = (ix2 ⟨t.val * 512 + a, by omega⟩ j : S8192x1024.Idx) := by blk_ext [idx t]
  have e1 : ((cfg0.win 1).blk t).view.emb (ix2 a j) = (ix2 ⟨t.val * 512 + a, by omega⟩ j : S8192x1024.Idx) := by blk_ext [idx t]
  have e2 : ((cfg0.win 2).blk t).view.emb (ix2 a j) = (ix2 ⟨t.val * 512 + a, by omega⟩ j : S8192x1024.Idx) := by blk_ext [idx t]
  have e3 : ((cfg0.win 3).blk t).view.emb (ix2 a j) = (ix2 ⟨t.val * 512 + a, by omega⟩ j : S8192x1024.Idx) := by blk_ext [idx t]
  have e4 : ((cfg0.win 4).blk t).view.emb (ix2 a j) = (ix2 ⟨t.val * 512 + a, by omega⟩ j : S8192x1024.Idx) := by blk_ext [idx t]
  have e5 : ((cfg0.win 5).blk t).view.emb (ix2 a j) = (ix2 ⟨t.val * 512 + a, by omega⟩ j : S8192x1024.Idx) := by blk_ext [idx t]
  rw [e6, REF_at]
  refine (pay_at _ _ _ _ _ _ a j (h3 _) (h4 _) (h5 _)).trans ?_
  refine congrArg₂ mean (funext fun k => ?_) (funext fun k => ?_)
  · fin_cases k
    · exact congrArg (m ((c : Thread nD τ).loc main_arg0)) e0
    · exact congrArg (m ((c : Thread nD τ).loc main_arg1)) e1
    · exact congrArg (m ((c : Thread nD τ).loc main_arg2)) e2
  · fin_cases k
    · exact congrArg (m ((c : Thread nD τ).loc main_arg3)) e3
    · exact congrArg (m ((c : Thread nD τ).loc main_arg4)) e4
    · exact congrArg (m ((c : Thread nD τ).loc main_arg5)) e5

/-- The array after the run is the reference's. -/
theorem final : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp; rw [after0_6]; frame_out; exact point m c h3 h4 h5 t y

end Final

/-- The log-sum-exps are real wherever the precondition holds. -/
theorem lse_real [Cert.Pre_finite_lse.Facts] (O0 O1 O2 L0 L1 L2 : FVec Ideal S8192x1024 .f32)
    (h : Cert.Pre_finite_lse.fn (F := Ideal) O0 O1 O2 L0 L1 L2 = fun _ => 1#1) :
    (∀ i, IsReal (L0 i)) ∧ (∀ i, IsReal (L1 i)) ∧ ∀ i, IsReal (L2 i) := by
  have both := (by decide : ∀ a b : BitVec 1, IntOp.andi a b = 1#1 → a = 1#1 ∧ b = 1#1)
  obtain ⟨h01, h2⟩ := both _ _ (congrFun h ix0)
  obtain ⟨h0, h1⟩ := both _ _ h01
  exact ⟨fun i => Cert.BandTab.isReal_of_olt _ (Cert.BandTab.reduce_andi _ _ _ _ _ h0 i),
    fun i => Cert.BandTab.isReal_of_olt _ (Cert.BandTab.reduce_andi _ _ _ _ _ h1 i),
    fun i => Cert.BandTab.isReal_of_olt _ (Cert.BandTab.reduce_andi _ _ _ _ _ h2 i)⟩

end Cert.CombineIdeal.RefValue

namespace Cert.Proof

open Idealize.ShloMosaic Idealize.ShloMosaic.TcCoe Idealize.SL.Sem

/-- The kernel runs as printed and leaves its arguments alone. -/
theorem frame_Combine : quiescent_Combine := fun m ρ _ => Cert.Combine.Gen.frame m ρ

/-- So does its idealization. -/
theorem frame_CombineIdeal : quiescent_CombineIdeal := fun m ρ _ => Cert.CombineIdeal.Gen.frame m ρ

/-- So it does where the log-sum-exps are real. -/
theorem frame_CombineIdeal_real [Cert.Pre_finite_lse.Facts] : quiescent_CombineIdeal_pre_finite_lse := fun m ρ _ => Cert.CombineIdeal.Gen.frame m ρ

/-- The reference runs and leaves its arguments alone. -/
theorem frame_CombineRefIdeal : quiescent_CombineRefIdeal := by
  intro m ρ _
  refine θ_run_mono (Cert.CombineRefIdeal.Value.run m ρ) fun r h => ?_
  exact ⟨fun c => (h c).2, sem_eq_zero_of_no_sems (by decide) r.2⟩

theorem frame_CombineRefIdeal_real [Cert.Pre_finite_lse.Facts] : quiescent_CombineRefIdeal_pre_finite_lse := by
  intro m ρ _
  refine θ_run_mono (Cert.CombineRefIdeal.Value.run m ρ) fun r h => ?_
  exact ⟨fun c => (h c).2, sem_eq_zero_of_no_sems (by decide) r.2⟩

/-- The reference's printed result is the staged one. -/
theorem res_Combine (m : (ℓ : Loc Cert.CombineRefIdeal.nD Cert.CombineRefIdeal.τ Cert.CombineRefIdeal.sig) → Buf (Elt Ideal) ℓ)
    (c : Dev Cert.CombineRefIdeal.nD) : Cert.CombineRefIdeal.Value.res_main_v21 m c
      = Cert.CombineIdeal.RefValue.REF (m ((c.tc : Thread _ _).loc Cert.CombineRefIdeal.main_arg0)) (m ((c.tc : Thread _ _).loc Cert.CombineRefIdeal.main_arg1)) (m ((c.tc : Thread _ _).loc Cert.CombineRefIdeal.main_arg2))
        (m ((c.tc : Thread _ _).loc Cert.CombineRefIdeal.main_arg3)) (m ((c.tc : Thread _ _).loc Cert.CombineRefIdeal.main_arg4)) (m ((c.tc : Thread _ _).loc Cert.CombineRefIdeal.main_arg5)) := rfl

/-- Where the log-sum-exps are real, kernel and reference end with equal results. -/
theorem equal_Combine [Cert.Pre_finite_lse.Facts] : algebraic_CombineIdeal_CombineRefIdeal_pre_finite_lse := by
  intro m g m' g' hpre hag
  have hr := fun c => Cert.CombineIdeal.RefValue.lse_real _ _ _ _ _ _ (hpre c)
  refine ⟨fun c => (Cert.CombineIdeal.Gen.dats m 0 c).arrAt 6 Cert.CombineIdeal.cfg0.N, ?_, ?_⟩
  · run_from Cert.CombineIdeal.Value.run_blocks m g
  · refine (θ_run _ _ _).mono (fun r h c => ?_) (Cert.CombineRefIdeal.Value.run m' g')
    obtain ⟨h0, h1⟩ := h c
    obtain ⟨a0, a1, a2, a3, a4, a5⟩ := hag c
    refine ⟨h0.trans ((res_Combine m' c).trans ?_), h1⟩
    rw [a0, a1, a2, a3, a4, a5]
    exact (Cert.CombineIdeal.RefValue.final m c (hr c).1 (hr c).2.1 (hr c).2.2).symm

end Cert.Proof

end
-- ==== Proof.Norm.lean ====
/-
  The pre-norm (`rmsnorm`): x · rsqrt(mean x² + ε) · g along each of the 8192 rows, 256 rows to a block; every point
  writes its rows of the reference's array.
-/
module

public import proofs.«01_k».proof.Defs
public import proofs.«01_k».proof.Proof.Gen.Norm.Frame
public import proofs.«01_k».proof.Proof.Gen.NormIdeal.Value
public import proofs.«01_k».proof.Proof.Gen.NormRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.NormIdeal.RefValue

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- What the reference computes of its arguments. -/
def REF (X : FVec Ideal S8192x4096 .f32) (G : FVec Ideal S4x4096 .f32) : FVec Ideal S8192x4096 .bf16 :=
  truncf .bf16 (mulf (mulf X (broadcastInDim Cert.NormRefIdeal.S8192x4096 ![0, 1] Cert.NormRefIdeal.Gen.bcast_S8192x1_S8192x4096_0_1 (Host.rsqrt (addf (Host.divf (broadcastInDim Cert.NormRefIdeal.S8192x1 ![0] Cert.NormRefIdeal.Gen.bcast_S8192_S8192x1_0 (Host.reduceAdd (mulf X X) (constant Cert.NormRefIdeal.S_ .f32 0x00000000#32) Cert.NormRefIdeal.Gen.reducesTo_S8192x4096_S8192_d1 Cert.NormRefIdeal.Gen.h_S_)) (broadcastInDim Cert.NormRefIdeal.S8192x1 ![] Cert.NormRefIdeal.Gen.bcast_S_S8192x1 (constant Cert.NormRefIdeal.S_ .f32 0x45800000#32))) (broadcastInDim Cert.NormRefIdeal.S8192x1 ![] Cert.NormRefIdeal.Gen.bcast_S_S8192x1 (constant Cert.NormRefIdeal.S_ .f32 0x358637BD#32)))))) (broadcastInDim Cert.NormRefIdeal.S8192x4096 ![0, 1] Cert.NormRefIdeal.Gen.bcast_S1x4096_S8192x4096_0_1 (broadcastInDim Cert.NormRefIdeal.S1x4096 ![1] Cert.NormRefIdeal.Gen.bcast_S4096_S1x4096_1 (shapeCast _ (extractStridedSlice Cert.NormRefIdeal.S1x4096 ![0, 0] G Cert.NormRefIdeal.Gen.slices_S4x4096_S1x4096_0_0) Cert.NormRefIdeal.Gen.shapeCasts_S1x4096_S4096)))) Cert.NormRefIdeal.Gen.bitsLt_bf16_f32

/-- Which block each window holds at a point of the grid. -/
theorem idx : ∀ t : Fin cfg0.N, win0_0.index t = ![t.val, 0] ∧ win0_1.index t = ![0, 0, 0] ∧ win0_2.index t = ![t.val, 0] :=
  (by decide +kernel : ∀ t : Fin grid0.N, _)

/-- At every point the body's result is the reference's array under that point's block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp; rw [after0_2]; frame_out; exact point m c t y

end Cert.NormIdeal.RefValue

namespace Cert.Proof

open Idealize.ShloMosaic Idealize.ShloMosaic.TcCoe Idealize.SL.Sem

/-- The kernel runs as printed and leaves its arguments alone. -/
theorem frame_Norm : quiescent_Norm := fun m ρ _ => Cert.Norm.Gen.frame m ρ

/-- So does its idealization. -/
theorem frame_NormIdeal : quiescent_NormIdeal := fun m ρ _ => Cert.NormIdeal.Gen.frame m ρ

/-- The reference runs and leaves its arguments alone. -/
theorem frame_NormRefIdeal : quiescent_NormRefIdeal := by
  intro m ρ _
  refine θ_run_mono (Cert.NormRefIdeal.Value.run m ρ) fun r h => ?_
  exact ⟨fun c => (h c).2, sem_eq_zero_of_no_sems (by decide) r.2⟩

/-- Kernel and reference end with equal results. -/
theorem equal_Norm : algebraic_NormIdeal_NormRefIdeal := by
  pair_intro
  · run_from Cert.NormIdeal.Value.run_blocks m g
  · run_from Cert.NormRefIdeal.Value.run m' g'
    exact (Cert.NormIdeal.RefValue.final m c).symm

end Cert.Proof

end
-- ==== Proof.InProj.lean ====
/-
  The layer's input product (`in_proj`): the normalized rows times the first layer's weight, whose columns the host
  puts in the order recurrence, zeros, attention, gates; 1024 × 1024 blocks, all 4096 columns contracted at once.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384

noncomputable section

namespace Cert.InProjIdeal.RefValue

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The reference's product: the rows times the weight of layer 0. -/
def dotRef (X : FVec Ideal S8192x4096 .bf16) (W : FVec Ideal S4x4096x24288 .f32) : FVec Ideal Cert.InProjRefIdeal.S8192x24288 .f32 :=
  Host.dotGeneral Cert.InProjRefIdeal.dot_S8192x4096_S4096x24288_S8192x24288_1_0_0_1_n_n none (extf .f32 X Cert.InProjRefIdeal.Gen.bitsLt_bf16_f32) (shapeCast _ (extractStridedSlice Cert.InProjRefIdeal.S1x4096x24288 ![0, 0, 0] W Cert.InProjRefIdeal.Gen.slices_S4x4096x24288_S1x4096x24288_0_0_0) Cert.InProjRefIdeal.Gen.shapeCasts_S1x4096x24288_S4096x24288)

/-- The product read at an index. -/
theorem dotRef_at (X : FVec Ideal S8192x4096 .bf16) (W : FVec Ideal S4x4096x24288 .f32) (i : (Cert.InProjRefIdeal.S8192x24288).Idx) :
    dotRef X W i = ∑ k : Fin 4096, X (ix2 (i 0) k) * W (ix3 0 k (i 1)) := by
  pointwise [dotRef]

/-- What the reference computes of its arguments: the product's columns in the order recurrence, zeros, attention, gates. -/
def REF (X : FVec Ideal S8192x4096 .bf16) (W : FVec Ideal S4x4096x24288 .f32) : FVec Ideal S8192x24576 .f32 :=
  concatenate Cert.InProjRefIdeal.S8192x24576 1 [⟨Cert.InProjRefIdeal.S8192x6880, (extractStridedSlice Cert.InProjRefIdeal.S8192x6880 ![0, 9216] (dotRef X W) Cert.InProjRefIdeal.Gen.slices_S8192x24288_S8192x6880_0_9216 : FVec Ideal Cert.InProjRefIdeal.S8192x6880 .f32)⟩,
    ⟨Cert.InProjRefIdeal.S8192x288, (broadcastInDim Cert.InProjRefIdeal.S8192x288 ![] Cert.InProjRefIdeal.Gen.bcast_S_S8192x288 (constant Cert.InProjRefIdeal.S_ .f32 0x00000000#32 : FVec Ideal Cert.InProjRefIdeal.S_ .f32) : FVec Ideal Cert.InProjRefIdeal.S8192x288 .f32)⟩,
    ⟨Cert.InProjRefIdeal.S8192x9216, (extractStridedSlice Cert.InProjRefIdeal.S8192x9216 ![0, 0] (dotRef X W) Cert.InProjRefIdeal.Gen.slices_S8192x24288_S8192x9216_0_0 : FVec Ideal Cert.InProjRefIdeal.S8192x9216 .f32)⟩,
    ⟨Cert.InProjRefIdeal.S8192x8192, (extractStridedSlice Cert.InProjRefIdeal.S8192x8192 ![0, 16096] (dotRef X W) Cert.InProjRefIdeal.Gen.slices_S8192x24288_S8192x8192_0_16096 : FVec Ideal Cert.InProjRefIdeal.S8192x8192 .f32)⟩]
    Cert.InProjRefIdeal.Gen.concatenates_S8192x6880_S8192x288_S8192x9216_S8192x8192_S8192x24576_d1

/-- The weight the host puts together for the kernel: the columns recurrence, zeros, attention, gates of layer 0. -/
def WCAT (W : FVec Ideal S4x4096x24288 .f32) : FVec Ideal S4096x24576 .bf16 :=
  concatenate S4096x24576 1 [⟨S4096x6880, (truncf .bf16 (extractStridedSlice S4096x6880 ![0, 9216] (shapeCast S4096x24288 (extractStridedSlice S1x4096x24288 ![0, 0, 0] W slices_S4x4096x24288_S1x4096x24288_0_0_0) shapeCasts_S1x4096x24288_S4096x24288) slices_S4096x24288_S4096x6880_0_9216) bitsLt_bf16_f32 : FVec Ideal S4096x6880 .bf16)⟩,
    ⟨S4096x288, (broadcastInDim S4096x288 ![] bcast_S_S4096x288 (constant S_ .bf16 0x0000#16 : FVec Ideal S_ .bf16) : FVec Ideal S4096x288 .bf16)⟩,
    ⟨S4096x9216, (truncf .bf16 (extractStridedSlice S4096x9216 ![0, 0] (shapeCast S4096x24288 (extractStridedSlice S1x4096x24288 ![0, 0, 0] W slices_S4x4096x24288_S1x4096x24288_0_0_0) shapeCasts_S1x4096x24288_S4096x24288) slices_S4096x24288_S4096x9216_0_0) bitsLt_bf16_f32 : FVec Ideal S4096x9216 .bf16)⟩,
    ⟨S4096x8192, (truncf .bf16 (extractStridedSlice S4096x8192 ![0, 16096] (shapeCast S4096x24288 (extractStridedSlice S1x4096x24288 ![0, 0, 0] W slices_S4x4096x24288_S1x4096x24288_0_0_0) shapeCasts_S1x4096x24288_S4096x24288) slices_S4096x24288_S4096x8192_0_16096) bitsLt_bf16_f32 : FVec Ideal S4096x8192 .bf16)⟩]
    concatenates_S4096x6880_S4096x288_S4096x9216_S4096x8192_S4096x24576_d1

/-- The kernel finds that weight in its second operand. -/
theorem V_weight (c : Dev nD) : V m c main_v9 = WCAT (m ((c : Thread nD τ).loc main_arg1)) := by
  unfold V V0; simp only [List.flatten_cons, List.flatten_nil, List.append_nil]; after_results; try rfl

/-- The reference's array at an index, as one product with the rearranged weight (the zero columns give zero). -/
theorem ref_at (X : FVec Ideal S8192x4096 .bf16) (W : FVec Ideal S4x4096x24288 .f32) (i : S8192x24576.Idx) :
    REF X W i = ∑ k : Fin 4096, X (ix2 (i 0) k) * WCAT W (ix2 k (i 1)) := by
  pointwise [REF, dotRef_at, WCAT]
  split_ifs <;> simp

/-- Which block each window holds at a point of the grid. -/
theorem idx : ∀ t : Fin cfg0.N, win0_0.index t = ![t.val / 24, 0] ∧ win0_1.index t = ![0, t.val % 24] ∧ win0_2.index t = ![t.val / 24, t.val % 24] :=
  (by decide +kernel : ∀ t : Fin grid0.N, _)

/-- A weight block is read off the rearranged weight. -/
theorem wblk (c : Dev nD) (t : Fin cfg0.N) (x : S4096x1024.Idx) :
    iblk m c 1 t x = WCAT (m ((c : Thread nD τ).loc main_arg1)) (((cfg0.win 1).blk t).view.emb x) := by
  rw [← V_weight]; rfl

/-- At every point the body's result is the reference's array under that point's block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  refine Eq.trans ?_ (ref_at _ _ _).symm
  pointwise [k0_pay1]
  refine Fin.sum_fin_congr fun k => ?_
  rw [wblk]
  congr 1
  · blk_ext [iblk, V, idx t]
  · congr 1; blk_ext [idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp; rw [after0_2]; frame_out; exact point m c t y

/-- The last row of every sequence of the projection, its first columns: what the host makes of the kernel's array. -/
def SHIFT (P : FVec Ideal S8192x24576 .f32) : FVec Ideal S4x6880 .f32 :=
  shapeCast S4x6880 (extractStridedSlice S4x1x6880 ![0, 2047, 0] (shapeCast S4x2048x24576 P shapeCasts_S8192x24576_S4x2048x24576)
    slices_S4x2048x24576_S4x1x6880_0_2047_0) shapeCasts_S4x1x6880_S4x6880

/-- The reference's: the last row of the recurrence's columns. -/
def REFSHIFT (X : FVec Ideal S8192x4096 .bf16) (W : FVec Ideal S4x4096x24288 .f32) : FVec Ideal S4x6880 .f32 :=
  shapeCast Cert.InProjRefIdeal.S4x6880 (extractStridedSlice Cert.InProjRefIdeal.S4x1x6880 ![0, 2047, 0]
    (shapeCast Cert.InProjRefIdeal.S4x2048x6880 (extractStridedSlice Cert.InProjRefIdeal.S8192x6880 ![0, 9216] (dotRef X W) Cert.InProjRefIdeal.Gen.slices_S8192x24288_S8192x6880_0_9216 : FVec Ideal Cert.InProjRefIdeal.S8192x6880 .f32)
      Cert.InProjRefIdeal.Gen.shapeCasts_S8192x6880_S4x2048x6880) Cert.InProjRefIdeal.Gen.slices_S4x2048x6880_S4x1x6880_0_2047_0)
    Cert.InProjRefIdeal.Gen.shapeCasts_S4x1x6880_S4x6880

theorem shift_at (P : FVec Ideal S8192x24576 .f32) (b : Fin 4) (j : Fin 6880) :
    SHIFT P (ix2 b j) = P (ix2 ⟨b * 2048 + 2047, by omega⟩ ⟨j, by omega⟩) := by
  have h : ∀ Q : FVec Ideal S4x2048x24576 .f32, shapeCast S4x6880 (extractStridedSlice S4x1x6880 ![0, 2047, 0] Q
      slices_S4x2048x24576_S4x1x6880_0_2047_0) shapeCasts_S4x1x6880_S4x6880 (ix2 b j) = Q (ix3 b 2047 ⟨j, by omega⟩) := fun Q => by pointwise
  exact (h _).trans (by pointwise)

theorem refshift_at (X : FVec Ideal S8192x4096 .bf16) (W : FVec Ideal S4x4096x24288 .f32) (b : Fin 4) (j : Fin 6880) :
    REFSHIFT X W (ix2 b j) = dotRef X W (ix2 ⟨b * 2048 + 2047, by omega⟩ ⟨9216 + j, by omega⟩) := by
  have h : ∀ Q : FVec Ideal Cert.InProjRefIdeal.S4x2048x6880 .f32, shapeCast Cert.InProjRefIdeal.S4x6880 (extractStridedSlice Cert.InProjRefIdeal.S4x1x6880 ![0, 2047, 0] Q
      Cert.InProjRefIdeal.Gen.slices_S4x2048x6880_S4x1x6880_0_2047_0) Cert.InProjRefIdeal.Gen.shapeCasts_S4x1x6880_S4x6880 (ix2 b j) = Q (ix3 b 2047 j) := fun Q => by pointwise
  have h' : ∀ Q : FVec Ideal Cert.InProjRefIdeal.S8192x6880 .f32, shapeCast Cert.InProjRefIdeal.S4x2048x6880 Q
      Cert.InProjRefIdeal.Gen.shapeCasts_S8192x6880_S4x2048x6880 (ix3 b 2047 j) = Q (ix2 ⟨b * 2048 + 2047, by omega⟩ j) := fun Q => by pointwise
  exact (h _).trans ((h' _).trans (by pointwise))

/-- The recurrence's columns come first in the reference's array. -/
theorem ref_first (X : FVec Ideal S8192x4096 .bf16) (W : FVec Ideal S4x4096x24288 .f32) (a : Fin 8192) (j : Fin 6880) :
    REF X W (ix2 a ⟨j, by omega⟩) = dotRef X W (ix2 a ⟨9216 + j, by omega⟩) := by
  pointwise [REF]

/-- The two are one array. -/
theorem shift_eq (X : FVec Ideal S8192x4096 .bf16) (W : FVec Ideal S4x4096x24288 .f32) : SHIFT (REF X W) = REFSHIFT X W := by
  funext i
  obtain ⟨b, j, rfl⟩ : ∃ (b : Fin 4) (j : Fin 6880), i = ix2 b j := ⟨i 0, i 1, by funext k; fin_cases k <;> rfl⟩
  rw [shift_at, refshift_at]
  exact ref_first X W _ _

/-- What the host's lines after the call make of any array of the kernel's. -/
theorem after_tail (U : Valuation τ sig (Elt Ideal)) :
    StableHlo.after (List.flatten [hostOps1]) U (Proc.devRef .tc main_v13) = SHIFT (U (Proc.devRef .tc main_v10)) := by
  simp only [List.flatten_cons, List.flatten_nil, List.append_nil]; after_results; try rfl

/-- They leave it in the second result. -/
theorem tail (c : Dev nD) : Pipeline.afterTail₀ cfgs (dats m) 0 (V0 m) [hostOps1] c main_v13 = SHIFT ((dats m 0 c).arrAt 2 (cfgs 0).N) :=
  (after_tail _).trans (congrArg SHIFT (Pipeline.withArrays_arr (cfgs 0).spec (by decide) c (V0 m c) _ 2))

/-- The run with both results and the arguments named. -/
theorem run_both (ρ : Dev nD → PrngReg) : θ_run defs (onTc (τ := τ) (main (F := Ideal))) ⟨m, fun _ => 0, ρ⟩ fun r => ∀ c : Dev nD,
      r.2.mem ((c : Thread nD τ).loc main_v10) = (dats m 0 c).arrAt 2 (cfgs 0).N
      ∧ r.2.mem ((c : Thread nD τ).loc main_v13) = SHIFT ((dats m 0 c).arrAt 2 (cfgs 0).N)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2,
    ((h.1 c).2 main_v13 (Pipeline.mem_restRefs_of main_v13 (by decide) (by decide))).trans (tail m c), h.2 c⟩)
    (θ_run_and (run_main m ρ) (unchanged m ρ))

end Cert.InProjIdeal.RefValue

namespace Cert.Proof

open Idealize.ShloMosaic Idealize.ShloMosaic.TcCoe Idealize.SL.Sem

/-- The kernel runs as printed and leaves its arguments alone. -/
theorem frame_InProj : quiescent_InProj := fun m ρ _ => Cert.InProj.Gen.frame m ρ

/-- So does its idealization. -/
theorem frame_InProjIdeal : quiescent_InProjIdeal := fun m ρ _ => Cert.InProjIdeal.Gen.frame m ρ

/-- The reference runs and leaves its arguments alone. -/
theorem frame_InProjRefIdeal : quiescent_InProjRefIdeal := by
  intro m ρ _
  refine θ_run_mono (Cert.InProjRefIdeal.Value.run m ρ) fun r h => ?_
  exact ⟨fun c => (h c).2.2, sem_eq_zero_of_no_sems (by decide) r.2⟩

/-- Kernel and reference end with equal results. -/
theorem equal_InProj : algebraic_InProjIdeal_InProjRefIdeal := by
  pair_intro
  · run_from Cert.InProjIdeal.RefValue.run_both m g
  · run_from Cert.InProjRefIdeal.Value.run m' g'
    · exact (Cert.InProjIdeal.RefValue.final m c).symm
    · rw [Cert.InProjIdeal.RefValue.final]
      exact (Cert.InProjIdeal.RefValue.shift_eq _ _).symm

end Cert.Proof

end
-- ==== Proof.AttOut.lean ====
/-
  The attention's gated output product (`att_out`): σ(gate) · (att · W) with the gate read from its columns of the
  projection; 1024 × 1024 blocks, all 1024 columns contracted at once.
-/
module

public import proofs.«01_k».proof.Defs
public import proofs.«01_k».proof.Proof.Gen.AttOut.Frame
public import proofs.«01_k».proof.Proof.Gen.AttOutIdeal.Value
public import proofs.«01_k».proof.Proof.Gen.AttOutRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.AttOutIdeal.RefValue

open Cert.AttOutIdeal Cert.AttOutIdeal.Gen Idealize.ShloMosaic Idealize.ShloMosaic.TcCoe Idealize.SL.Sem
open Idealize.ShloMosaic.Pipeline (Dat)

variable (m : (ℓ : Loc nD τ sig) → Buf (Elt Ideal) ℓ)

/-- What the reference computes of its arguments. -/
def REF (A : FVec Ideal S8192x1024 .bf16) (W : FVec Ideal S4x1024x4096 .f32) (P : FVec Ideal S8192x24576 .f32) : FVec Ideal S8192x4096 .f32 :=
  mulf (Host.divf (broadcastInDim Cert.AttOutRefIdeal.S8192x4096 ![] Cert.AttOutRefIdeal.Gen.bcast_S_S8192x4096 (constant Cert.AttOutRefIdeal.S_ .f32 0x3F800000#32)) (addf (broadcastInDim Cert.AttOutRefIdeal.S8192x4096 ![] Cert.AttOutRefIdeal.Gen.bcast_S_S8192x4096 (constant Cert.AttOutRefIdeal.S_ .f32 0x3F800000#32)) (Host.exp (Host.negf (extractStridedSlice Cert.AttOutRefIdeal.S8192x4096 ![0, 16384] P Cert.AttOutRefIdeal.Gen.slices_S8192x24576_S8192x4096_0_16384))))) (Host.dotGeneral Cert.AttOutRefIdeal.dot_S8192x1024_S1024x4096_S8192x4096_1_0_0_1_n_n none (extf .f32 A Cert.AttOutRefIdeal.Gen.bitsLt_bf16_f32) (shapeCast _ (extractStridedSlice Cert.AttOutRefIdeal.S1x1024x4096 ![0, 0, 0] W Cert.AttOutRefIdeal.Gen.slices_S4x1024x4096_S1x1024x4096_0_0_0) Cert.AttOutRefIdeal.Gen.shapeCasts_S1x1024x4096_S1024x4096))

/-- Which block each window holds at a point of the grid. -/
theorem idx : ∀ t : Fin cfg0.N, win0_0.index t = ![t.val / 4, 0] ∧ win0_1.index t = ![0, t.val % 4] ∧ win0_2.index t = ![t.val / 4, t.val % 4 + 16] ∧ win0_3.index t = ![t.val / 4, t.val % 4] :=
  (by decide +kernel : ∀ t : Fin grid0.N, _)

/-- At every point the body's result is the reference's array under that point's block. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  simp only [Ideal.logistic]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp; rw [after0_3]; frame_out; exact point m c t y

end Cert.AttOutIdeal.RefValue

namespace Cert.Proof

open Idealize.ShloMosaic Idealize.ShloMosaic.TcCoe Idealize.SL.Sem

/-- The kernel runs as printed and leaves its arguments alone. -/
theorem frame_AttOut : quiescent_AttOut := fun m ρ _ => Cert.AttOut.Gen.frame m ρ

/-- So does its idealization. -/
theorem frame_AttOutIdeal : quiescent_AttOutIdeal := fun m ρ _ => Cert.AttOutIdeal.Gen.frame m ρ

/-- The reference runs and leaves its arguments alone. -/
theorem frame_AttOutRefIdeal : quiescent_AttOutRefIdeal := by
  intro m ρ _
  refine θ_run_mono (Cert.AttOutRefIdeal.Value.run m ρ) fun r h => ?_
  exact ⟨fun c => (h c).2, sem_eq_zero_of_no_sems (by decide) r.2⟩

/-- Kernel and reference end with equal results. -/
theorem equal_AttOut : algebraic_AttOutIdeal_AttOutRefIdeal := by
  pair_intro
  · run_from Cert.AttOutIdeal.Value.run_blocks m g
  · run_from Cert.AttOutRefIdeal.Value.run m' g'
    exact (Cert.AttOutIdeal.RefValue.final m c).symm

end Cert.Proof

end
-- ==== Proof.Merge.lean ====
/-
  The recurrence's gated output product merged with the attention's (`rwkv_out_merge`): t1 + σ(gate) · (y · W);
  1024 × 1024 blocks, all 2048 columns contracted at once.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.MergeIdeal.RefValue

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- What the reference computes of its arguments. -/
def REF (Y : FVec Ideal S8192x2048 .bf16) (W : FVec Ideal S4x2048x4096 .f32) (P : FVec Ideal S8192x24576 .f32) (T : FVec Ideal S8192x4096 .f32) : FVec Ideal S8192x4096 .bf16 :=
  truncf .bf16 (addf T (mulf (Host.divf (broadcastInDim Cert.MergeRefIdeal.S8192x4096 ![] Cert.MergeRefIdeal.Gen.bcast_S_S8192x4096 (constant Cert.MergeRefIdeal.S_ .f32 0x3F800000#32)) (addf (broadcastInDim Cert.MergeRefIdeal.S8192x4096 ![] Cert.MergeRefIdeal.Gen.bcast_S_S8192x4096 (constant Cert.MergeRefIdeal.S_ .f32 0x3F800000#32)) (Host.exp (Host.negf (extractStridedSlice Cert.MergeRefIdeal.S8192x4096 ![0, 20480] P Cert.MergeRefIdeal.Gen.slices_S8192x24576_S8192x4096_0_20480))))) (Host.dotGeneral Cert.MergeRefIdeal.dot_S8192x2048_S2048x4096_S8192x4096_1_0_0_1_n_n none (extf .f32 Y Cert.MergeRefIdeal.Gen.bitsLt_bf16_f32) (shapeCast _ (extractStridedSlice Cert.MergeRefIdeal.S1x2048x4096 ![0, 0, 0] W Cert.MergeRefIdeal.Gen.slices_S4x2048x4096_S1x2048x4096_0_0_0) Cert.MergeRefIdeal.Gen.shapeCasts_S1x2048x4096_S2048x4096)))) Cert.MergeRefIdeal.Gen.bitsLt_bf16_f32

/-- Which block each window holds at a point of the grid. -/
theorem idx : ∀ t : Fin cfg0.N, win0_0.index t = ![t.val / 4, 0] ∧ win0_1.index t = ![0, t.val % 4] ∧ win0_2.index t = ![t.val / 4, t.val % 4 + 20] ∧ win0_3.index t = ![t.val / 4, t.val % 4] ∧ win0_4.index t = ![t.val / 4, t.val % 4] :=
  (by decide +kernel : ∀ t : Fin grid0.N, _)

/-- At every point the body's result is the reference's array under that point's block. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  simp only [Ideal.logistic]
  blk_point [iblk, V, idx t]

/-- The array after the run is the reference's. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]; frame_out; exact point m c t y

end Cert.MergeIdeal.RefValue

namespace Cert.Proof

open Idealize.ShloMosaic Idealize.ShloMosaic.TcCoe Idealize.SL.Sem

/-- The kernel runs as printed and leaves its arguments alone. -/
theorem frame_Merge : quiescent_Merge := fun m ρ _ => Cert.Merge.Gen.frame m ρ

/-- So does its idealization. -/
theorem frame_MergeIdeal : quiescent_MergeIdeal := fun m ρ _ => Cert.MergeIdeal.Gen.frame m ρ

/-- The reference runs and leaves its arguments alone. -/
theorem frame_MergeRefIdeal : quiescent_MergeRefIdeal := by
  intro m ρ _
  refine θ_run_mono (Cert.MergeRefIdeal.Value.run m ρ) fun r h => ?_
  exact ⟨fun c => (h c).2, sem_eq_zero_of_no_sems (by decide) r.2⟩

/-- Kernel and reference end with equal results. -/
theorem equal_Merge : algebraic_MergeIdeal_MergeRefIdeal := by
  pair_intro
  · run_from Cert.MergeIdeal.Value.run_blocks m g
  · run_from Cert.MergeRefIdeal.Value.run m' g'
    exact (Cert.MergeIdeal.RefValue.final m c).symm

end Cert.Proof

end
-- ==== Proof.Out.lean ====
/-
  The layer's output product (`w_out`): the merged rows times the first layer's output weight, plus the residual; the
  result is tiled in 1024 × 512 blocks and all 4096 columns are contracted at once.
-/
module

public import proofs.«01_k».proof.Defs
public import proofs.«01_k».proof.Proof.Gen.Out.Frame
public import proofs.«01_k».proof.Proof.Gen.OutIdeal.Value
public import proofs.«01_k».proof.Proof.Gen.OutRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.OutIdeal.RefValue

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- What the reference computes of its arguments. -/
def REF (M : FVec Ideal S8192x4096 .bf16) (W : FVec Ideal S4x4096x4096 .f32) (X : FVec Ideal S8192x4096 .f32) : FVec Ideal S8192x4096 .f32 :=
  addf X (Host.dotGeneral Cert.OutRefIdeal.dot_S8192x4096_S4096x4096_S8192x4096_1_0_0_1_n_n none (extf .f32 M Cert.OutRefIdeal.Gen.bitsLt_bf16_f32) (shapeCast _ (extractStridedSlice Cert.OutRefIdeal.S1x4096x4096 ![0, 0, 0] W Cert.OutRefIdeal.Gen.slices_S4x4096x4096_S1x4096x4096_0_0_0) Cert.OutRefIdeal.Gen.shapeCasts_S1x4096x4096_S4096x4096))

/-- Which block each window holds at a point of the grid. -/
theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

/-- At every point the body's result is the reference's array under that point's block. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp; rw [after0_3]; frame_out; exact point m c t y

end Cert.OutIdeal.RefValue

namespace Cert.Proof

open Idealize.ShloMosaic Idealize.ShloMosaic.TcCoe Idealize.SL.Sem

/-- The kernel runs as printed and leaves its arguments alone. -/
theorem frame_Out : quiescent_Out := fun m ρ _ => Cert.Out.Gen.frame m ρ

/-- So does its idealization. -/
theorem frame_OutIdeal : quiescent_OutIdeal := fun m ρ _ => Cert.OutIdeal.Gen.frame m ρ

/-- The reference runs and leaves its arguments alone. -/
theorem frame_OutRefIdeal : quiescent_OutRefIdeal := by
  intro m ρ _
  refine θ_run_mono (Cert.OutRefIdeal.Value.run m ρ) fun r h => ?_
  exact ⟨fun c => (h c).2, sem_eq_zero_of_no_sems (by decide) r.2⟩

/-- Kernel and reference end with equal results. -/
theorem equal_Out : algebraic_OutIdeal_OutRefIdeal := by
  pair_intro
  · run_from Cert.OutIdeal.Value.run_blocks m g
  · run_from Cert.OutRefIdeal.Value.run m' g'
    exact (Cert.OutIdeal.RefValue.final m c).symm

end Cert.Proof

end
-- ==== Proof.FfnUp.lean ====
/-
  The first feed-forward product (`ffn_up`): relu² of the normalized rows times the first layer's weight.
  The kernel tiles the [8192, 16384] result in 1024 × 1024 blocks and contracts all 4096 columns at once, so every
  point writes its block of the reference's array.
-/
module

public import proofs.«01_k».proof.Defs
public import proofs.«01_k».proof.Proof.Gen.FfnUp.Frame
public import proofs.«01_k».proof.Proof.Gen.FfnUpIdeal.Value
public import proofs.«01_k».proof.Proof.Gen.FfnUpRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.FfnUpIdeal.RefValue

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

/-- The product the reference squares: rows times the weight of layer 0. -/
def dotRef (X : FVec Ideal S8192x4096 .bf16) (W : FVec Ideal S4x4096x16384 .f32) : FVec Ideal S8192x16384 .f32 :=
  Host.dotGeneral Cert.FfnUpRefIdeal.dot_S8192x4096_S4096x16384_S8192x16384_1_0_0_1_n_n none (extf .f32 X Cert.FfnUpRefIdeal.Gen.bitsLt_bf16_f32) (shapeCast _ (extractStridedSlice Cert.FfnUpRefIdeal.S1x4096x16384 ![0, 0, 0] W Cert.FfnUpRefIdeal.Gen.slices_S4x4096x16384_S1x4096x16384_0_0_0) Cert.FfnUpRefIdeal.Gen.shapeCasts_S1x4096x16384_S4096x16384)

/-- What the reference computes of its two arguments. -/
def REF (X : FVec Ideal S8192x4096 .bf16) (W : FVec Ideal S4x4096x16384 .f32) : FVec Ideal S8192x16384 .bf16 :=
  truncf .bf16 (mulf (maximumf (dotRef X W) (broadcastInDim Cert.FfnUpRefIdeal.S8192x16384 ![] Cert.FfnUpRefIdeal.Gen.bcast_S_S8192x16384 (constant Cert.FfnUpRefIdeal.S_ .f32 0x00000000#32))) (maximumf (dotRef X W) (broadcastInDim Cert.FfnUpRefIdeal.S8192x16384 ![] Cert.FfnUpRefIdeal.Gen.bcast_S_S8192x16384 (constant Cert.FfnUpRefIdeal.S_ .f32 0x00000000#32)))) Cert.FfnUpRefIdeal.Gen.bitsLt_bf16_f32

/-- Which block each window holds at a point of the grid. -/
theorem idx : ∀ t : Fin cfg0.N, win0_0.index t = ![t.val / 16, 0] ∧ win0_1.index t = ![0, t.val % 16] ∧ win0_2.index t = ![t.val / 16, t.val % 16] :=
  (by decide +kernel : ∀ t : Fin grid0.N, _)

/-- At every point the body's result is the reference's array under that point's block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, dotRef]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp; rw [after0_2]; frame_out; exact point m c t y

end Cert.FfnUpIdeal.RefValue

namespace Cert.Proof

open Idealize.ShloMosaic Idealize.ShloMosaic.TcCoe Idealize.SL.Sem

/-- The kernel runs as printed and leaves its arguments alone. -/
theorem frame_FfnUp : quiescent_FfnUp := fun m ρ _ => Cert.FfnUp.Gen.frame m ρ

/-- So does its idealization. -/
theorem frame_FfnUpIdeal : quiescent_FfnUpIdeal := fun m ρ _ => Cert.FfnUpIdeal.Gen.frame m ρ

/-- The reference runs and leaves its arguments alone. -/
theorem frame_FfnUpRefIdeal : quiescent_FfnUpRefIdeal := by
  intro m ρ _
  refine θ_run_mono (Cert.FfnUpRefIdeal.Value.run m ρ) fun r h => ?_
  exact ⟨fun c => (h c).2, sem_eq_zero_of_no_sems (by decide) r.2⟩

/-- Kernel and reference end with equal results. -/
theorem equal_FfnUp : algebraic_FfnUpIdeal_FfnUpRefIdeal := by
  pair_intro
  · run_from Cert.FfnUpIdeal.Value.run_blocks m g
  · run_from Cert.FfnUpRefIdeal.Value.run m' g'
    exact (Cert.FfnUpIdeal.RefValue.final m c).symm

end Cert.Proof

end
-- ==== Proof.FfnDown.lean ====
/-
  The second feed-forward product (`ffn_down`): the squared activations times the first layer's weight, plus the
  residual. The kernel contracts the 16384 columns in eight runs of 2048, summed in a scratch block that is cleared at
  the first run and written out, the residual added, at the last.
-/
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.FfnDownIdeal.RefValue

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

/-- What the reference computes of its arguments. -/
def REF (H : FVec Ideal S8192x16384 .bf16) (W : FVec Ideal S4x16384x4096 .f32) (X : FVec Ideal S8192x4096 .f32) : FVec Ideal S8192x4096 .f32 :=
  addf X (Host.dotGeneral Cert.FfnDownRefIdeal.dot_S8192x16384_S16384x4096_S8192x4096_1_0_0_1_n_n none (extf .f32 H Cert.FfnDownRefIdeal.Gen.bitsLt_bf16_f32) (shapeCast _ (extractStridedSlice Cert.FfnDownRefIdeal.S1x16384x4096 ![0, 0, 0] W Cert.FfnDownRefIdeal.Gen.slices_S4x16384x4096_S1x16384x4096_0_0_0) Cert.FfnDownRefIdeal.Gen.shapeCasts_S1x16384x4096_S16384x4096))

/-- Which block each window holds at a point of the grid. -/
theorem idx : ∀ t : Fin cfg0.N, win0_0.index t = ![t.val / 32, t.val % 8] ∧ win0_1.index t = ![t.val % 8, t.val / 8 % 4] ∧ win0_2.index t = ![t.val / 32, t.val / 8 % 4] ∧ win0_3.index t = ![t.val / 32, t.val / 8 % 4] :=
  (by decide +kernel : ∀ t : Fin grid0.N, _)

/-- The clearing store writes zeros. -/
theorem hzero (j) : k0_pay1 (F := Ideal) j = 0 := by pointwise [k0_pay1]

/-- One run's products at an index of the block. -/
def part (x0 : FVec Ideal S1024x2048 .bf16) (x1 : FVec Ideal S2048x1024 .bf16) (j : S1024x1024.Idx) : EReal :=
  ∑ k : Fin 2048, x0 (ix2 (j 0) k) * x1 (ix2 k (j 1))

/-- The accumulating store adds one run's products. -/
theorem hpay (acc : FVec Ideal S1024x1024 .f32) (x0 : FVec Ideal S1024x2048 .bf16) (x1 : FVec Ideal S2048x1024 .bf16) (j) :
    k0_pay2 acc x0 x1 j = acc j + part x0 x1 j := by
  pointwise [k0_pay2, part]

/-- The last store adds the residual. -/
theorem hres (acc x2 : FVec Ideal S1024x1024 .f32) (j) : k0_pay3 acc x2 j = x2 j + acc j := by
  pointwise [k0_pay3]

/-- The reference at an index. -/
theorem href (H : FVec Ideal S8192x16384 .bf16) (W : FVec Ideal S4x16384x4096 .f32) (X : FVec Ideal S8192x4096 .f32) (i : S8192x4096.Idx) :
    REF H W X i = X i + ∑ k : Fin 16384, H (ix2 (i 0) k) * W (ix3 0 k (i 1)) := by
  pointwise [REF]

/-- The scratch block at a run's first point. -/
theorem acc_first (c : Dev nD) (t : Fin cfg0.N) (h : t.val % 8 = 0) (j) :
    (outsAt0 m c t.val t.isLt).2 j = 0 + part (iblk m c 0 t) (iblk m c 1 t) j := by
  rw [outsAt0_A m c t h (by omega)]; frame_out; rw [hpay, hzero]

/-- The scratch block at the other points of a run. -/
theorem acc_next (c : Dev nD) (t : Fin cfg0.N) (h : ¬ t.val % 8 = 0) (j) :
    (outsAt0 m c t.val t.isLt).2 j = (outsAt0 m c (t.val - 1) (Nat.lt_of_le_of_lt (Nat.sub_le _ _) t.isLt)).2 j
      + part (iblk m c 0 t) (iblk m c 1 t) j := by
  by_cases h7 : t.val % 8 = 7
  · rw [outsAt0_C m c t h h7]; frame_out; rw [hpay, (Memref.isWhole_whole cc0_scratch0).read_unread]
  · rw [outsAt0_B m c t h h7]; frame_out; rw [hpay, (Memref.isWhole_whole cc0_scratch0).read_unread]

/-- What a run's last point writes out: the scratch block plus the residual's block. -/
theorem out_last (c : Dev nD) (t : Fin cfg0.N) (h : t.val % 8 = 7) (j) :
    (outsAt0 m c t.val t.isLt).1 j = (show EReal from iblk m c 2 t j) + (show EReal from (outsAt0 m c t.val t.isLt).2 j) := by
  rw [outsAt0_C m c t (by omega) h]; frame_out; rw [hres]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr : t.val % 8 = 7 := (flush0_3 t).mp hf
  blk_simp
  rw [after0_3, out_last m c t hr, Pipeline.eq_sum_fin_of_reset_step_apply_of_flush (fun n h => (outsAt0 m c n h).2) 8 (fun _ => 0) _
    (fun t h j => acc_first m c t h j) (fun t h j => acc_next m c t h j) t hr _, zero_add, href]
  refine congrArg₂ (fun a b : EReal => a + b) ?_ ?_
  · blk_point [iblk, V, idx t]
  unfold part
  refine Fin.sum_mul_add_congr fun s k hl => ?_
  blk_point [iblk, V, idx t, idx ⟨_, Pipeline.run_point_lt_of_flush t hr s⟩]

end Cert.FfnDownIdeal.RefValue

namespace Cert.Proof

open Idealize.ShloMosaic Idealize.ShloMosaic.TcCoe Idealize.SL.Sem

/-- The kernel runs as printed and leaves its arguments alone. -/
theorem frame_FfnDown : quiescent_FfnDown := fun m ρ _ => Cert.FfnDown.Gen.frame m ρ

/-- So does its idealization. -/
theorem frame_FfnDownIdeal : quiescent_FfnDownIdeal := fun m ρ _ => Cert.FfnDownIdeal.Gen.frame m ρ

/-- The reference runs and leaves its arguments alone. -/
theorem frame_FfnDownRefIdeal : quiescent_FfnDownRefIdeal := by
  intro m ρ _
  refine θ_run_mono (Cert.FfnDownRefIdeal.Value.run m ρ) fun r h => ?_
  exact ⟨fun c => (h c).2, sem_eq_zero_of_no_sems (by decide) r.2⟩

/-- Kernel and reference end with equal results. -/
theorem equal_FfnDown : algebraic_FfnDownIdeal_FfnDownRefIdeal := by
  pair_intro
  · run_from Cert.FfnDownIdeal.Value.run_blocks m g
  · run_from Cert.FfnDownRefIdeal.Value.run m' g'
    exact (Cert.FfnDownIdeal.RefValue.final m c).symm

end Cert.Proof

end
-- ==== Proof.lean ====
/-
  The claims put together: every program's own module proves its runs and its equality.
-/
module

public import proofs.«01_k».proof.Defs
public import proofs.«01_k».proof.Proof.Gen.Pre_finite_gains
public import proofs.«01_k».proof.Proof.Gen.Pre_finite_lse
public import proofs.«01_k».proof.Proof.Band0
public import proofs.«01_k».proof.Proof.Band1
public import proofs.«01_k».proof.Proof.Band2
public import proofs.«01_k».proof.Proof.Combine
public import proofs.«01_k».proof.Proof.Norm
public import proofs.«01_k».proof.Proof.InProj
public import proofs.«01_k».proof.Proof.AttOut
public import proofs.«01_k».proof.Proof.Merge
public import proofs.«01_k».proof.Proof.Out
public import proofs.«01_k».proof.Proof.FfnUp
public import proofs.«01_k».proof.Proof.FfnDown

@[expose] public section

noncomputable section

namespace Cert.Proof

/-- Every claim of the certificate. -/
theorem claim : Cert.Claim := ⟨Cert.Band0.Gen.facts, Cert.Band0Ideal.Gen.facts, Cert.Band0RefIdeal.Gen.facts,
  Cert.Band1.Gen.facts, Cert.Band1Ideal.Gen.facts, Cert.Band1RefIdeal.Gen.facts,
  Cert.Band2.Gen.facts, Cert.Band2Ideal.Gen.facts, Cert.Band2RefIdeal.Gen.facts,
  Cert.Combine.Gen.facts, Cert.CombineIdeal.Gen.facts, Cert.CombineRefIdeal.Gen.facts,
  Cert.Norm.Gen.facts, Cert.NormIdeal.Gen.facts, Cert.NormRefIdeal.Gen.facts,
  Cert.InProj.Gen.facts, Cert.InProjIdeal.Gen.facts, Cert.InProjRefIdeal.Gen.facts,
  Cert.AttOut.Gen.facts, Cert.AttOutIdeal.Gen.facts, Cert.AttOutRefIdeal.Gen.facts,
  Cert.Merge.Gen.facts, Cert.MergeIdeal.Gen.facts, Cert.MergeRefIdeal.Gen.facts,
  Cert.Out.Gen.facts, Cert.OutIdeal.Gen.facts, Cert.OutRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.Pre_finite_gains.Gen.facts, Cert.Pre_finite_lse.Gen.facts,
  frame_Band0, frame_Band0Ideal, frame_Band0Ideal_real, frame_Band0RefIdeal, frame_Band0RefIdeal_real,
  frame_Band1, frame_Band1Ideal, frame_Band1Ideal_real, frame_Band1RefIdeal, frame_Band1RefIdeal_real,
  frame_Band2, frame_Band2Ideal, frame_Band2Ideal_real, frame_Band2RefIdeal, frame_Band2RefIdeal_real,
  frame_Combine, frame_CombineIdeal, frame_CombineIdeal_real, frame_CombineRefIdeal, frame_CombineRefIdeal_real,
  frame_Norm, frame_NormIdeal, frame_NormRefIdeal,
  frame_InProj, frame_InProjIdeal, frame_InProjRefIdeal,
  frame_AttOut, frame_AttOutIdeal, frame_AttOutRefIdeal,
  frame_Merge, frame_MergeIdeal, frame_MergeRefIdeal,
  frame_Out, frame_OutIdeal, frame_OutRefIdeal,
  frame_FfnUp, frame_FfnUpIdeal, frame_FfnUpRefIdeal,
  frame_FfnDown, frame_FfnDownIdeal, frame_FfnDownRefIdeal,
  mask_Band0, equal_Band0,
  mask_Band1, equal_Band1,
  mask_Band2, equal_Band2,
  trivial, equal_Combine,
  trivial, equal_Norm,
  trivial, equal_InProj,
  trivial, equal_AttOut,
  trivial, equal_Merge,
  trivial, equal_Out,
  trivial, equal_FfnUp,
  trivial, equal_FfnDown⟩

end Cert.Proof

end
